-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_packed [hPre_well_packed : Cert.Pre_well_packed.Facts] (m : (ℓ : Loc Cert.KernelIdeal.nD Cert.KernelIdeal.τ Cert.KernelIdeal.sig) → Buf (Elt Ideal) ℓ) : Prop :=
  ∀ c : Dev Cert.KernelIdeal.nD,
    (Cert.Pre_well_packed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_well_packed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_packed [hPre_well_packed : Cert.Pre_well_packed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_packed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_well_packed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_well_packed [hKernelIdeal : Cert.KernelIdeal.Facts] [hPre_well_packed : Cert.Pre_well_packed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_packed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_well_packed [hReferenceIdeal : Cert.ReferenceIdeal.Facts] [hPre_well_packed : Cert.Pre_well_packed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_packed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_well_packed [hKernelIdeal : Cert.KernelIdeal.Facts] [hReferenceIdeal : Cert.ReferenceIdeal.Facts] [hPre_well_packed : Cert.Pre_well_packed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_packed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_well_packed : Cert.Pre_well_packed.Facts),
    quiescent_Kernel (hKernel := hKernel)
    ∧ quiescent_KernelIdeal (hKernelIdeal := hKernelIdeal)
    ∧ quiescent_KernelIdeal_pre_well_packed (hKernelIdeal := hKernelIdeal) (hPre_well_packed := hPre_well_packed)
    ∧ quiescent_ReferenceIdeal (hReferenceIdeal := hReferenceIdeal)
    ∧ quiescent_ReferenceIdeal_pre_well_packed (hReferenceIdeal := hReferenceIdeal) (hPre_well_packed := hPre_well_packed)
    ∧ preserves_Kernel_KernelIdeal
    ∧ algebraic_KernelIdeal_ReferenceIdeal_pre_well_packed (hKernelIdeal := hKernelIdeal) (hReferenceIdeal := hReferenceIdeal) (hPre_well_packed := hPre_well_packed)
-- ==== Pre_well_packed.lean ====
abbrev S3x640x112 : Shape := ⟨3, ![3, 640, 112]⟩
abbrev S1720320 : Shape := ⟨1, ![1720320]⟩
abbrev S3x640 : Shape := ⟨2, ![3, 640]⟩
abbrev S3x640x18944 : Shape := ⟨3, ![3, 640, 18944]⟩
abbrev S3x640x112x1 : Shape := ⟨4, ![3, 640, 112, 1]⟩
abbrev S32 : Shape := ⟨1, ![32]⟩
abbrev S1x1x1x32 : Shape := ⟨4, ![1, 1, 1, 32]⟩
abbrev S3x640x112x32 : Shape := ⟨4, ![3, 640, 112, 32]⟩
abbrev S_ : Shape := ⟨0, ![]⟩
abbrev S3x640x3584 : Shape := ⟨3, ![3, 640, 3584]⟩
abbrev S3x640x1 : Shape := ⟨3, ![3, 640, 1]⟩

class Facts : Prop where
  bcast_S3x640x112_S3x640x112x1_0_1_2 : S3x640x112.BroadcastsInDim S3x640x112x1 (![0, 1, 2] : Fin 3 → Fin S3x640x112x1.rank)
  bcast_S32_S1x1x1x32_3 : S32.BroadcastsInDim S1x1x1x32 (![3] : Fin 1 → Fin S1x1x1x32.rank)
  bcast_S3x640x112x1_S3x640x112x32_0_1_2_3 : S3x640x112x1.BroadcastsInDim S3x640x112x32 (![0, 1, 2, 3] : Fin 4 → Fin S3x640x112x32.rank)
  bcast_S1x1x1x32_S3x640x112x32_0_1_2_3 : S1x1x1x32.BroadcastsInDim S3x640x112x32 (![0, 1, 2, 3] : Fin 4 → Fin S3x640x112x32.rank)
  bcast_S_S3x640x112x32 : S_.BroadcastsInDim S3x640x112x32 (![] : Fin 0 → Fin S3x640x112x32.rank)
  shapeCasts_S3x640x112x32_S3x640x3584 : S3x640x112x32.ShapeCasts S3x640x3584
  bcast_S_S_ : S_.BroadcastsInDim S_ (![] : Fin 0 → Fin S_.rank)
  reduceWindows_S3x640x3584_S3x640x3584_w1s1p0_0_w1s1p0_0_w3584s1p3583_0 : S3x640x3584.ReduceWindows (![1, 1, 3584] : Fin 3 → Nat) ![1, 1, 1] ![0, 0, 3583] ![0, 0, 0] S3x640x3584
  h_S_ : 0 < S_.numel
  bcast_S_S3x640x3584 : S_.BroadcastsInDim S3x640x3584 (![] : Fin 0 → Fin S3x640x3584.rank)
  bcast_S3x640_S3x640x1_0_1 : S3x640.BroadcastsInDim S3x640x1 (![0, 1] : Fin 2 → Fin S3x640x1.rank)
  bcast_S3x640x1_S3x640x3584_0_1_2 : S3x640x1.BroadcastsInDim S3x640x3584 (![0, 1, 2] : Fin 3 → Fin S3x640x3584.rank)
  bcast_S_S3x640 : S_.BroadcastsInDim S3x640 (![] : Fin 0 → Fin S3x640.rank)

variable [Facts]

def fn_cumsum_0 {F : FTy → Type} [FloatOps F] (arg0 : IVec S3x640x3584 32) : IVec S3x640x3584 32 :=
  let c : IVec S_ 32 := constantI S_ 32 0#32
  let v0 : IVec S_ 32 := broadcastInDim S_ ![] bcast_S_S_ c
  let v1 : IVec S3x640x3584 32 := (fun x v => Host.reduceWindow IntOp.addi ![1, 1, 3584] ![1, 1, 1] ![0, 0, 3583] ![0, 0, 0] x v reduceWindows_S3x640x3584_S3x640x3584_w1s1p0_0_w1s1p0_0_w3584s1p3583_0 h_S_) arg0 v0
  v1

def fn_cumsum {F : FTy → Type} [FloatOps F] (arg0 : IVec S3x640x3584 32) : IVec S3x640x3584 32 :=
  let v0 : IVec S3x640x3584 32 := fn_cumsum_0 (F := F) arg0
  v0

def fn_part1 {F : FTy → Type} [FloatOps F] (main_arg2 : IVec S3x640 32) (main_v17 : IVec S3x640x3584 1) (main_v19 : IVec S3x640 1) (main_c_2 : IVec S_ 32) : IVec S3x640x3584 1 × IVec S3x640 1 :=
  let main_v20 : IVec S3x640 32 := broadcastInDim S3x640 ![] bcast_S_S3x640 main_c_2
  let main_v21 : IVec S3x640 1 := cmpi .sle main_arg2 main_v20
  let main_v22 : IVec S3x640 1 := andi main_v19 main_v21
  (main_v17, main_v22)

def fn {F : FTy → Type} [FloatOps F] (main_arg0 : IVec S3x640x112 32) (main_arg1 : IVec S1720320 8) (main_arg2 : IVec S3x640 32) (main_arg3 : FVec F S3x640 .f32) (main_arg4 : FVec F S3x640x18944 .fp8e5m2) (main_arg5 : FVec F S3x640 .f32) : IVec S3x640x3584 1 × IVec S3x640 1 :=
  let main_v0 : IVec S3x640x112x1 32 := broadcastInDim S3x640x112x1 ![0, 1, 2] bcast_S3x640x112_S3x640x112x1_0_1_2 main_arg0
  let main_v1 : IVec S32 32 := iotaInDim S32 32 0
  let main_v2 : IVec S1x1x1x32 32 := broadcastInDim S1x1x1x32 ![3] bcast_S32_S1x1x1x32_3 main_v1
  let main_v3 : IVec S3x640x112x32 32 := broadcastInDim S3x640x112x32 ![0, 1, 2, 3] bcast_S3x640x112x1_S3x640x112x32_0_1_2_3 main_v0
  let main_v4 : IVec S3x640x112x32 32 := broadcastInDim S3x640x112x32 ![0, 1, 2, 3] bcast_S1x1x1x32_S3x640x112x32_0_1_2_3 main_v2
  let main_v5 : IVec S3x640x112x32 32 := Host.shrui main_v3 main_v4
  let main_c : IVec S_ 32 := constantI S_ 32 1#32
  let main_v6 : IVec S3x640x112x32 32 := broadcastInDim S3x640x112x32 ![] bcast_S_S3x640x112x32 main_c
  let main_v7 : IVec S3x640x112x32 32 := andi main_v5 main_v6
  let main_v8 : IVec S3x640x3584 32 := shapeCast S3x640x3584 main_v7 shapeCasts_S3x640x112x32_S3x640x3584
  let main_v9 : IVec S3x640x3584 32 := id main_v8
  let main_v10 : IVec S3x640x3584 32 := fn_cumsum (F := F) main_v9
  let main_v11 : IVec S3x640x3584 32 := subi main_v10 main_v9
  let main_c_0 : IVec S_ 32 := constantI S_ 32 0#32
  let main_v12 : IVec S3x640x3584 32 := broadcastInDim S3x640x3584 ![] bcast_S_S3x640x3584 main_c_0
  let main_v13 : IVec S3x640x3584 1 := cmpi .eq main_v9 main_v12
  let main_v14 : IVec S3x640x1 32 := broadcastInDim S3x640x1 ![0, 1] bcast_S3x640_S3x640x1_0_1 main_arg2
  let main_v15 : IVec S3x640x3584 32 := broadcastInDim S3x640x3584 ![0, 1, 2] bcast_S3x640x1_S3x640x3584_0_1_2 main_v14
  let main_v16 : IVec S3x640x3584 1 := cmpi .slt main_v11 main_v15
  let main_v17 : IVec S3x640x3584 1 := ori main_v13 main_v16
  let main_c_1 : IVec S_ 32 := constantI S_ 32 0#32
  let main_v18 : IVec S3x640 32 := broadcastInDim S3x640 ![] bcast_S_S3x640 main_c_1
  let main_v19 : IVec S3x640 1 := cmpi .sge main_arg2 main_v18
  let main_c_2 : IVec S_ 32 := constantI S_ 32 896#32
  fn_part1 (F := F) main_arg2 main_v17 main_v19 main_c_2
-- ==== Kernel.lean ====
abbrev S3x640x112 : Shape := ⟨3, ![3, 640, 112]⟩
abbrev S1720320 : Shape := ⟨1, ![1720320]⟩
abbrev S3x640 : Shape := ⟨2, ![3, 640]⟩
abbrev S3x640x18944 : Shape := ⟨3, ![3, 640, 18944]⟩
abbrev S1920x112 : Shape := ⟨2, ![1920, 112]⟩
abbrev S13440x128 : Shape := ⟨2, ![13440, 128]⟩
abbrev S1920x1 : Shape := ⟨2, ![1920, 1]⟩
abbrev S1920x128 : Shape := ⟨2, ![1920, 128]⟩
abbrev S1920x18944 : Shape := ⟨2, ![1920, 18944]⟩
abbrev S1920 : Shape := ⟨1, ![1920]⟩
abbrev S3584x18944 : Shape := ⟨2, ![3584, 18944]⟩
abbrev S1920x3584 : Shape := ⟨2, ![1920, 3584]⟩
abbrev S256x512 : Shape := ⟨2, ![256, 512]⟩
abbrev S1920x256 : Shape := ⟨2, ![1920, 256]⟩
abbrev S3360x128 : Shape := ⟨2, ![3360, 128]⟩
abbrev S3x1920x128 : Shape := ⟨3, ![3, 1920, 128]⟩
abbrev S37 : Shape := ⟨1, ![37]⟩
abbrev S1 : Shape := ⟨1, ![1]⟩
abbrev S_ : Shape := ⟨0, ![]⟩
abbrev S1920x512 : Shape := ⟨2, ![1920, 512]⟩
abbrev S1x128 : Shape := ⟨2, ![1, 128]⟩
abbrev S1x1x128 : Shape := ⟨3, ![1, 1, 128]⟩
abbrev S32x128 : Shape := ⟨2, ![32, 128]⟩
abbrev S32x128x1 : Shape := ⟨3, ![32, 128, 1]⟩
abbrev S1x32x128 : Shape := ⟨3, ![1, 32, 128]⟩

abbrev nBuf : Space → Nat
  | .hbm => 17
  | .vmem => 14
  | .smem => 1
  | _ => 0

abbrev bufTy : (tb : Table) → Fin (tcTables nBuf tb) → BufTy
  | .hbm, ⟨0, _⟩ => ⟨S3x640x112, .i32⟩
  | .hbm, ⟨1, _⟩ => ⟨S1720320, .i8⟩
  | .hbm, ⟨2, _⟩ => ⟨S3x640, .i32⟩
  | .hbm, ⟨3, _⟩ => ⟨S3x640, .f32⟩
  | .hbm, ⟨4, _⟩ => ⟨S3x640x18944, .fp8e5m2⟩
  | .hbm, ⟨5, _⟩ => ⟨S3x640, .f32⟩
  | .hbm, ⟨6, _⟩ => ⟨S3x640x112, .i32⟩
  | .hbm, ⟨7, _⟩ => ⟨S1920x112, .i32⟩
  | .hbm, ⟨8, _⟩ => ⟨S13440x128, .i8⟩
  | .hbm, ⟨9, _⟩ => ⟨S1920x1, .f32⟩
  | .hbm, ⟨10, _⟩ => ⟨S1920x128, .f32⟩
  | .hbm, ⟨11, _⟩ => ⟨S1920x1, .f32⟩
  | .hbm, ⟨12, _⟩ => ⟨S1920x128, .f32⟩
  | .hbm, ⟨13, _⟩ => ⟨S1920x18944, .fp8e5m2⟩
  | .hbm, ⟨14, _⟩ => ⟨S1920, .i32⟩
  | .hbm, ⟨15, _⟩ => ⟨S3584x18944, .f32⟩
  | .hbm, ⟨16, _⟩ => ⟨S1920x3584, .bf16⟩
  | .local _ .vmem, ⟨0, _⟩ => ⟨S1920x112, .i32⟩
  | .local _ .vmem, ⟨1, _⟩ => ⟨S13440x128, .i8⟩
  | .local _ .vmem, ⟨2, _⟩ => ⟨S1920x128, .f32⟩
  | .local _ .vmem, ⟨3, _⟩ => ⟨S1920x128, .f32⟩
  | .local _ .vmem, ⟨4, _⟩ => ⟨S256x512, .f32⟩
  | .local _ .vmem, ⟨5, _⟩ => ⟨S256x512, .f32⟩
  | .local _ .vmem, ⟨6, _⟩ => ⟨S1920x256, .bf16⟩
  | .local _ .vmem, ⟨7, _⟩ => ⟨S1920x256, .bf16⟩
  | .local _ .vmem, ⟨8, _⟩ => ⟨S1920x18944, .fp8e5m2⟩
  | .local _ .vmem, ⟨9, _⟩ => ⟨S3360x128, .i32⟩
  | .local _ .vmem, ⟨10, _⟩ => ⟨S3x1920x128, .i32⟩
  | .local _ .vmem, ⟨11, _⟩ => ⟨S1920x128, .i32⟩
  | .local _ .vmem, ⟨12, _⟩ => ⟨S1920x128, .i32⟩
  | .local _ .vmem, ⟨13, _⟩ => ⟨S1920x256, .bf16⟩
  | .local _ .smem, ⟨0, _⟩ => ⟨S1920, .i32⟩
  | _, _ => ⟨S3x640x112, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![14, 37], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_10 : BitVec 32 := 0#32
  let c37_i32 : BitVec 32 := 37#32
  let v18 : BitVec 32 := Scalar.addi c0_i32_10 c37_i32
  let c1_i32 : BitVec 32 := 1#32
  ⟨c0_i32_10, v18, c1_i32⟩
def k0_mult1 (k0_t1 : Fin k0_t1_loop.trips) : BitVec 32 :=
  let c0_i32_31 : BitVec 32 := 0#32
  let c0_i32_10 : BitVec 32 := 0#32
  let c1_i32 : BitVec 32 := 1#32
  let arg17 : BitVec 32 := Scf.iv c0_i32_10 c1_i32 k0_t1
  let c1_i32_30 : BitVec 32 := 1#32
  let v38 : BitVec 32 := Scalar.muli arg17 c1_i32_30
  let v39 : BitVec 32 := Scalar.addi c0_i32_31 v38
  let c512_i32_32 : BitVec 32 := 512#32
  let v40 : BitVec 32 := Scalar.muli v39 c512_i32_32
  v40
def k0_off1 (k0_t1 : Fin k0_t1_loop.trips) : Fin 1 → Nat :=
  let c0_i32_31 : BitVec 32 := 0#32
  let c0_i32_10 : BitVec 32 := 0#32
  let c1_i32 : BitVec 32 := 1#32
  let arg17 : BitVec 32 := Scf.iv c0_i32_10 c1_i32 k0_t1
  let c1_i32_30 : BitVec 32 := 1#32
  let v38 : BitVec 32 := Scalar.muli arg17 c1_i32_30
  let v39 : BitVec 32 := Scalar.addi c0_i32_31 v38
  ![v39.toNat]
def k0_off2 (k0_t1 : Fin k0_t1_loop.trips) : Fin 2 → Nat :=
  let c0_i32_33 : BitVec 32 := 0#32
  let c0_i32_31 : BitVec 32 := 0#32
  let c0_i32_10 : BitVec 32 := 0#32
  let c1_i32 : BitVec 32 := 1#32
  let arg17 : BitVec 32 := Scf.iv c0_i32_10 c1_i32 k0_t1
  let c1_i32_30 : BitVec 32 := 1#32
  let v38 : BitVec 32 := Scalar.muli arg17 c1_i32_30
  let v39 : BitVec 32 := Scalar.addi c0_i32_31 v38
  let c512_i32_32 : BitVec 32 := 512#32
  let v40 : BitVec 32 := Scalar.muli v39 c512_i32_32
  let v41 : BitVec 32 := v40
  ![0, v41.toNat]
@[reducible] def k0_t2_loop : Scf.Loop 32 :=
  let c0_i32_17 : BitVec 32 := 0#32
  let c1920_i32 : BitVec 32 := 1920#32
  let v25 : BitVec 32 := Scalar.addi c0_i32_17 c1920_i32
  let c1_i32_18 : BitVec 32 := 1#32
  ⟨c0_i32_17, v25, c1_i32_18⟩
def k0_off3 (arg18 : BitVec 32) (c0_i32_30 : BitVec 32) : Fin 2 → Nat :=
  let c9_i32 : BitVec 32 := 9#32
  let v38 : BitVec 32 := Scalar.shrui arg18 c9_i32
  let c3357_i32 : BitVec 32 := 3357#32
  let v39 : BitVec 32 := Scalar.minsi v38 c3357_i32
  let v40 : BitVec 32 := Scalar.addi v39 c0_i32_30
  let v41 : Index := Scalar.indexCast v40
  let c0_31 : Index := 0#32
  ![v41.toNat, 0]

def k0_chk1 (i : grid0.Coords) (arg18 : BitVec 32) : Prop :=
  (∀ (k0_h1 : k0_cond1 i = 1#1), ∀ (r : Fin 3), ∀ a, (k0_off3 arg18 (BitVec.ofNat 32 r.val)) a + S1x128.size a ≤ S3360x128.size a)
theorem k0_off3_inb : ∀ (i : grid0.Coords) (arg18 : BitVec 32) (k0_hw1 : k0_chk1 i arg18), ∀ (k0_h1 : k0_cond1 i = 1#1), ∀ (r : Fin 3), ∀ a, (k0_off3 arg18 (BitVec.ofNat 32 r.val)) a + S1x128.size a ≤ S3360x128.size a := fun i arg18 k0_hw1 k0_h1 r => k0_hw1 k0_h1 r

def k0_off4 (k0_t2 : Fin k0_t2_loop.trips) : Fin 3 → Nat :=
  let c0_32 : Index := 0#32
  let c0_i32_17 : BitVec 32 := 0#32
  let c1_i32_18 : BitVec 32 := 1#32
  let arg17 : BitVec 32 := Scf.iv c0_i32_17 c1_i32_18 k0_t2
  let v43 : Index := Scalar.indexCast arg17
  let c0_33 : Index := 0#32
  ![0, v43.toNat, 0]
def k0_off5 (k0_t2 : Fin k0_t2_loop.trips) : Fin 3 → Nat :=
  let c1 : Index := 1#32
  let c0_i32_17 : BitVec 32 := 0#32
  let c1_i32_18 : BitVec 32 := 1#32
  let arg17 : BitVec 32 := Scf.iv c0_i32_17 c1_i32_18 k0_t2
  let v50 : Index := Scalar.indexCast arg17
  let c0_36 : Index := 0#32
  ![1, v50.toNat, 0]
def k0_off6 (k0_t2 : Fin k0_t2_loop.trips) : Fin 3 → Nat :=
  let c2 : Index := 2#32
  let c0_i32_17 : BitVec 32 := 0#32
  let c1_i32_18 : BitVec 32 := 1#32
  let arg17 : BitVec 32 := Scf.iv c0_i32_17 c1_i32_18 k0_t2
  let v57 : Index := Scalar.indexCast arg17
  let c0_38 : Index := 0#32
  ![2, v57.toNat, 0]
def k0_off7 (k0_t2 : Fin k0_t2_loop.trips) : Fin 2 → Nat :=
  let c0_i32_17 : BitVec 32 := 0#32
  let c1_i32_18 : BitVec 32 := 1#32
  let arg17 : BitVec 32 := Scf.iv c0_i32_17 c1_i32_18 k0_t2
  let v64 : Index := Scalar.indexCast arg17
  let c0_40 : Index := 0#32
  ![v64.toNat, 0]
def k0_off8 (k0_t2 : Fin k0_t2_loop.trips) : Fin 1 → Nat :=
  let c0_i32_17 : BitVec 32 := 0#32
  let c1_i32_18 : BitVec 32 := 1#32
  let arg17 : BitVec 32 := Scf.iv c0_i32_17 c1_i32_18 k0_t2
  let v68 : Index := Scalar.indexCast arg17
  ![v68.toNat]
@[reducible] def k0_t3_loop : Scf.Loop 32 :=
  let c0_i32_27 : BitVec 32 := 0#32
  let c60_i32 : BitVec 32 := 60#32
  let v37 : BitVec 32 := Scalar.addi c0_i32_27 c60_i32
  let c1_i32_28 : BitVec 32 := 1#32
  ⟨c0_i32_27, v37, c1_i32_28⟩
def k0_mult2 (k0_t3 : Fin k0_t3_loop.trips) : BitVec 32 :=
  let c0_i32_27 : BitVec 32 := 0#32
  let c1_i32_28 : BitVec 32 := 1#32
  let arg17 : BitVec 32 := Scf.iv c0_i32_27 c1_i32_28 k0_t3
  let c32_i32 : BitVec 32 := 32#32
  let v38 : BitVec 32 := Scalar.muli arg17 c32_i32
  v38
def k0_off9 (k0_t3 : Fin k0_t3_loop.trips) : Fin 2 → Nat :=
  let c0_i32_27 : BitVec 32 := 0#32
  let c1_i32_28 : BitVec 32 := 1#32
  let arg17 : BitVec 32 := Scf.iv c0_i32_27 c1_i32_28 k0_t3
  let c32_i32 : BitVec 32 := 32#32
  let v38 : BitVec 32 := Scalar.muli arg17 c32_i32
  let v39 : BitVec 32 := v38
  let v40 : Index := Scalar.indexCast v39
  let c0_30 : Index := 0#32
  ![v40.toNat, 0]
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

@[reducible] def k0_t4_loop : Scf.Loop 32 :=
  let c0_i32_10 : BitVec 32 := 0#32
  let c60_i32 : BitVec 32 := 60#32
  let v18 : BitVec 32 := Scalar.addi c0_i32_10 c60_i32
  let c1_i32 : BitVec 32 := 1#32
  ⟨c0_i32_10, v18, c1_i32⟩
def k0_mult3 (k0_t4 : Fin k0_t4_loop.trips) : BitVec 32 :=
  let c0_i32_13 : BitVec 32 := 0#32
  let c0_i32_10 : BitVec 32 := 0#32
  let c1_i32 : BitVec 32 := 1#32
  let arg17 : BitVec 32 := Scf.iv c0_i32_10 c1_i32 k0_t4
  let c1_i32_12 : BitVec 32 := 1#32
  let v19 : BitVec 32 := Scalar.muli arg17 c1_i32_12
  let v20 : BitVec 32 := Scalar.addi c0_i32_13 v19
  let c32_i32 : BitVec 32 := 32#32
  let v21 : BitVec 32 := Scalar.muli v20 c32_i32
  v21
def k0_mult4 (k0_t4 : Fin k0_t4_loop.trips) : BitVec 32 :=
  let c0_i32_13 : BitVec 32 := 0#32
  let c0_i32_10 : BitVec 32 := 0#32
  let c1_i32 : BitVec 32 := 1#32
  let arg17 : BitVec 32 := Scf.iv c0_i32_10 c1_i32 k0_t4
  let c1_i32_12 : BitVec 32 := 1#32
  let v19 : BitVec 32 := Scalar.muli arg17 c1_i32_12
  let v20 : BitVec 32 := Scalar.addi c0_i32_13 v19
  let c32_i32_15 : BitVec 32 := 32#32
  let v25 : BitVec 32 := Scalar.muli v20 c32_i32_15
  v25
def k0_off10 (k0_t4 : Fin k0_t4_loop.trips) : Fin 2 → Nat :=
  let c0_i32_13 : BitVec 32 := 0#32
  let c0_i32_10 : BitVec 32 := 0#32
  let c1_i32 : BitVec 32 := 1#32
  let arg17 : BitVec 32 := Scf.iv c0_i32_10 c1_i32 k0_t4
  let c1_i32_12 : BitVec 32 := 1#32
  let v19 : BitVec 32 := Scalar.muli arg17 c1_i32_12
  let v20 : BitVec 32 := Scalar.addi c0_i32_13 v19
  let c32_i32_15 : BitVec 32 := 32#32
  let v25 : BitVec 32 := Scalar.muli v20 c32_i32_15
  let v26 : BitVec 32 := v25
  let v35 : Index := Scalar.indexCast v26
  let c0_16 : Index := 0#32
  ![v35.toNat, 0]
def k0_off11 (k0_t4 : Fin k0_t4_loop.trips) : Fin 3 → Nat :=
  let c0_22 : Index := 0#32
  let c0_i32_13 : BitVec 32 := 0#32
  let c0_i32_10 : BitVec 32 := 0#32
  let c1_i32 : BitVec 32 := 1#32
  let arg17 : BitVec 32 := Scf.iv c0_i32_10 c1_i32 k0_t4
  let c1_i32_12 : BitVec 32 := 1#32
  let v19 : BitVec 32 := Scalar.muli arg17 c1_i32_12
  let v20 : BitVec 32 := Scalar.addi c0_i32_13 v19
  let c32_i32_15 : BitVec 32 := 32#32
  let v25 : BitVec 32 := Scalar.muli v20 c32_i32_15
  let v26 : BitVec 32 := v25
  let v61 : Index := Scalar.indexCast v26
  let c0_23 : Index := 0#32
  ![0, v61.toNat, 0]
def k0_off12 (k0_t4 : Fin k0_t4_loop.trips) : Fin 3 → Nat :=
  let c1 : Index := 1#32
  let c0_i32_13 : BitVec 32 := 0#32
  let c0_i32_10 : BitVec 32 := 0#32
  let c1_i32 : BitVec 32 := 1#32
  let arg17 : BitVec 32 := Scf.iv c0_i32_10 c1_i32 k0_t4
  let c1_i32_12 : BitVec 32 := 1#32
  let v19 : BitVec 32 := Scalar.muli arg17 c1_i32_12
  let v20 : BitVec 32 := Scalar.addi c0_i32_13 v19
  let c32_i32_15 : BitVec 32 := 32#32
  let v25 : BitVec 32 := Scalar.muli v20 c32_i32_15
  let v26 : BitVec 32 := v25
  let v69 : Index := Scalar.indexCast v26
  let c0_25 : Index := 0#32
  ![1, v69.toNat, 0]
def k0_off13 (k0_t4 : Fin k0_t4_loop.trips) : Fin 3 → Nat :=
  let c2 : Index := 2#32
  let c0_i32_13 : BitVec 32 := 0#32
  let c0_i32_10 : BitVec 32 := 0#32
  let c1_i32 : BitVec 32 := 1#32
  let arg17 : BitVec 32 := Scf.iv c0_i32_10 c1_i32 k0_t4
  let c1_i32_12 : BitVec 32 := 1#32
  let v19 : BitVec 32 := Scalar.muli arg17 c1_i32_12
  let v20 : BitVec 32 := Scalar.addi c0_i32_13 v19
  let c32_i32_15 : BitVec 32 := 32#32
  let v25 : BitVec 32 := Scalar.muli v20 c32_i32_15
  let v26 : BitVec 32 := v25
  let v78 : Index := Scalar.indexCast v26
  let c0_27 : Index := 0#32
  ![2, v78.toNat, 0]
def k0_off14 (k0_t4 : Fin k0_t4_loop.trips) : Fin 2 → Nat :=
  let c0_i32_13 : BitVec 32 := 0#32
  let c0_i32_10 : BitVec 32 := 0#32
  let c1_i32 : BitVec 32 := 1#32
  let arg17 : BitVec 32 := Scf.iv c0_i32_10 c1_i32 k0_t4
  let c1_i32_12 : BitVec 32 := 1#32
  let v19 : BitVec 32 := Scalar.muli arg17 c1_i32_12
  let v20 : BitVec 32 := Scalar.addi c0_i32_13 v19
  let c32_i32 : BitVec 32 := 32#32
  let v21 : BitVec 32 := Scalar.muli v20 c32_i32
  let v22 : BitVec 32 := v21
  let v107 : Index := Scalar.indexCast v22
  let c0_32 : Index := 0#32
  ![v107.toNat, 0]
def k0_mult5 (k0_t4 : Fin k0_t4_loop.trips) : BitVec 32 :=
  let c0_i32_13 : BitVec 32 := 0#32
  let c0_i32_10 : BitVec 32 := 0#32
  let c1_i32 : BitVec 32 := 1#32
  let arg17 : BitVec 32 := Scf.iv c0_i32_10 c1_i32 k0_t4
  let c1_i32_12 : BitVec 32 := 1#32
  let v19 : BitVec 32 := Scalar.muli arg17 c1_i32_12
  let v20 : BitVec 32 := Scalar.addi c0_i32_13 v19
  let c32_i32_36 : BitVec 32 := 32#32
  let v115 : BitVec 32 := Scalar.muli v20 c32_i32_36
  v115
def k0_off15 (k0_t4 : Fin k0_t4_loop.trips) : Fin 2 → Nat :=
  let c0_i32_13 : BitVec 32 := 0#32
  let c0_i32_10 : BitVec 32 := 0#32
  let c1_i32 : BitVec 32 := 1#32
  let arg17 : BitVec 32 := Scf.iv c0_i32_10 c1_i32 k0_t4
  let c1_i32_12 : BitVec 32 := 1#32
  let v19 : BitVec 32 := Scalar.muli arg17 c1_i32_12
  let v20 : BitVec 32 := Scalar.addi c0_i32_13 v19
  let c32_i32 : BitVec 32 := 32#32
  let v21 : BitVec 32 := Scalar.muli v20 c32_i32
  let v22 : BitVec 32 := v21
  let v197 : Index := Scalar.indexCast v22
  let c128 : Index := 128#32
  ![v197.toNat, 128]
def k0_cond3 (i : grid0.Coords) : BitVec 1 :=
  let arg0 : BitVec 32 := BitVec.ofNat 32 (i 0).val
  let c0_i32_4 : BitVec 32 := 0#32
  let v8 : BitVec 1 := Scalar.cmpi .eq arg0 c0_i32_4
  let v9 : BitVec 32 := Scalar.extui v8
  let c0_i32_5 : BitVec 32 := 0#32
  let v10 : BitVec 1 := Scalar.cmpi .ne v9 c0_i32_5
  v10

def k0_mult6 (i : grid0.Coords) : BitVec 32 :=
  let arg1 : BitVec 32 := BitVec.ofNat 32 (i 1).val
  let c512_i32_10 : BitVec 32 := 512#32
  let v18 : BitVec 32 := Scalar.muli arg1 c512_i32_10
  v18
def k0_off16 (i : grid0.Coords) : Fin 1 → Nat :=
  let arg1 : BitVec 32 := BitVec.ofNat 32 (i 1).val
  ![arg1.toNat]
def k0_off17 (i : grid0.Coords) : Fin 2 → Nat :=
  let c0_i32_11 : BitVec 32 := 0#32
  let arg1 : BitVec 32 := BitVec.ofNat 32 (i 1).val
  let c512_i32_10 : BitVec 32 := 512#32
  let v18 : BitVec 32 := Scalar.muli arg1 c512_i32_10
  let v19 : BitVec 32 := v18
  ![0, v19.toNat]
def k0_mult7 (i : grid0.Coords) : BitVec 32 :=
  let arg1 : BitVec 32 := BitVec.ofNat 32 (i 1).val
  let c512_i32 : BitVec 32 := 512#32
  let v11 : BitVec 32 := Scalar.muli arg1 c512_i32
  v11
def k0_off18 (i : grid0.Coords) : Fin 2 → Nat :=
  let c0_7 : Index := 0#32
  let arg1 : BitVec 32 := BitVec.ofNat 32 (i 1).val
  let c512_i32 : BitVec 32 := 512#32
  let v11 : BitVec 32 := Scalar.muli arg1 c512_i32
  let v12 : BitVec 32 := v11
  let v14 : Index := Scalar.indexCast v12
  ![0, v14.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .smem S1920 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1920x112 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S13440x128 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1920x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1920x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1920x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S3x640x112 : Shape := ⟨3, ![3, 640, 112]⟩
abbrev S1720320 : Shape := ⟨1, ![1720320]⟩
abbrev S3x640 : Shape := ⟨2, ![3, 640]⟩
abbrev S3x640x18944 : Shape := ⟨3, ![3, 640, 18944]⟩
abbrev S3x640x112x1 : Shape := ⟨4, ![3, 640, 112, 1]⟩
abbrev S32 : Shape := ⟨1, ![32]⟩
abbrev S1x1x1x32 : Shape := ⟨4, ![1, 1, 1, 32]⟩
abbrev S3x640x112x32 : Shape := ⟨4, ![3, 640, 112, 32]⟩
abbrev S_ : Shape := ⟨0, ![]⟩
abbrev S3x640x3584 : Shape := ⟨3, ![3, 640, 3584]⟩
abbrev S1920 : Shape := ⟨1, ![1920]⟩
abbrev S3x640x1 : Shape := ⟨3, ![3, 640, 1]⟩
abbrev S3x640x3584x1 : Shape := ⟨4, ![3, 640, 3584, 1]⟩
abbrev S3584x18944 : Shape := ⟨2, ![3584, 18944]⟩
abbrev S1920x3584 : Shape := ⟨2, ![1920, 3584]⟩

abbrev nBuf : Space → Nat
  | .hbm => 60
  | .vmem => 4
  | .smem => 0
  | _ => 0

abbrev bufTy : (tb : Table) → Fin (tcTables nBuf tb) → BufTy
  | .hbm, ⟨0, _⟩ => ⟨S3x640x112, .i32⟩
  | .hbm, ⟨1, _⟩ => ⟨S1720320, .i8⟩
  | .hbm, ⟨2, _⟩ => ⟨S3x640, .i32⟩
  | .hbm, ⟨3, _⟩ => ⟨S3x640, .f32⟩
  | .hbm, ⟨4, _⟩ => ⟨S3x640x18944, .fp8e5m2⟩
  | .hbm, ⟨5, _⟩ => ⟨S3x640, .f32⟩
  | .hbm, ⟨6, _⟩ => ⟨S3x640x112x1, .i32⟩
  | .hbm, ⟨7, _⟩ => ⟨S32, .i32⟩
  | .hbm, ⟨8, _⟩ => ⟨S1x1x1x32, .i32⟩
  | .hbm, ⟨9, _⟩ => ⟨S3x640x112x32, .i32⟩
  | .hbm, ⟨10, _⟩ => ⟨S3x640x112x32, .i32⟩
  | .hbm, ⟨11, _⟩ => ⟨S3x640x112x32, .i32⟩
  | .hbm, ⟨12, _⟩ => ⟨S_, .i32⟩
  | .hbm, ⟨13, _⟩ => ⟨S3x640x112x32, .i32⟩
  | .hbm, ⟨14, _⟩ => ⟨S3x640x112x32, .i32⟩
  | .hbm, ⟨15, _⟩ => ⟨S3x640x3584, .i32⟩
  | .hbm, ⟨16, _⟩ => ⟨S3x640x3584, .i32⟩
  | .hbm, ⟨17, _⟩ => ⟨S_, .i32⟩
  | .hbm, ⟨18, _⟩ => ⟨S_, .i32⟩
  | .hbm, ⟨19, _⟩ => ⟨S3x640x3584, .i32⟩
  | .hbm, ⟨20, _⟩ => ⟨S3x640x3584, .i32⟩
  | .hbm, ⟨21, _⟩ => ⟨S1920, .i32⟩
  | .hbm, ⟨22, _⟩ => ⟨S_, .i32⟩
  | .hbm, ⟨23, _⟩ => ⟨S_, .i32⟩
  | .hbm, ⟨24, _⟩ => ⟨S1920, .i32⟩
  | .hbm, ⟨25, _⟩ => ⟨S1920, .i32⟩
  | .hbm, ⟨26, _⟩ => ⟨S3x640, .i32⟩
  | .hbm, ⟨27, _⟩ => ⟨S3x640x1, .i32⟩
  | .hbm, ⟨28, _⟩ => ⟨S3x640x3584, .i32⟩
  | .hbm, ⟨29, _⟩ => ⟨S3x640x3584, .i32⟩
  | .hbm, ⟨30, _⟩ => ⟨S_, .i32⟩
  | .hbm, ⟨31, _⟩ => ⟨S3x640x3584, .i32⟩
  | .hbm, ⟨32, _⟩ => ⟨S3x640x3584, .i32⟩
  | .hbm, ⟨33, _⟩ => ⟨S_, .i32⟩
  | .hbm, ⟨34, _⟩ => ⟨S3x640x3584, .i32⟩
  | .hbm, ⟨35, _⟩ => ⟨S3x640x3584, .i1⟩
  | .hbm, ⟨36, _⟩ => ⟨S_, .i32⟩
  | .hbm, ⟨37, _⟩ => ⟨S3x640x3584, .i32⟩
  | .hbm, ⟨38, _⟩ => ⟨S3x640x3584, .i32⟩
  | .hbm, ⟨39, _⟩ => ⟨S3x640x3584, .i32⟩
  | .hbm, ⟨40, _⟩ => ⟨S3x640x3584x1, .i32⟩
  | .hbm, ⟨41, _⟩ => ⟨S3x640x3584, .i8⟩
  | .hbm, ⟨42, _⟩ => ⟨S3x640x3584, .bf16⟩
  | .hbm, ⟨43, _⟩ => ⟨S3x640x18944, .bf16⟩
  | .hbm, ⟨44, _⟩ => ⟨S_, .i32⟩
  | .hbm, ⟨45, _⟩ => ⟨S3x640x3584, .i32⟩
  | .hbm, ⟨46, _⟩ => ⟨S3x640x3584, .i1⟩
  | .hbm, ⟨47, _⟩ => ⟨S_, .bf16⟩
  | .hbm, ⟨48, _⟩ => ⟨S3x640x3584, .bf16⟩
  | .hbm, ⟨49, _⟩ => ⟨S3x640x3584, .bf16⟩
  | .hbm, ⟨50, _⟩ => ⟨S3x640x1, .f32⟩
  | .hbm, ⟨51, _⟩ => ⟨S3x640x1, .bf16⟩
  | .hbm, ⟨52, _⟩ => ⟨S3x640x3584, .bf16⟩
  | .hbm, ⟨53, _⟩ => ⟨S3x640x3584, .bf16⟩
  | .hbm, ⟨54, _⟩ => ⟨S3x640x1, .f32⟩
  | .hbm, ⟨55, _⟩ => ⟨S3x640x1, .bf16⟩
  | .hbm, ⟨56, _⟩ => ⟨S3x640x18944, .bf16⟩
  | .hbm, ⟨57, _⟩ => ⟨S3x640x18944, .bf16⟩
  | .hbm, ⟨58, _⟩ => ⟨S3584x18944, .f32⟩
  | .hbm, ⟨59, _⟩ => ⟨S1920x3584, .bf16⟩
  | .local _ .vmem, ⟨0, _⟩ => ⟨S3x640x3584, .i8⟩
  | .local _ .vmem, ⟨1, _⟩ => ⟨S3x640x18944, .fp8e5m2⟩
  | .local _ .vmem, ⟨2, _⟩ => ⟨S3x640x3584, .bf16⟩
  | .local _ .vmem, ⟨3, _⟩ => ⟨S3x640x18944, .bf16⟩
  | _, _ => ⟨S3x640x112, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_call0_c : Ref sig .tc := ⟨.hbm, 17, rfl⟩
abbrev main_call0_call0_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call1_c : Ref sig .tc := ⟨.hbm, 22, rfl⟩
abbrev main_call1_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_0 : Ref sig .tc := ⟨.hbm, 30, rfl⟩
abbrev main_v19 : Ref sig .tc := ⟨.hbm, 31, rfl⟩
abbrev main_v20 : Ref sig .tc := ⟨.hbm, 32, rfl⟩
abbrev main_c_1 : Ref sig .tc := ⟨.hbm, 33, rfl⟩
abbrev main_v21 : Ref sig .tc := ⟨.hbm, 34, rfl⟩
abbrev main_v22 : Ref sig .tc := ⟨.hbm, 35, rfl⟩
abbrev main_c_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28_0 : Ref sig .tc := ⟨.hbm, 42, rfl⟩
abbrev main_v28_1 : Ref sig .tc := ⟨.hbm, 43, rfl⟩
abbrev main_c_3 : Ref sig .tc := ⟨.hbm, 44, rfl⟩
abbrev main_v29 : Ref sig .tc := ⟨.hbm, 45, rfl⟩
abbrev main_v30 : Ref sig .tc := ⟨.hbm, 46, rfl⟩
abbrev main_cst : Ref sig .tc := ⟨.hbm, 47, rfl⟩
abbrev main_call2_v0 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S3x640x3584 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x640x18944 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x640x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x640x18944 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Contents.lean ====
/-
  What the kernel's scratch and output buffers hold, as functions of what its operands hold.

  CNT, MASK, VAL, SX, SR, DY: the counts, the mask words, the packed code bytes, the two scale columns (each spread over
  128 lanes) and the quantised gradient, as the kernel's body sees them.
-/
module

public import proofs.«01_k».proof.Proof.Gen.Kernel.Skeleton
public import Idealize.ShloMosaic.Lib.Pointwise.Index

@[expose] public section

set_option maxRecDepth 16384

noncomputable section

namespace Cert.Kernel.Hand

open Cert.Kernel Cert.Kernel.Gen
open Idealize.ShloMosaic Idealize.ShloMosaic.TcCoe

variable {F : FTy → Type} [FloatOps F]

/-- Where token `t`'s codes begin, as the 32-bit running sum of the counts before it. -/
def startAt (CNT : Vec F S1920 .i32) : ℕ → BitVec 32
  | 0 => 0#32
  | k + 1 => Scalar.addi (startAt CNT k) (if h : k < 1920 then (CNT (ix1 (⟨k, h⟩ : Fin 1920)) : BitVec 32) else 0#32)

/-- The code words: four code rows to one 32-bit row. -/
abbrev words (VAL : Vec F S13440x128 .i8) : Vec F S3360x128 .i32 := k0_pay1 VAL

/-- The row index of a start `s`: the number of whole 512-code rows before it, at most 3357. -/
theorem rowOf_toNat (s : BitVec 32) : (Scalar.minsi (Scalar.shrui s 9#32) 3357#32).toNat = min (s.toNat / 512) 3357 := by
  have h1 : Scalar.shrui s 9#32 = s >>> 9 := rfl
  have h2 : (s >>> 9).toNat = s.toNat / 512 := by rw [BitVec.toNat_ushiftRight, Nat.shiftRight_eq_div_pow]
  have h3 := s.isLt
  have h4 : (s >>> 9).toInt = ((s.toNat / 512 : ℕ) : ℤ) := by
    rw [BitVec.toInt_eq_toNat_of_lt (by omega), h2]
  rw [h1]
  show (if (s >>> 9).slt 3357#32 then s >>> 9 else 3357#32).toNat = _
  have h5 : (3357#32 : BitVec 32).toInt = 3357 := by decide
  rw [BitVec.slt, h4, h5]
  by_cases h : s.toNat / 512 < 3357
  · rw [if_pos (by simpa using (by omega : ((s.toNat / 512 : ℕ) : ℤ) < 3357)), h2]; omega
  · rw [if_neg (by simpa using (by omega : ¬ ((s.toNat / 512 : ℕ) : ℤ) < 3357))]
    show 3357 = _; omega

/-- The word row read for window row `r` at start `s`. -/
theorem off3_eq (s : BitVec 32) (r : Fin 3) : k0_off3 s (BitVec.ofNat 32 r.val) = ![min (s.toNat / 512) 3357 + r.val, 0] := by
  show ![(Scalar.minsi (Scalar.shrui s 9#32) 3357#32 + BitVec.ofNat 32 r.val).toNat, 0] = _
  have := r.isLt
  rw [BitVec.toNat_add, rowOf_toNat, BitVec.toNat_ofNat, Nat.mod_eq_of_lt (a := r.val) (by omega), Nat.mod_eq_of_lt (by omega)]

/-- The word row read for window row `r` at start `s`, as an index of the word array. -/
def wrow (s : BitVec 32) (r : Fin 3) : Fin 3360 := ⟨min (s.toNat / 512) 3357 + r.val, by omega⟩

/-- Every start passes the check made before a token's rows are read. -/
theorem chk1 (i : grid0.Coords) (s : BitVec 32) : k0_chk1 i s := by
  intro _ r a
  rw [off3_eq]
  fin_cases a
  · show min (s.toNat / 512) 3357 + r.val + 1 ≤ 3360; omega
  · show 0 + 128 ≤ 128; omega

/-- Token windows: three word rows per token, from the row its codes begin in. -/
def win (CNT : Vec F S1920 .i32) (VAL : Vec F S13440x128 .i8) : Vec F S3x1920x128 .i32 := fun y =>
  words VAL (ix2 (wrow (startAt CNT (y 1).val) (y 0)) (y 2))

/-- Token offsets before the prefix sums: where in its window a token's codes begin. -/
def off0 (CNT : Vec F S1920 .i32) : Vec F S1920x128 .i32 := fun y =>
  k0_pay5 (startAt CNT (y 0).val) (ix2 (0 : Fin 1) (y 1))

/-- The mask words, 112 lanes of the operand's and zeros after them. -/
def word (MASK : Vec F S1920x112 .i32) : Vec F S1920x128 .i32 := fun y =>
  if h : (y 1).val < 112 then k0_pay7 MASK (ix2 (y 0) (⟨(y 1).val, h⟩ : Fin 112)) else k0_pay6 y

section Blocks

variable {e : EltTy}

/-- The row of block `k`'s row `q`, 32 rows to a block. -/
def brow (k : ℕ) (hk : k < 60) (q : Fin 32) : Fin 1920 := ⟨32 * k + q.val, by omega⟩

/-- Rows 32k … 32k + 31 of a 1920-row array. -/
def blk (X : Vec F S1920x128 e) (k : ℕ) (hk : k < 60) : Vec F S32x128 e := fun j => X (ix2 (brow k hk (j 0)) (j 1))

/-- Rows 32k … 32k + 31 of plane `r` of the windows. -/
def wblk (X : Vec F S3x1920x128 e) (r : Fin 3) (k : ℕ) (hk : k < 60) : Vec F S1x32x128 e := fun j =>
  X (ix3 r (brow k hk (j 1)) (j 2))

end Blocks

theorem blk_lt (t : Fin 1920) : t.val / 32 < 60 := by omega
/-- The row a token has in its block. -/
def inBlk (t : Fin 1920) : Fin 32 := ⟨t.val % 32, Nat.mod_lt _ (by decide)⟩

/-- The lane numbers. -/
abbrev lanes : IVec S32x128 32 := iota .tc S32x128 32 [1] iota_S32x128_d1_w32

/-- The offsets of one block after the prefix sums, of its mask words `w` and its offsets `o` before them. -/
def off1Blk (w o : Vec F S32x128 .i32) : IVec S32x128 32 :=
  k0_pay8 (F := F) (k0_pay11 (F := F) w) (k0_pay12 (F := F) lanes w) (k0_pay13 lanes) (k0_pay14 (F := F) lanes w) k0_pay15 o

/-- Token offsets after the prefix sums, of the mask words and the offsets before them. -/
def off1Of (WORD OFF : Vec F S1920x128 .i32) : Vec F S1920x128 .i32 := fun y =>
  off1Blk (F := F) (blk WORD ((y 0).val / 32) (blk_lt (y 0))) (blk OFF ((y 0).val / 32) (blk_lt (y 0))) (ix2 (inBlk (y 0)) (y 1))

/-- Token offsets: per mask word, where in its token's window the word's first code is. -/
abbrev off1 (CNT : Vec F S1920 .i32) (MASK : Vec F S1920x112 .i32) : Vec F S1920x128 .i32 :=
  off1Of (F := F) (word (F := F) MASK) (off0 (F := F) CNT)

section Decode

/-- The first 128 decoded columns of a block in column group `c`, of its mask words `w`, offsets `o`, windows and scales. -/
def decLo (c : BitVec 32) (w o : Vec F S32x128 .i32) (w0 w1 w2 : Vec F S1x32x128 .i32) (sx : Vec F S32x128 .f32) : FVec F S32x128 .bf16 :=
  k0_pay23 (k0_pay19 (F := F) c w) (k0_pay20 (F := F) c w o) (k0_pay21 (F := F) c w o) (k0_pay22 (F := F) c w o) w0 w1 w2 sx
/-- The last 128 decoded columns of the block. -/
def decHi (c : BitVec 32) (w o : Vec F S32x128 .i32) (w0 w1 w2 : Vec F S1x32x128 .i32) (sx : Vec F S32x128 .f32) : FVec F S32x128 .bf16 :=
  k0_pay32 (k0_pay29 (F := F) c w) (k0_pay30 (F := F) c w o) (k0_pay31 (F := F) c w o) 9#32 w0 w1 w2 sx
/-- The first 128 columns of the operand of the product, scaled once more. -/
def mulLo (c : BitVec 32) (w o : Vec F S32x128 .i32) (w0 w1 w2 : Vec F S1x32x128 .i32) (sx sr : Vec F S32x128 .f32) : FVec F S32x128 .bf16 :=
  k0_pay25 (k0_pay24 (k0_pay19 (F := F) c w) (k0_pay20 (F := F) c w o) (k0_pay21 (F := F) c w o) (k0_pay22 (F := F) c w o) w0 w1 w2 sx sr)
/-- The last 128 columns of the operand of the product, scaled once more. -/
def mulHi (c : BitVec 32) (w o : Vec F S32x128 .i32) (w0 w1 w2 : Vec F S1x32x128 .i32) (sx sr : Vec F S32x128 .f32) : FVec F S32x128 .bf16 :=
  k0_pay9 (decHi c w o w0 w1 w2 sx) (k0_pay33 sr)

variable (CNT : Vec F S1920 .i32) (MASK : Vec F S1920x112 .i32) (VAL : Vec F S13440x128 .i8) (SX SR : Vec F S1920x128 .f32)
variable (WORD OFF : Vec F S1920x128 .i32) (WIN : Vec F S3x1920x128 .i32)

/-- Column group `c` of the decoded tokens, of the mask words, offsets and windows held in scratch. -/
def xrecOf (c : BitVec 32) : Vec F S1920x256 .bf16 := fun y =>
  if h : (y 1).val < 128 then
    decLo c (blk WORD _ (blk_lt (y 0))) (blk OFF _ (blk_lt (y 0))) (wblk WIN 0 _ (blk_lt (y 0))) (wblk WIN 1 _ (blk_lt (y 0)))
      (wblk WIN 2 _ (blk_lt (y 0))) (blk SX _ (blk_lt (y 0))) (ix2 (inBlk (y 0)) (⟨(y 1).val, h⟩ : Fin 128))
  else
    decHi c (blk WORD _ (blk_lt (y 0))) (blk OFF _ (blk_lt (y 0))) (wblk WIN 0 _ (blk_lt (y 0))) (wblk WIN 1 _ (blk_lt (y 0)))
      (wblk WIN 2 _ (blk_lt (y 0))) (blk SX _ (blk_lt (y 0))) (ix2 (inBlk (y 0)) (⟨(y 1).val - 128, by have := (y 1).isLt; show _ < 128; change (y 1).val < 256 at this; omega⟩ : Fin 128))

/-- Column group `c` of the product's first operand. -/
def xtOf (c : BitVec 32) : Vec F S1920x256 .bf16 := fun y =>
  if h : (y 1).val < 128 then
    mulLo c (blk WORD _ (blk_lt (y 0))) (blk OFF _ (blk_lt (y 0))) (wblk WIN 0 _ (blk_lt (y 0))) (wblk WIN 1 _ (blk_lt (y 0)))
      (wblk WIN 2 _ (blk_lt (y 0))) (blk SX _ (blk_lt (y 0))) (blk SR _ (blk_lt (y 0))) (ix2 (inBlk (y 0)) (⟨(y 1).val, h⟩ : Fin 128))
  else
    mulHi c (blk WORD _ (blk_lt (y 0))) (blk OFF _ (blk_lt (y 0))) (wblk WIN 0 _ (blk_lt (y 0))) (wblk WIN 1 _ (blk_lt (y 0)))
      (wblk WIN 2 _ (blk_lt (y 0))) (blk SX _ (blk_lt (y 0))) (blk SR _ (blk_lt (y 0))) (ix2 (inBlk (y 0)) (⟨(y 1).val - 128, by have := (y 1).isLt; show _ < 128; change (y 1).val < 256 at this; omega⟩ : Fin 128))

/-- Column group `c` of the decoded tokens, of the operands. -/
abbrev xrec (c : BitVec 32) : Vec F S1920x256 .bf16 :=
  xrecOf SX (word (F := F) MASK) (off1 (F := F) CNT MASK) (win (F := F) CNT VAL) c

/-- Column group `c` of the product's first operand, of the operands. -/
abbrev xt (c : BitVec 32) : Vec F S1920x256 .bf16 :=
  xtOf SX SR (word (F := F) MASK) (off1 (F := F) CNT MASK) (win (F := F) CNT VAL) c

end Decode

/-- Columns 512n … 512n + 511 of the gradient. -/
def dyChunk (DY : Vec F S1920x18944 .fp8e5m2) (n : ℕ) (hn : n < 37) : Vec F S1920x512 .fp8e5m2 := fun j =>
  DY (ix2 (j 0) (⟨512 * n + (j 1).val, by have := (j 1).isLt; change (j 1).val < 512 at this; omega⟩ : Fin 18944))

end Cert.Kernel.Hand

end
-- ==== Proof.Rules.lean ====
/-
  Memory steps on an owned memref, stated by its CONTENTS as a function of its index: a load returns the contents read
  at the loaded rectangle, a store overlays its payload on them.
-/
module

public import Idealize.ShloMosaic.Lib.Pipeline.FrameBody
public import Idealize.ShloMosaic.Lib.Tactic

@[expose] public section

noncomputable section

namespace Cert.ByContents

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- `X` with its values on the rectangle `r` replaced by `w`'s, at the extents of `r`. -/
def put {s : Shape} {α : Type} (r : Rect s) (X : s.Idx → α) (w : r.shape.Idx → α) : s.Idx → α := r.overlay X w

section Unit

variable {s : Shape} {α : Type} (off size : Fin s.rank → ℕ) (inb : ∀ a, off a + size a ≤ s.size a)

/-- Where a unit-stride rectangle places its index `j`: at `off + j`. -/
theorem unit_emb_val {o : Fin s.rank → ℕ} (ho : off = o) (j : (Rect.unit (s := s) off size inb).shape.Idx) (a : Fin s.rank) :
    ((Rect.unit (s := s) off size inb).emb j a : ℕ) = o a + (j a).val := by
  subst ho; rw [Rect.emb_apply]; show off a + 1 * _ = _; rw [Nat.one_mul]

/-- An index inside the rectangle reads the payload at its distance from the rectangle's corner. -/
theorem put_unit_in {o : Fin s.rank → ℕ} (ho : off = o) (X : s.Idx → α) (w : (Rect.unit (s := s) off size inb).shape.Idx → α) (y : s.Idx)
    (j : (Rect.unit (s := s) off size inb).shape.Idx) (h : ∀ a, (y a).val = o a + (j a).val) :
    put (Rect.unit (s := s) off size inb) X w y = w j := by
  have : (Rect.unit (s := s) off size inb).emb j = y := funext fun a => Fin.ext ((unit_emb_val off size inb ho j a).trans (h a).symm)
  subst this; exact Rect.overlay_emb _ _ _ _

/-- An index that one axis places outside the rectangle reads what was there. -/
theorem put_unit_out {o : Fin s.rank → ℕ} (ho : off = o) (X : s.Idx → α) (w : (Rect.unit (s := s) off size inb).shape.Idx → α) (y : s.Idx)
    (a : Fin s.rank) (h : (y a).val < o a ∨ o a + size a ≤ (y a).val) :
    put (Rect.unit (s := s) off size inb) X w y = X y := by
  subst ho
  exact Rect.overlay_of_not_mem _ _ _ (Rect.not_mem_set_of_axis _ y a (off a) (size a) rfl rfl rfl h)

end Unit

variable {nD : Nat} {τ : Topo} {sig : RefSig} {Val : EltTy → Type} {Ix Name U Lvl : Type} [DecidableEq Ix] [DecidableEq Name] [URA U] [Preorder Lvl]

local notation "𝕄" => MT nD τ sig Ix Val Name U Lvl

variable {Λ : Labels} {defs : Defs nD τ sig Val Λ} (𝒱 : Variants) (c : Thread nD τ) (bd : Option 𝒱.V) (E : Set Name)
variable {s : Shape} {e : EltTy} {α : Type}
variable {Q : α → sProp (MT nD τ sig Ix Val Name U Lvl)}

/-- A load from a memref owned at `X` returns `X` at the rectangle's places. -/
theorem load {cs : CoreSpace} {m : Memref sig c.2.kind cs s e} {r : Rect s} {hl : m.view.LoadsAt r.toLoadRect}
    {k : (r.shape.Idx → Val e) → Prog (TpuEff nD τ sig Val Λ c.2) α} {X : s.Idx → Val e} :
    (owns c m fullShare X : sProp 𝕄)
      ⊢ iprop((owns c m fullShare X -∗ wp frame (wpE defs 𝒱 c bd) E (k fun j => X (r.emb j)) Q)
        -∗ wp frame (wpE defs 𝒱 c bd) E (.op (.load m r.toLoadRect hl) k) Q) := by
  unfold owns
  iintro ⟨%f, %hf, H⟩ Hk
  iapply (wp_load 𝒱 c bd E (m := m) (r := r.toLoadRect) (hl := hl) (k := k) (f := f) (S := m.view.set) (View.setOn_subset_set _ _)) $$ H
  iintro H
  have : (m.view.readAt Val r.toLoadRect f) = fun j => X (r.emb j) := by rw [← hf]; rfl
  rw [this]
  iapply Hk
  iexists f; isplitr
  · ipureintro; exact hf
  iexact H

/-- The same load, its result under another name. -/
theorem loadAs {cs : CoreSpace} {m : Memref sig c.2.kind cs s e} {r : Rect s} {hl : m.view.LoadsAt r.toLoadRect}
    {k : (r.shape.Idx → Val e) → Prog (TpuEff nD τ sig Val Λ c.2) α} {X : s.Idx → Val e} (w : r.shape.Idx → Val e)
    (hw : ∀ j, X (r.emb j) = w j) :
    (owns c m fullShare X : sProp (MT nD τ sig Ix Val Name U Lvl))
      ⊢ iprop((owns c m fullShare X -∗ wp frame (wpE defs 𝒱 c bd) E (k w) Q)
        -∗ wp frame (wpE defs 𝒱 c bd) E (.op (.load m r.toLoadRect hl) k) Q) := by
  obtain rfl : (fun j => X (r.emb j)) = w := funext hw
  exact load 𝒱 c bd E

/-- A store into a memref owned at `X` leaves `X` overlaid by the payload. -/
theorem store {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {X : s.Idx → Val e} :
    (owns c m fullShare X : sProp 𝕄)
      ⊢ iprop((owns c m fullShare (put r X w) -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  iapply (wp_store 𝒱 c bd E (m := m) (r := r) (w := w) (Mk := Finset.univ) (hx := hx) (hm := hm) (k := k) (f := f)
    (S := m.view.set) (by rw [View.setOn_univ, View.set_slice]; exact View.setOn_subset_set _ _)) $$ H
  iintro H
  iapply Hk
  iexists _; isplitr
  swap; · iexact H
  ipureintro
  funext y
  by_cases hy : y ∈ r.set
  · obtain ⟨x, rfl⟩ : ∃ x, r.emb x = y := r.exists_idx_of_mem hy
    exact (View.read_writes_cons_emb m.view f r w [] x).trans (Rect.overlay_emb _ _ _ _).symm
  · refine Eq.trans ?_ (Rect.overlay_of_not_mem r X w hy).symm
    rw [← hf]
    exact View.read_slice_write_of_not_mem r _ _ _ (by rwa [Rect.map_emb_univ])

/-- A word loaded from a scalar-memory buffer owned at `X` is `X`'s at the rectangle's one place. -/
theorem loadWord {m : Memref sig c.2.kind .smem s e} {r : Rect s} {h1 : r.shape.numel = 1} {hp : e.packing = 1}
    {k : Val e → Prog (TpuEff nD τ sig Val Λ c.2) α} {X : s.Idx → Val e} :
    (owns c m fullShare X : sProp 𝕄)
      ⊢ iprop((owns c m fullShare X -∗
            wp frame (wpE defs 𝒱 c bd) E (k (X (r.emb (Shape.Idx.first (h1.symm ▸ Nat.one_pos))))) Q)
        -∗ wp frame (wpE defs 𝒱 c bd) E ((smemLoad m r h1 hp : Prog (TpuEff nD τ sig Val Λ c.2) (Val e)) >>= k) Q) :=
  load 𝒱 c bd E (k := fun f => k (f (Shape.Idx.first (h1.symm ▸ Nat.one_pos))))

/-- A program that returns ends in its postcondition. -/
theorem done {a : α} : Q a ⊢ wp (M := MT nD τ sig Ix Val Name U Lvl) frame (wpE defs 𝒱 c bd) E (.ret a) Q := BI.fupd_intro

end Cert.ByContents

end
-- ==== Proof.Windows.lean ====
/-
  The token windows: the loop over the 1920 tokens that runs along the counts, copies three rows of code words per token
  and notes where in them the token's codes begin.
-/
module

public import proofs.«01_k».proof.Proof.Contents
public import Idealize.ShloMosaic.Lib.PointwiseCore
public import proofs.«01_k».proof.Proof.Rules
public import proofs.«01_k».proof.Proof.Gen.Kernel.Loops

@[expose] public section

set_option maxRecDepth 16384

noncomputable section

namespace Cert.Kernel.Hand

open Cert.Kernel Cert.Kernel.Gen Cert.ByContents
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {Ix Name U Lvl : Type} [DecidableEq Ix] [DecidableEq Name] [URA U] [Preorder Lvl]

local notation "𝕄" => MT nD τ sig Ix (Elt F) Name U Lvl

variable (𝒱 : Variants) (c : Dev nD) (bd : Option 𝒱.V) (E : Set Name) (i : grid0.Coords)
variable (arg2 : Memref sig .tc .smem S1920 .i32)
  (harg2 : arg2.IsWhole)
  (arg3 : Memref sig .tc .vmem S1920x112 .i32)
  (harg3 : arg3.IsWhole)
  (arg4 : Memref sig .tc .vmem S13440x128 .i8)
  (harg4 : arg4.IsWhole)
  (arg5 : Memref sig .tc .vmem S1920x128 .f32)
  (harg5 : arg5.IsWhole)
  (arg6 : Memref sig .tc .vmem S1920x128 .f32)
  (harg6 : arg6.IsWhole)
  (arg7 : Memref sig .tc .hbm S1920x18944 .fp8e5m2)
  (harg7 : arg7.IsWhole)
  (arg8 : Memref sig .tc .vmem S256x512 .f32)
  (harg8 : arg8.IsWhole)
  (arg9 : Memref sig .tc .vmem S1920x256 .bf16)
  (harg9 : arg9.IsWhole)
  (arg10 : Memref sig .tc .vmem S1920x18944 .fp8e5m2)
  (harg10 : arg10.IsWhole)
  (arg11 : Memref sig .tc .vmem S3360x128 .i32)
  (harg11 : arg11.IsWhole)
  (arg12 : Memref sig .tc .vmem S3x1920x128 .i32)
  (harg12 : arg12.IsWhole)
  (arg13 : Memref sig .tc .vmem S1920x128 .i32)
  (harg13 : arg13.IsWhole)
  (arg14 : Memref sig .tc .vmem S1920x128 .i32)
  (harg14 : arg14.IsWhole)
  (arg15 : Memref sig .tc .vmem S1920x256 .bf16)
  (harg15 : arg15.IsWhole)
  (arg16 : DmaSems sig S37)

theorem trips2 : k0_t2_loop.trips = 1920 := by decide +kernel
theorem iv2 (k : Fin k0_t2_loop.trips) : (Scf.iv (0#32) (1#32) k.val).toNat = k.val := by
  have : k.val < 1920 := lt_of_lt_of_eq k.isLt trips2
  unfold Scf.iv
  rw [BitVec.zero_add, BitVec.mul_one, BitVec.toNat_ofNat, Nat.mod_eq_of_lt (by omega)]

theorem off4_eq (k : Fin k0_t2_loop.trips) : k0_off4 k = ![0, k.val, 0] := by
  show ![0, (Scf.iv (0#32) (1#32) k.val).toNat, 0] = _; rw [iv2]
theorem off5_eq (k : Fin k0_t2_loop.trips) : k0_off5 k = ![1, k.val, 0] := by
  show ![1, (Scf.iv (0#32) (1#32) k.val).toNat, 0] = _; rw [iv2]
theorem off6_eq (k : Fin k0_t2_loop.trips) : k0_off6 k = ![2, k.val, 0] := by
  show ![2, (Scf.iv (0#32) (1#32) k.val).toNat, 0] = _; rw [iv2]
theorem off7_eq (k : Fin k0_t2_loop.trips) : k0_off7 k = ![k.val, 0] := by
  show ![(Scf.iv (0#32) (1#32) k.val).toNat, 0] = _; rw [iv2]
theorem off8_eq (k : Fin k0_t2_loop.trips) : k0_off8 k = ![k.val] := by
  show ![(Scf.iv (0#32) (1#32) k.val).toNat] = _; rw [iv2]

variable (CNT : Vec F S1920 .i32) (VAL : Vec F S13440x128 .i8)

/-- The windows filled in for the tokens before `k`. -/
def Win (k : ℕ) (f : Vec F S3x1920x128 .i32) : Prop := ∀ y, (y 1).val < k → f y = win CNT VAL y
/-- The offsets filled in for the tokens before `k`. -/
def Off (k : ℕ) (f : Vec F S1920x128 .i32) : Prop := ∀ y, (y 0).val < k → f y = off0 CNT y

/-- Before token `k`: the running sum, and the windows and offsets of the tokens before it. -/
def inv2 (k : ℕ) (acc : BitVec 32) : sProp (MT nD τ sig Ix (Elt F) Name U Lvl) :=
  iprop(⌜acc = startAt CNT k⌝ ∗ owns (c : Thread nD τ) arg2 fullShare CNT ∗ owns (c : Thread nD τ) arg11 fullShare (words VAL)
    ∗ (∃ f, ⌜Win CNT VAL k f⌝ ∗ owns (c : Thread nD τ) arg12 fullShare f)
    ∗ (∃ f, ⌜Off CNT k f⌝ ∗ owns (c : Thread nD τ) arg13 fullShare f))

theorem start_succ (k : Fin k0_t2_loop.trips) (h1 : k0_cond1 i = 1#1) :
    Scalar.addi (startAt CNT k.val) (CNT ((Rect.unit (s := S1920) (k0_off8 k) S1.size (k0_off8_inb i k h1)).emb
      (Shape.Idx.first (s := S1) (by decide)))) = startAt CNT (k.val + 1) := by
  have hk : k.val < 1920 := lt_of_lt_of_eq k.isLt trips2
  show _ = Scalar.addi (startAt CNT k.val) (if h : k.val < 1920 then (CNT (ix1 (⟨k.val, h⟩ : Fin 1920)) : BitVec 32) else 0#32)
  rw [dif_pos hk]
  congr 2
  funext a
  apply Fin.ext
  refine (unit_emb_val _ _ _ (off8_eq k) _ a).trans ?_
  fin_cases a
  rfl

theorem pay2_at (v : Vec F S1x128 .i32) (l : Fin 128) : k0_pay2 v (ix3 (0 : Fin 1) (0 : Fin 1) l) = v (ix2 (0 : Fin 1) l) := by
  pointwise [k0_pay2]
theorem pay3_at (v : Vec F S1x128 .i32) (l : Fin 128) : k0_pay3 v (ix3 (0 : Fin 1) (0 : Fin 1) l) = v (ix2 (0 : Fin 1) l) := by
  pointwise [k0_pay3]
theorem pay4_at (v : Vec F S1x128 .i32) (l : Fin 128) : k0_pay4 v (ix3 (0 : Fin 1) (0 : Fin 1) l) = v (ix2 (0 : Fin 1) l) := by
  pointwise [k0_pay4]

theorem word_row (s : BitVec 32) (r : Fin 3) (inb) (l : Fin 128) :
    (Rect.unit (s := S3360x128) (k0_off3 s (BitVec.ofNat 32 r.val)) S1x128.size inb).emb (ix2 (0 : Fin 1) l) = ix2 (wrow s r) l := by
  funext a
  apply Fin.ext
  refine (unit_emb_val _ _ _ (off3_eq s r) _ a).trans ?_
  fin_cases a
  · rfl
  · show 0 + l.val = l.val; omega

set_option maxHeartbeats 1000000 in
theorem win_succ (k : Fin k0_t2_loop.trips) (h1 : k0_cond1 i = 1#1) (f : Vec F S3x1920x128 .i32)
    (hf : Win CNT VAL k.val f) (hw : k0_chk1 i (startAt CNT k.val)) :
    Win CNT VAL (k.val + 1)
      (put (Rect.unit (s := S3x1920x128) (k0_off6 k) S1x1x128.size (k0_off6_inb i k h1))
        (put (Rect.unit (s := S3x1920x128) (k0_off5 k) S1x1x128.size (k0_off5_inb i k h1))
          (put (Rect.unit (s := S3x1920x128) (k0_off4 k) S1x1x128.size (k0_off4_inb i k h1)) f
            (k0_pay2 (F := F) fun j => words VAL ((Rect.unit (s := S3360x128) (k0_off3 (startAt CNT k.val) 0#32) S1x128.size (k0_off3_inb i _ hw h1 0)).emb j)))
          (k0_pay3 (F := F) fun j => words VAL ((Rect.unit (s := S3360x128) (k0_off3 (startAt CNT k.val) 1#32) S1x128.size (k0_off3_inb i _ hw h1 1)).emb j)))
        (k0_pay4 (F := F) fun j => words VAL ((Rect.unit (s := S3360x128) (k0_off3 (startAt CNT k.val) 2#32) S1x128.size (k0_off3_inb i _ hw h1 2)).emb j))) := by
  intro y hy
  have hk : k.val < 1920 := lt_of_lt_of_eq k.isLt trips2
  obtain ⟨r, t, l, rfl⟩ : ∃ (r : Fin 3) (t : Fin 1920) (l : Fin 128), y = ix3 r t l := ⟨y 0, y 1, y 2, eq_ix3 y⟩
  change t.val < k.val + 1 at hy
  by_cases htk : t.val < k.val
  · refine (put_unit_out _ _ _ (off6_eq k) _ _ (ix3 r t l) (1 : Fin 3) (Or.inl htk)).trans ?_
    refine (put_unit_out _ _ _ (off5_eq k) _ _ (ix3 r t l) (1 : Fin 3) (Or.inl htk)).trans ?_
    refine (put_unit_out _ _ _ (off4_eq k) _ _ (ix3 r t l) (1 : Fin 3) (Or.inl htk)).trans ?_
    exact hf _ htk
  · have htk : t.val = k.val := by omega
    have hw : win CNT VAL (ix3 r t l) = words VAL (ix2 (wrow (startAt CNT t.val) r) l) := rfl
    rw [hw, htk]
    obtain rfl | rfl | rfl : r = 2 ∨ r = 1 ∨ r = 0 := by omega
    · refine (put_unit_in _ _ _ (off6_eq k) _ _ (ix3 _ t l) (ix3 (0 : Fin 1) (0 : Fin 1) l) (by
        intro a; fin_cases a
        · rfl
        · exact htk
        · exact (Nat.zero_add _).symm)).trans ?_
      exact (pay4_at _ l).trans (congrArg (words VAL) (word_row _ 2 _ l))
    · refine (put_unit_out _ _ _ (off6_eq k) _ _ (ix3 _ t l) (0 : Fin 3) (Or.inl (by show 1 < 2; omega))).trans ?_
      refine (put_unit_in _ _ _ (off5_eq k) _ _ (ix3 _ t l) (ix3 (0 : Fin 1) (0 : Fin 1) l) (by
        intro a; fin_cases a
        · rfl
        · exact htk
        · exact (Nat.zero_add _).symm)).trans ?_
      exact (pay3_at _ l).trans (congrArg (words VAL) (word_row _ 1 _ l))
    · refine (put_unit_out _ _ _ (off6_eq k) _ _ (ix3 _ t l) (0 : Fin 3) (Or.inl (by show 0 < 2; omega))).trans ?_
      refine (put_unit_out _ _ _ (off5_eq k) _ _ (ix3 _ t l) (0 : Fin 3) (Or.inl (by show 0 < 1; omega))).trans ?_
      refine (put_unit_in _ _ _ (off4_eq k) _ _ (ix3 _ t l) (ix3 (0 : Fin 1) (0 : Fin 1) l) (by
        intro a; fin_cases a
        · rfl
        · exact htk
        · exact (Nat.zero_add _).symm)).trans ?_
      exact (pay2_at _ l).trans (congrArg (words VAL) (word_row _ 0 _ l))

theorem off_succ (k : Fin k0_t2_loop.trips) (h1 : k0_cond1 i = 1#1) (f : Vec F S1920x128 .i32)
    (hf : Off CNT k.val f) :
    Off CNT (k.val + 1)
      (put (Rect.unit (s := S1920x128) (k0_off7 k) S1x128.size (k0_off7_inb i k h1)) f (k0_pay5 (startAt CNT k.val))) := by
  intro y hy
  obtain ⟨t, l, rfl⟩ : ∃ (t : Fin 1920) (l : Fin 128), y = ix2 t l := ⟨y 0, y 1, eq_ix2 y⟩
  change t.val < k.val + 1 at hy
  by_cases htk : t.val < k.val
  · exact (put_unit_out _ _ _ (off7_eq k) _ _ (ix2 t l) (0 : Fin 2) (Or.inl htk)).trans (hf _ htk)
  · have htk : t.val = k.val := by omega
    have hw : off0 CNT (ix2 t l) = k0_pay5 (startAt CNT t.val) (ix2 (0 : Fin 1) l) := rfl
    rw [hw, htk]
    exact put_unit_in _ _ _ (off7_eq k) _ _ (ix2 t l) (ix2 (0 : Fin 1) l) (by
      intro a; fin_cases a
      · exact htk
      · exact (Nat.zero_add _).symm)

set_option maxHeartbeats 2000000 in
/-- One token: its three word rows copied, its offset noted, its count added to the running sum. -/
theorem trip2 (h1 : k0_cond1 i = 1#1) (k : Fin k0_t2_loop.trips) (acc : BitVec 32) :
    inv2 (F := F) (Ix := Ix) (Name := Name) (U := U) (Lvl := Lvl) c arg2 arg11 arg12 arg13 CNT VAL k.val acc
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 h1 k acc)
          (inv2 c arg2 arg11 arg12 arg13 CNT VAL (k.val + 1)) := by
  have hk : k.val < 1920 := lt_of_lt_of_eq k.isLt trips2
  unfold inv2 k0_t2_body
  iintro ⟨%hacc, H2, H11, ⟨%f12, %h12, H12⟩, ⟨%f13, %h13, H13⟩⟩
  iapply (wp_assume 𝒱 (c : Thread nD τ) bd E (chk1 i acc))
  iapply (load 𝒱 (c : Thread nD τ) bd E) $$ H11
  iintro H11
  iapply (load 𝒱 (c : Thread nD τ) bd E) $$ H12
  iintro H12
  iapply (store 𝒱 (c : Thread nD τ) bd E) $$ H12
  iintro H12
  iapply (load 𝒱 (c : Thread nD τ) bd E) $$ H11
  iintro H11
  iapply (load 𝒱 (c : Thread nD τ) bd E) $$ H12
  iintro H12
  iapply (store 𝒱 (c : Thread nD τ) bd E) $$ H12
  iintro H12
  iapply (load 𝒱 (c : Thread nD τ) bd E) $$ H11
  iintro H11
  iapply (load 𝒱 (c : Thread nD τ) bd E) $$ H12
  iintro H12
  iapply (store 𝒱 (c : Thread nD τ) bd E) $$ H12
  iintro H12
  iapply (load 𝒱 (c : Thread nD τ) bd E) $$ H13
  iintro H13
  iapply (store 𝒱 (c : Thread nD τ) bd E) $$ H13
  iintro H13
  iapply (loadWord 𝒱 (c : Thread nD τ) bd E (h1 := numel1_S1) (hp := rfl)) $$ H2
  iintro H2
  iapply (done 𝒱 (c : Thread nD τ) bd E)
  isplitr
  · ipureintro
    subst hacc
    exact start_succ i CNT k h1
  isplitl [H2]; · iexact H2
  isplitl [H11]; · iexact H11
  isplitl [H12]
  · iexists _
    isplitr; swap; · iexact H12
    ipureintro; subst hacc
    exact win_succ i CNT VAL k h1 f12 h12 (chk1 i _)
  · iexists _
    isplitr; swap; · iexact H13
    ipureintro; subst hacc
    exact off_succ i CNT k h1 f13 h13

/-- The loop over the tokens: from the counts and the code words, the windows and the offsets. -/
theorem loop2 (h1 : k0_cond1 i = 1#1) {α : Type} {kk : BitVec 32 → Prog (TpuEff nD τ sig (Elt F) Λ₀ .tc) α}
    {Q : α → sProp (MT nD τ sig Ix (Elt F) Name U Lvl)} :
    iprop(owns (c : Thread nD τ) arg2 fullShare CNT ∗ owns (c : Thread nD τ) arg11 fullShare (words VAL)
        ∗ (∃ f, owns (c : Thread nD τ) arg12 fullShare f) ∗ (∃ f, owns (c : Thread nD τ) arg13 fullShare f))
      ⊢ iprop((∀ acc, (owns (c : Thread nD τ) arg2 fullShare CNT ∗ owns (c : Thread nD τ) arg11 fullShare (words VAL)
          ∗ owns (c : Thread nD τ) arg12 fullShare (win CNT VAL) ∗ owns (c : Thread nD τ) arg13 fullShare (off0 CNT))
            -∗ wp frame (wpE (defs₀ (F := F)) 𝒱 (c : Thread nD τ) bd) E (kk acc) Q)
        -∗ wp frame (wpE (defs₀ (F := F)) 𝒱 (c : Thread nD τ) bd) E
            (Scf.Loop.for k0_t2_loop (k0_t2_ok i h1) 0#32 (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 h1) >>= kk) Q) := by
  iintro ⟨H2, H11, ⟨%f12, H12⟩, ⟨%f13, H13⟩⟩ Hk
  ihave HI : inv2 (F := F) (Ix := Ix) (Name := Name) (U := U) (Lvl := Lvl) c arg2 arg11 arg12 arg13 CNT VAL 0 0#32 $$ [H2 H11 H12 H13]
  · unfold inv2
    isplitr; · ipureintro; rfl
    isplitl [H2]; · iexact H2
    isplitl [H11]; · iexact H11
    isplitl [H12]
    · iexists f12; isplitr
      · ipureintro; intro y hy; exact absurd hy (Nat.not_lt_zero _)
      · iexact H12
    · iexists f13; isplitr
      · ipureintro; intro y hy; exact absurd hy (Nat.not_lt_zero _)
      · iexact H13
  iapply (Scf.wp_for_bind Idealize.ShloMosaic.frame (wpE (defs₀ (F := F)) 𝒱 (c : Thread nD τ) bd) E _ _ _ (k0_t2_ok i h1) _ _
    (inv2 c arg2 arg11 arg12 arg13 CNT VAL)
    (fun k acc => trip2 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 CNT VAL h1 k acc)) $$ HI
  iintro %acc HI
  unfold inv2
  icases HI with ⟨-, H2, H11, ⟨%f12, %h12, H12⟩, ⟨%f13, %h13, H13⟩⟩
  have e12 : f12 = win CNT VAL := funext fun y => h12 y (lt_of_lt_of_eq (y 1).isLt trips2.symm)
  have e13 : f13 = off0 CNT := funext fun y => h13 y (lt_of_lt_of_eq (y 0).isLt trips2.symm)
  subst e12 e13
  iapply Hk
  isplitl [H2]; · iexact H2
  isplitl [H11]; · iexact H11
  isplitl [H12] <;> iassumption

end Cert.Kernel.Hand

end
-- ==== Proof.Prefix.lean ====
/-
  The prefix sums: the loop over the sixty 32-token blocks that adds to each token's offset, mask word by mask word, the
  number of marked columns in the words before it.
-/
module

public import proofs.«01_k».proof.Proof.Contents
public import Idealize.ShloMosaic.Lib.PointwiseCore
public import proofs.«01_k».proof.Proof.Rules
public import proofs.«01_k».proof.Proof.Gen.Kernel.Loops

@[expose] public section

set_option maxRecDepth 16384

noncomputable section

namespace Cert.Kernel.Hand

open Cert.Kernel Cert.Kernel.Gen Cert.ByContents
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {Ix Name U Lvl : Type} [DecidableEq Ix] [DecidableEq Name] [URA U] [Preorder Lvl]

variable (𝒱 : Variants) (c : Dev nD) (bd : Option 𝒱.V) (E : Set Name) (i : grid0.Coords)
variable (arg2 : Memref sig .tc .smem S1920 .i32)
  (harg2 : arg2.IsWhole)
  (arg3 : Memref sig .tc .vmem S1920x112 .i32)
  (harg3 : arg3.IsWhole)
  (arg4 : Memref sig .tc .vmem S13440x128 .i8)
  (harg4 : arg4.IsWhole)
  (arg5 : Memref sig .tc .vmem S1920x128 .f32)
  (harg5 : arg5.IsWhole)
  (arg6 : Memref sig .tc .vmem S1920x128 .f32)
  (harg6 : arg6.IsWhole)
  (arg7 : Memref sig .tc .hbm S1920x18944 .fp8e5m2)
  (harg7 : arg7.IsWhole)
  (arg8 : Memref sig .tc .vmem S256x512 .f32)
  (harg8 : arg8.IsWhole)
  (arg9 : Memref sig .tc .vmem S1920x256 .bf16)
  (harg9 : arg9.IsWhole)
  (arg10 : Memref sig .tc .vmem S1920x18944 .fp8e5m2)
  (harg10 : arg10.IsWhole)
  (arg11 : Memref sig .tc .vmem S3360x128 .i32)
  (harg11 : arg11.IsWhole)
  (arg12 : Memref sig .tc .vmem S3x1920x128 .i32)
  (harg12 : arg12.IsWhole)
  (arg13 : Memref sig .tc .vmem S1920x128 .i32)
  (harg13 : arg13.IsWhole)
  (arg14 : Memref sig .tc .vmem S1920x128 .i32)
  (harg14 : arg14.IsWhole)
  (arg15 : Memref sig .tc .vmem S1920x256 .bf16)
  (harg15 : arg15.IsWhole)
  (arg16 : DmaSems sig S37)

theorem trips3 : k0_t3_loop.trips = 60 := by decide +kernel
theorem off9_eq (k : Fin k0_t3_loop.trips) : k0_off9 k = ![32 * k.val, 0] := by
  revert k; decide +kernel

/-- A block's rows, as the rectangle at its first row places them. -/
theorem blk_emb {e : EltTy} (X : Vec F S1920x128 e) (off : Fin 2 → ℕ) (inb) (k : ℕ) (hk : k < 60) (ho : off = ![32 * k, 0])
    (j : (Rect.unit (s := S1920x128) off S32x128.size inb).shape.Idx) :
    X ((Rect.unit (s := S1920x128) off S32x128.size inb).emb j) = blk X k hk j := by
  refine congrArg X (funext fun a => Fin.ext ?_)
  refine (unit_emb_val _ _ _ ho j a).trans ?_
  fin_cases a
  · rfl
  · exact Nat.zero_add _

/-- An index of block `k` reads a payload stored over the block, at its row in the block. -/
theorem put_blk_in {e : EltTy} (X : Vec F S1920x128 e) (off : Fin 2 → ℕ) (inb) (k : ℕ) (ho : off = ![32 * k, 0])
    (w : Vec F S32x128 e) (t : Fin 1920) (l : Fin 128) (ht : t.val / 32 = k) :
    put (Rect.unit (s := S1920x128) off S32x128.size inb) X w (ix2 t l) = w (ix2 (inBlk t) l) :=
  put_unit_in _ _ _ ho X w (ix2 t l) (ix2 (inBlk t) l) (by
    intro a; fin_cases a
    · show t.val = 32 * k + t.val % 32; omega
    · exact (Nat.zero_add _).symm)

/-- An index of another block reads what was there. -/
theorem put_blk_out {e : EltTy} (X : Vec F S1920x128 e) (off : Fin 2 → ℕ) (inb) (k : ℕ) (ho : off = ![32 * k, 0])
    (w : Vec F S32x128 e) (t : Fin 1920) (l : Fin 128) (ht : t.val / 32 ≠ k) :
    put (Rect.unit (s := S1920x128) off S32x128.size inb) X w (ix2 t l) = X (ix2 t l) :=
  put_unit_out _ _ _ ho X w (ix2 t l) (0 : Fin 2) (by
    show t.val < 32 * k ∨ 32 * k + 32 ≤ t.val; omega)

variable (WORD OFF : Vec F S1920x128 .i32)

/-- The offsets with the prefix sums added in the blocks before `k`. -/
def Pre (k : ℕ) (f : Vec F S1920x128 .i32) : Prop :=
  ∀ y, f y = if (y 0).val / 32 < k then off1Of WORD OFF y else OFF y

/-- Before block `k`: the mask words, and the offsets with the blocks before it done. -/
def inv3 (k : ℕ) : sProp (MT nD τ sig Ix (Elt F) Name U Lvl) :=
  iprop(owns (c : Thread nD τ) arg14 fullShare WORD
    ∗ (∃ f, ⌜Pre WORD OFF k f⌝ ∗ owns (c : Thread nD τ) arg13 fullShare f))

theorem pre_succ (k : Fin k0_t3_loop.trips) (hk : k.val < 60) (h1 : k0_cond1 i = 1#1) (f : Vec F S1920x128 .i32) (hf : Pre WORD OFF k.val f) :
    Pre WORD OFF (k.val + 1)
      (put (Rect.unit (s := S1920x128) (k0_off9 k) S32x128.size (k0_off9_inb i k h1)) f
        (k0_pay8 (F := F) (k0_pay11 (F := F) (blk WORD k.val hk)) (k0_pay12 (F := F) lanes (blk WORD k.val hk)) (k0_pay13 lanes)
          (k0_pay14 (F := F) lanes (blk WORD k.val hk)) k0_pay15 (blk f k.val hk))) := by
  intro y
  obtain ⟨t, l, rfl⟩ : ∃ (t : Fin 1920) (l : Fin 128), y = ix2 t l := ⟨y 0, y 1, eq_ix2 y⟩
  show _ = if t.val / 32 < k.val + 1 then off1Of WORD OFF (ix2 t l) else OFF (ix2 t l)
  by_cases ht : t.val / 32 = k.val
  · rw [if_pos (by omega)]
    refine (put_blk_in f _ _ k.val (off9_eq k) _ t l ht).trans ?_
    have e : blk f k.val hk = blk OFF k.val hk := by
      funext j
      have := hf (ix2 (brow k.val hk (j 0)) (j 1))
      rw [if_neg (by show ¬ (32 * k.val + (j 0).val) / 32 < k.val; omega)] at this
      exact this
    rw [e]
    have hb : ∀ (q : ℕ) (hq : q < 60), q = k.val →
        off1Blk (F := F) (blk WORD q hq) (blk OFF q hq) (ix2 (inBlk t) l) = off1Blk (F := F) (blk WORD k.val hk) (blk OFF k.val hk) (ix2 (inBlk t) l) := by
      intro q hq h; subst h; rfl
    exact (hb _ _ ht).symm
  · refine (put_blk_out f _ _ k.val (off9_eq k) _ t l ht).trans ?_
    rw [hf]
    show (if t.val / 32 < k.val then _ else _) = _
    by_cases h : t.val / 32 < k.val
    · rw [if_pos h, if_pos (by omega)]
    · rw [if_neg h, if_neg (by omega)]

set_option maxHeartbeats 2000000 in
/-- One block: its mask words counted and prefix-summed along the lanes onto its offsets. -/
theorem trip3 (h1 : k0_cond1 i = 1#1) (k : Fin k0_t3_loop.trips) (acc : Unit) :
    inv3 (F := F) (Ix := Ix) (Name := Name) (U := U) (Lvl := Lvl) c arg13 arg14 WORD OFF k.val
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 h1 lanes k acc)
          (fun _ => inv3 c arg13 arg14 WORD OFF (k.val + 1)) := by
  have hk : k.val < 60 := lt_of_lt_of_eq k.isLt trips3
  unfold inv3 k0_t3_body
  rw [k0_part1_eq_skeleton]
  unfold k0_part1_skel
  iintro ⟨H14, ⟨%f13, %h13, H13⟩⟩
  iapply (loadAs 𝒱 (c : Thread nD τ) bd E (blk WORD k.val hk) (blk_emb WORD _ _ k.val hk (off9_eq k))) $$ H14
  iintro H14
  iapply (loadAs 𝒱 (c : Thread nD τ) bd E (blk f13 k.val hk) (blk_emb f13 _ _ k.val hk (off9_eq k))) $$ H13
  iintro H13
  iapply (loadAs 𝒱 (c : Thread nD τ) bd E (blk f13 k.val hk) (blk_emb f13 _ _ k.val hk (off9_eq k))) $$ H13
  iintro H13
  iapply (store 𝒱 (c : Thread nD τ) bd E) $$ H13
  iintro H13
  iapply (done 𝒱 (c : Thread nD τ) bd E)
  isplitl [H14]; · iexact H14
  iexists _
  isplitr; swap; · iexact H13
  ipureintro
  exact pre_succ i WORD OFF k hk h1 f13 h13

/-- The loop over the blocks: the offsets become the prefix-summed ones. -/
theorem loop3 (h1 : k0_cond1 i = 1#1) {α : Type} {kk : Unit → Prog (TpuEff nD τ sig (Elt F) Λ₀ .tc) α}
    {Q : α → sProp (MT nD τ sig Ix (Elt F) Name U Lvl)} :
    iprop(owns (c : Thread nD τ) arg14 fullShare WORD ∗ owns (c : Thread nD τ) arg13 fullShare OFF)
      ⊢ iprop((∀ acc, (owns (c : Thread nD τ) arg14 fullShare WORD ∗ owns (c : Thread nD τ) arg13 fullShare (off1Of WORD OFF))
            -∗ wp frame (wpE (defs₀ (F := F)) 𝒱 (c : Thread nD τ) bd) E (kk acc) Q)
        -∗ wp frame (wpE (defs₀ (F := F)) 𝒱 (c : Thread nD τ) bd) E
            (Scf.Loop.for k0_t3_loop (k0_t3_ok i h1) ⟨⟩ (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 h1 lanes) >>= kk) Q) := by
  iintro ⟨H14, H13⟩ Hk
  ihave HI : inv3 (F := F) (Ix := Ix) (Name := Name) (U := U) (Lvl := Lvl) c arg13 arg14 WORD OFF 0 $$ [H14 H13]
  · unfold inv3
    isplitl [H14]; · iexact H14
    iexists OFF; isplitr
    · ipureintro; intro y; rw [if_neg (Nat.not_lt_zero _)]
    · iexact H13
  iapply (Scf.wp_for_bind Idealize.ShloMosaic.frame (wpE (defs₀ (F := F)) 𝒱 (c : Thread nD τ) bd) E _ _ _ (k0_t3_ok i h1) _ _
    (fun k _ => inv3 c arg13 arg14 WORD OFF k)
    (fun k acc => trip3 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 WORD OFF h1 k acc)) $$ HI
  iintro %acc HI
  unfold inv3
  icases HI with ⟨H14, ⟨%f13, %h13, H13⟩⟩
  have e13 : f13 = off1Of WORD OFF := funext fun y => (h13 y).trans (if_pos (lt_of_lt_of_eq (blk_lt (y 0)) trips3.symm))
  subst e13
  iapply Hk
  isplitl [H14] <;> iassumption

end Cert.Kernel.Hand

end
-- ==== Proof.Decode.lean ====
/-
  The decoding: the loop over the sixty 32-token blocks that looks up each token's codes in its window and scales them,
  256 columns at a time.
-/
module

public import proofs.«01_k».proof.Proof.Prefix
public import Idealize.ShloMosaic.Lib.PointwiseCore
public import proofs.«01_k».proof.Proof.Rules
public import proofs.«01_k».proof.Proof.Gen.Kernel.Loops

@[expose] public section

set_option maxRecDepth 16384

noncomputable section

namespace Cert.Kernel.Hand

open Cert.Kernel Cert.Kernel.Gen Cert.ByContents
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {Ix Name U Lvl : Type} [DecidableEq Ix] [DecidableEq Name] [URA U] [Preorder Lvl]

variable (𝒱 : Variants) (c : Dev nD) (bd : Option 𝒱.V) (E : Set Name) (i : grid0.Coords)
variable (arg2 : Memref sig .tc .smem S1920 .i32)
  (harg2 : arg2.IsWhole)
  (arg3 : Memref sig .tc .vmem S1920x112 .i32)
  (harg3 : arg3.IsWhole)
  (arg4 : Memref sig .tc .vmem S13440x128 .i8)
  (harg4 : arg4.IsWhole)
  (arg5 : Memref sig .tc .vmem S1920x128 .f32)
  (harg5 : arg5.IsWhole)
  (arg6 : Memref sig .tc .vmem S1920x128 .f32)
  (harg6 : arg6.IsWhole)
  (arg7 : Memref sig .tc .hbm S1920x18944 .fp8e5m2)
  (harg7 : arg7.IsWhole)
  (arg8 : Memref sig .tc .vmem S256x512 .f32)
  (harg8 : arg8.IsWhole)
  (arg9 : Memref sig .tc .vmem S1920x256 .bf16)
  (harg9 : arg9.IsWhole)
  (arg10 : Memref sig .tc .vmem S1920x18944 .fp8e5m2)
  (harg10 : arg10.IsWhole)
  (arg11 : Memref sig .tc .vmem S3360x128 .i32)
  (harg11 : arg11.IsWhole)
  (arg12 : Memref sig .tc .vmem S3x1920x128 .i32)
  (harg12 : arg12.IsWhole)
  (arg13 : Memref sig .tc .vmem S1920x128 .i32)
  (harg13 : arg13.IsWhole)
  (arg14 : Memref sig .tc .vmem S1920x128 .i32)
  (harg14 : arg14.IsWhole)
  (arg15 : Memref sig .tc .vmem S1920x256 .bf16)
  (harg15 : arg15.IsWhole)
  (arg16 : DmaSems sig S37)

theorem trips4 : k0_t4_loop.trips = 60 := by decide +kernel
theorem off10_eq (k : Fin k0_t4_loop.trips) : k0_off10 k = ![32 * k.val, 0] := by
  revert k; decide +kernel
theorem off11_eq (k : Fin k0_t4_loop.trips) : k0_off11 k = ![(0 : Fin 3).val, 32 * k.val, 0] := by
  revert k; decide +kernel
theorem off12_eq (k : Fin k0_t4_loop.trips) : k0_off12 k = ![(1 : Fin 3).val, 32 * k.val, 0] := by
  revert k; decide +kernel
theorem off13_eq (k : Fin k0_t4_loop.trips) : k0_off13 k = ![(2 : Fin 3).val, 32 * k.val, 0] := by
  revert k; decide +kernel
theorem off14_eq (k : Fin k0_t4_loop.trips) : k0_off14 k = ![32 * k.val, 0] := by
  revert k; decide +kernel
theorem off15_eq (k : Fin k0_t4_loop.trips) : k0_off15 k = ![32 * k.val, 128] := by
  revert k; decide +kernel

/-- A block's window rows, as the rectangle at its first row places them. -/
theorem wblk_emb {e : EltTy} (X : Vec F S3x1920x128 e) (r : Fin 3) (off : Fin 3 → ℕ) (inb) (k : ℕ) (hk : k < 60) (ho : off = ![r.val, 32 * k, 0])
    (j : (Rect.unit (s := S3x1920x128) off S1x32x128.size inb).shape.Idx) :
    X ((Rect.unit (s := S3x1920x128) off S1x32x128.size inb).emb j) = wblk X r k hk j := by
  refine congrArg X (funext fun a => Fin.ext ?_)
  refine (unit_emb_val _ _ _ ho j a).trans ?_
  have h0 : (j 0).val < 1 := (j 0).isLt
  fin_cases a
  · show r.val + (j 0).val = r.val; omega
  · rfl
  · exact Nat.zero_add _

variable (WORD OFF : Vec F S1920x128 .i32) (WIN : Vec F S3x1920x128 .i32) (SX SR : Vec F S1920x128 .f32)

/-- The two halves of a block, stored one after the other over what the array holds: each index of the block reads its half. -/
theorem put_halves {e : EltTy} (X : Vec F S1920x256 e) (o14 o15 : Fin 2 → ℕ) (i14 i15) (k : ℕ) (h14 : o14 = ![32 * k, 0]) (h15 : o15 = ![32 * k, 128])
    (lo hi : Vec F S32x128 e) (t : Fin 1920) (l : Fin 256) :
    put (Rect.unit (s := S1920x256) o15 S32x128.size i15) (put (Rect.unit (s := S1920x256) o14 S32x128.size i14) X lo) hi (ix2 t l)
      = if t.val / 32 = k then
          if h : l.val < 128 then lo (ix2 (inBlk t) (⟨l.val, h⟩ : Fin 128)) else hi (ix2 (inBlk t) (⟨l.val - 128, by omega⟩ : Fin 128))
        else X (ix2 t l) := by
  by_cases ht : t.val / 32 = k
  · rw [if_pos ht]
    by_cases h : l.val < 128
    · rw [dif_pos h]
      refine (put_unit_out _ _ _ h15 _ hi (ix2 t l) (1 : Fin 2) (Or.inl h)).trans ?_
      exact put_unit_in _ _ _ h14 X lo (ix2 t l) (ix2 (inBlk t) (⟨l.val, h⟩ : Fin 128)) (by
        intro a; fin_cases a
        · show t.val = 32 * k + t.val % 32; omega
        · exact (Nat.zero_add _).symm)
    · rw [dif_neg h]
      exact put_unit_in _ _ _ h15 _ hi (ix2 t l) (ix2 (inBlk t) (⟨l.val - 128, by omega⟩ : Fin 128)) (by
        intro a; fin_cases a
        · show t.val = 32 * k + t.val % 32; omega
        · show l.val = 128 + (l.val - 128); omega)
  · rw [if_neg ht]
    refine (put_unit_out _ _ _ h15 _ hi (ix2 t l) (0 : Fin 2) (by show t.val < 32 * k ∨ 32 * k + 32 ≤ t.val; omega)).trans ?_
    exact put_unit_out _ _ _ h14 X lo (ix2 t l) (0 : Fin 2) (by show t.val < 32 * k ∨ 32 * k + 32 ≤ t.val; omega)

/-- The decoded tokens of the blocks before `k` are in place. -/
def DecX (a : BitVec 32) (k : ℕ) (f : Vec F S1920x256 .bf16) : Prop :=
  ∀ y, (y 0).val / 32 < k → f y = xrecOf SX WORD OFF WIN a y
/-- The rescaled tokens of the blocks before `k` are in place. -/
def DecT (a : BitVec 32) (k : ℕ) (f : Vec F S1920x256 .bf16) : Prop :=
  ∀ y, (y 0).val / 32 < k → f y = xtOf SX SR WORD OFF WIN a y

theorem decX_succ (a : BitVec 32) (k : ℕ) (hk : k < 60) (o14 o15 : Fin 2 → ℕ) (i14 i15) (h14 : o14 = ![32 * k, 0]) (h15 : o15 = ![32 * k, 128])
    (f : Vec F S1920x256 .bf16) (hf : DecX WORD OFF WIN SX a k f) :
    DecX WORD OFF WIN SX a (k + 1)
      (put (Rect.unit (s := S1920x256) o15 S32x128.size i15) (put (Rect.unit (s := S1920x256) o14 S32x128.size i14) f
        (decLo a (blk WORD k hk) (blk OFF k hk) (wblk WIN 0 k hk) (wblk WIN 1 k hk) (wblk WIN 2 k hk) (blk SX k hk)))
        (decHi a (blk WORD k hk) (blk OFF k hk) (wblk WIN 0 k hk) (wblk WIN 1 k hk) (wblk WIN 2 k hk) (blk SX k hk))) := by
  intro y
  obtain ⟨t, l, rfl⟩ : ∃ (t : Fin 1920) (l : Fin 256), y = ix2 t l := ⟨y 0, y 1, eq_ix2 y⟩
  intro ht
  change t.val / 32 < k + 1 at ht
  refine (put_halves f o14 o15 i14 i15 k h14 h15 _ _ t l).trans ?_
  by_cases h : t.val / 32 = k
  · rw [if_pos h]; subst h; rfl
  · rw [if_neg h]; exact hf (ix2 t l) (by show t.val / 32 < k; omega)

theorem decT_succ (a : BitVec 32) (k : ℕ) (hk : k < 60) (o14 o15 : Fin 2 → ℕ) (i14 i15) (h14 : o14 = ![32 * k, 0]) (h15 : o15 = ![32 * k, 128])
    (f : Vec F S1920x256 .bf16) (hf : DecT WORD OFF WIN SX SR a k f) :
    DecT WORD OFF WIN SX SR a (k + 1)
      (put (Rect.unit (s := S1920x256) o15 S32x128.size i15) (put (Rect.unit (s := S1920x256) o14 S32x128.size i14) f
        (mulLo a (blk WORD k hk) (blk OFF k hk) (wblk WIN 0 k hk) (wblk WIN 1 k hk) (wblk WIN 2 k hk) (blk SX k hk) (blk SR k hk)))
        (mulHi a (blk WORD k hk) (blk OFF k hk) (wblk WIN 0 k hk) (wblk WIN 1 k hk) (wblk WIN 2 k hk) (blk SX k hk) (blk SR k hk))) := by
  intro y
  obtain ⟨t, l, rfl⟩ : ∃ (t : Fin 1920) (l : Fin 256), y = ix2 t l := ⟨y 0, y 1, eq_ix2 y⟩
  intro ht
  change t.val / 32 < k + 1 at ht
  refine (put_halves f o14 o15 i14 i15 k h14 h15 _ _ t l).trans ?_
  by_cases h : t.val / 32 = k
  · rw [if_pos h]; subst h; rfl
  · rw [if_neg h]; exact hf (ix2 t l) (by show t.val / 32 < k; omega)

/-- Before block `k`: the blocks before it are decoded, in both outputs of the loop. -/
def inv4 (a : BitVec 32) (k : ℕ) : sProp (MT nD τ sig Ix (Elt F) Name U Lvl) :=
  iprop(owns (c : Thread nD τ) arg5 fullShare SX ∗ owns (c : Thread nD τ) arg6 fullShare SR
    ∗ owns (c : Thread nD τ) arg12 fullShare WIN ∗ owns (c : Thread nD τ) arg13 fullShare OFF ∗ owns (c : Thread nD τ) arg14 fullShare WORD
    ∗ (∃ f, ⌜DecX WORD OFF WIN SX a k f⌝ ∗ owns (c : Thread nD τ) arg9 fullShare f)
    ∗ (∃ f, ⌜DecT WORD OFF WIN SX SR a k f⌝ ∗ owns (c : Thread nD τ) arg15 fullShare f))

set_option maxHeartbeats 4000000 in
/-- One block decoded. -/
theorem trip4 (a : BitVec 32) (h2 : k0_cond2 i = 1#1) (k : Fin k0_t4_loop.trips) (acc : Unit) :
    inv4 (F := F) (Ix := Ix) (Name := Name) (U := U) (Lvl := Lvl) c arg5 arg6 arg9 arg12 arg13 arg14 arg15 WORD OFF WIN SX SR a k.val
      ⊢ wp frame (wpE (defs₀ (F := F)) 𝒱 (c : Thread nD τ) bd) E (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 a h2 k acc)
          (fun _ => inv4 c arg5 arg6 arg9 arg12 arg13 arg14 arg15 WORD OFF WIN SX SR a (k.val + 1)) := by
  have hk : k.val < 60 := lt_of_lt_of_eq k.isLt trips4
  unfold inv4 k0_t4_body
  rw [k0_part2_eq_skeleton, k0_part3_eq_skeleton, k0_part4_eq_skeleton, k0_part5_eq_skeleton]
  unfold k0_part2_skel k0_part3_skel k0_part4_skel k0_part5_skel
  iintro ⟨H5, H6, H12, H13, H14, ⟨%f9, %h9, H9⟩, ⟨%f15, %h15, H15⟩⟩
  iapply (loadAs 𝒱 (c : Thread nD τ) bd E (blk WORD k.val hk) (blk_emb WORD _ _ k.val hk (off10_eq k))) $$ H14
  iintro H14
  iapply (loadAs 𝒱 (c : Thread nD τ) bd E (blk OFF k.val hk) (blk_emb OFF _ _ k.val hk (off10_eq k))) $$ H13
  iintro H13
  iapply (loadAs 𝒱 (c : Thread nD τ) bd E (wblk WIN 0 k.val hk) (wblk_emb WIN 0 _ _ k.val hk (off11_eq k))) $$ H12
  iintro H12
  iapply (loadAs 𝒱 (c : Thread nD τ) bd E (wblk WIN 1 k.val hk) (wblk_emb WIN 1 _ _ k.val hk (off12_eq k))) $$ H12
  iintro H12
  iapply (loadAs 𝒱 (c : Thread nD τ) bd E (wblk WIN 2 k.val hk) (wblk_emb WIN 2 _ _ k.val hk (off13_eq k))) $$ H12
  iintro H12
  iapply (loadAs 𝒱 (c : Thread nD τ) bd E (blk SX k.val hk) (blk_emb SX _ _ k.val hk (off10_eq k))) $$ H5
  iintro H5
  iapply (loadAs 𝒱 (c : Thread nD τ) bd E (blk SR k.val hk) (blk_emb SR _ _ k.val hk (off10_eq k))) $$ H6
  iintro H6
  iapply (load 𝒱 (c : Thread nD τ) bd E) $$ H9
  iintro H9
  iapply (store 𝒱 (c : Thread nD τ) bd E) $$ H9
  iintro H9
  iapply (load 𝒱 (c : Thread nD τ) bd E) $$ H15
  iintro H15
  iapply (store 𝒱 (c : Thread nD τ) bd E) $$ H15
  iintro H15
  iapply (loadAs 𝒱 (c : Thread nD τ) bd E (blk WORD k.val hk) (blk_emb WORD _ _ k.val hk (off10_eq k))) $$ H14
  iintro H14
  iapply (loadAs 𝒱 (c : Thread nD τ) bd E (blk OFF k.val hk) (blk_emb OFF _ _ k.val hk (off10_eq k))) $$ H13
  iintro H13
  iapply (loadAs 𝒱 (c : Thread nD τ) bd E (wblk WIN 0 k.val hk) (wblk_emb WIN 0 _ _ k.val hk (off11_eq k))) $$ H12
  iintro H12
  iapply (loadAs 𝒱 (c : Thread nD τ) bd E (wblk WIN 1 k.val hk) (wblk_emb WIN 1 _ _ k.val hk (off12_eq k))) $$ H12
  iintro H12
  iapply (loadAs 𝒱 (c : Thread nD τ) bd E (wblk WIN 2 k.val hk) (wblk_emb WIN 2 _ _ k.val hk (off13_eq k))) $$ H12
  iintro H12
  iapply (loadAs 𝒱 (c : Thread nD τ) bd E (blk SX k.val hk) (blk_emb SX _ _ k.val hk (off10_eq k))) $$ H5
  iintro H5
  iapply (loadAs 𝒱 (c : Thread nD τ) bd E (blk SR k.val hk) (blk_emb SR _ _ k.val hk (off10_eq k))) $$ H6
  iintro H6
  iapply (load 𝒱 (c : Thread nD τ) bd E) $$ H9
  iintro H9
  iapply (store 𝒱 (c : Thread nD τ) bd E) $$ H9
  iintro H9
  iapply (load 𝒱 (c : Thread nD τ) bd E) $$ H15
  iintro H15
  iapply (store 𝒱 (c : Thread nD τ) bd E) $$ H15
  iintro H15
  iapply (done 𝒱 (c : Thread nD τ) bd E)
  isplitl [H5]; · iexact H5
  isplitl [H6]; · iexact H6
  isplitl [H12]; · iexact H12
  isplitl [H13]; · iexact H13
  isplitl [H14]; · iexact H14
  isplitl [H9]
  · iexists _
    isplitr; swap; · iexact H9
    ipureintro
    exact decX_succ WORD OFF WIN SX a k.val hk _ _ _ _ (off14_eq k) (off15_eq k) f9 h9
  · iexists _
    isplitr; swap; · iexact H15
    ipureintro
    exact decT_succ WORD OFF WIN SX SR a k.val hk _ _ _ _ (off14_eq k) (off15_eq k) f15 h15

/-- The loop over the blocks: both outputs of the loop hold the decoded column group. -/
theorem loop4 (a : BitVec 32) (h2 : k0_cond2 i = 1#1) {α : Type} {kk : Unit → Prog (TpuEff nD τ sig (Elt F) Λ₀ .tc) α}
    {Q : α → sProp (MT nD τ sig Ix (Elt F) Name U Lvl)} :
    iprop(owns (c : Thread nD τ) arg5 fullShare SX ∗ owns (c : Thread nD τ) arg6 fullShare SR
        ∗ owns (c : Thread nD τ) arg12 fullShare WIN ∗ owns (c : Thread nD τ) arg13 fullShare OFF ∗ owns (c : Thread nD τ) arg14 fullShare WORD
        ∗ (∃ f, owns (c : Thread nD τ) arg9 fullShare f) ∗ (∃ f, owns (c : Thread nD τ) arg15 fullShare f))
      ⊢ iprop((∀ acc, (owns (c : Thread nD τ) arg5 fullShare SX ∗ owns (c : Thread nD τ) arg6 fullShare SR
              ∗ owns (c : Thread nD τ) arg12 fullShare WIN ∗ owns (c : Thread nD τ) arg13 fullShare OFF ∗ owns (c : Thread nD τ) arg14 fullShare WORD
              ∗ owns (c : Thread nD τ) arg9 fullShare (xrecOf SX WORD OFF WIN a) ∗ owns (c : Thread nD τ) arg15 fullShare (xtOf SX SR WORD OFF WIN a))
            -∗ wp frame (wpE (defs₀ (F := F)) 𝒱 (c : Thread nD τ) bd) E (kk acc) Q)
        -∗ wp frame (wpE (defs₀ (F := F)) 𝒱 (c : Thread nD τ) bd) E
            (Scf.Loop.for k0_t4_loop (k0_t4_ok i h2) ⟨⟩ (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 a h2) >>= kk) Q) := by
  iintro ⟨H5, H6, H12, H13, H14, ⟨%f9, H9⟩, ⟨%f15, H15⟩⟩ Hk
  ihave HI : inv4 (F := F) (Ix := Ix) (Name := Name) (U := U) (Lvl := Lvl) c arg5 arg6 arg9 arg12 arg13 arg14 arg15 WORD OFF WIN SX SR a 0 $$ [H5 H6 H12 H13 H14 H9 H15]
  · unfold inv4
    isplitl [H5]; · iexact H5
    isplitl [H6]; · iexact H6
    isplitl [H12]; · iexact H12
    isplitl [H13]; · iexact H13
    isplitl [H14]; · iexact H14
    isplitl [H9]
    · iexists f9; isplitr
      · ipureintro; intro y h; exact absurd h (Nat.not_lt_zero _)
      · iexact H9
    · iexists f15; isplitr
      · ipureintro; intro y h; exact absurd h (Nat.not_lt_zero _)
      · iexact H15
  iapply (Scf.wp_for_bind Idealize.ShloMosaic.frame (wpE (defs₀ (F := F)) 𝒱 (c : Thread nD τ) bd) E _ _ _ (k0_t4_ok i h2) _ _
    (fun k _ => inv4 c arg5 arg6 arg9 arg12 arg13 arg14 arg15 WORD OFF WIN SX SR a k)
    (fun k acc => trip4 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 WORD OFF WIN SX SR a h2 k acc)) $$ HI
  iintro %acc HI
  unfold inv4
  icases HI with ⟨H5, H6, H12, H13, H14, ⟨%f9', %h9, H9⟩, ⟨%f15', %h15, H15⟩⟩
  have e9 : f9' = xrecOf SX WORD OFF WIN a := funext fun y => h9 y (lt_of_lt_of_eq (blk_lt (y 0)) trips4.symm)
  have e15 : f15' = xtOf SX SR WORD OFF WIN a := funext fun y => h15 y (lt_of_lt_of_eq (blk_lt (y 0)) trips4.symm)
  subst e9 e15
  iapply Hk
  isplitl [H5]; · iexact H5
  isplitl [H6]; · iexact H6
  isplitl [H12]; · iexact H12
  isplitl [H13]; · iexact H13
  isplitl [H14]; · iexact H14
  isplitl [H9] <;> iassumption

end Cert.Kernel.Hand

end
-- ==== Proof.Chunks.lean ====
/-
  The gradient's 37 chunks of 512 columns, each copied into the kernel's own buffer by a transfer on its own semaphore: started
  at the first grid point, each waited for at the point that first reads it.
-/
module

public import proofs.«01_k».proof.Proof.Contents
public import proofs.«01_k».proof.Proof.Rules
public import proofs.«01_k».proof.Proof.Gen.Kernel.Loops
public import Idealize.ShloMosaic.Lib.Transfers
public import Idealize.ShloMosaic.Lib.Pipeline.FrameBody
public import Idealize.ShloMosaic.Lib.Ring

@[expose] public section

set_option maxRecDepth 16384

noncomputable section

namespace Cert.Kernel.Hand

open Cert.Kernel Cert.Kernel.Gen Cert.ByContents
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The user algebra: the pipeline's own beside the transfers' counters. -/
local notation "𝕄" => MT nD τ sig Unit (Elt F) ℕ (Pipeline.UD sig nD τ) ℕ

section Mix

variable {M : Type} [URA M]

theorem bigSep_at {I : Type} [DecidableEq I] {s : Finset I} {i : I} (h : i ∈ s) (Φ : I → sProp M) :
    bigSep s Φ = iprop(Φ i ∗ bigSep (s.erase i) Φ) := bigSep_erase h
theorem bigSep_sep_split {I : Type} (s : Finset I) (Φ Ψ : I → sProp M) :
    bigSep s (fun i => iprop(Φ i ∗ Ψ i)) ⊢ iprop(bigSep s Φ ∗ bigSep s Ψ) := Entails.of_eq (bigSep_sep s Φ Ψ)
theorem bigSep_sep_join {I : Type} (s : Finset I) (Φ Ψ : I → sProp M) :
    iprop(bigSep s Φ ∗ bigSep s Ψ) ⊢ bigSep s (fun i => iprop(Φ i ∗ Ψ i)) := Entails.of_eq (bigSep_sep s Φ Ψ).symm

theorem bigSep_each {I : Type} (s : Finset I) (Φ Ψ : I → sProp M) (h : ∀ i ∈ s, Φ i ⊢ Ψ i) :
    bigSep s Φ ⊢ bigSep s Ψ := bigSep_mono h

/-- The state of 37 things of which the first `k` have passed from `B` to `A`. -/
def mix (k : ℕ) (A B : Fin 37 → sProp M) (n : Fin 37) : sProp M := if n.val < k then A n else B n

/-- The next of them is at `B`, and may pass to `A`. -/
theorem mix_step (A B : Fin 37 → sProp M) (k : Fin 37) :
    bigSep Finset.univ (mix k.val A B) ⊢ iprop(B k ∗ (A k -∗ bigSep Finset.univ (mix (k.val + 1) A B))) := by
  have h0 : mix k.val A B k = B k := if_neg (lt_irrefl _)
  have h1 : mix (k.val + 1) A B k = A k := if_pos (Nat.lt_succ_self _)
  have he : bigSep (Finset.univ.erase k) (mix k.val A B) = bigSep (Finset.univ.erase k) (mix (k.val + 1) A B) :=
    bigSep_congr fun n hn => by
      have hne : n.val ≠ k.val := fun h => (Finset.mem_erase.mp hn).1 (Fin.ext h)
      unfold mix
      by_cases h : n.val < k.val
      · rw [if_pos h, if_pos (by omega)]
      · rw [if_neg h, if_neg (by omega)]
  rw [bigSep_at (Finset.mem_univ k) (mix k.val A B), h0, he, bigSep_at (Finset.mem_univ k) (mix (k.val + 1) A B), h1]
  iintro ⟨HB, HR⟩
  isplitl [HB]; · iexact HB
  iintro HA
  isplitl [HA] <;> iassumption

theorem mix_zero (A B : Fin 37 → sProp M) : mix 0 A B = B := funext fun _ => if_neg (Nat.not_lt_zero _)
theorem mix_full (A B : Fin 37 → sProp M) (k : ℕ) (hk : 37 ≤ k) : mix k A B = A := funext fun n => if_pos (lt_of_lt_of_le n.isLt hk)

end Mix

theorem chunk_inb (n : Fin 37) : ∀ a, (![0, 512 * n.val] : Fin 2 → ℕ) a + S1920x512.size a ≤ S1920x18944.size a := by
  intro a; fin_cases a
  · exact Nat.le_refl _
  · show 512 * n.val + 512 ≤ 18944; omega
theorem cell_inb (n : Fin 37) : ∀ a, (![n.val] : Fin 1 → ℕ) a + S1.size a ≤ S37.size a := by
  intro a; fin_cases a
  show n.val + 1 ≤ 37; omega

/-- Columns 512n … 512n + 511. -/
abbrev chunkR (n : Fin 37) : Rect S1920x18944 := Rect.unit (s := S1920x18944) ![0, 512 * n.val] S1920x512.size (chunk_inb n)
/-- A chunk of a buffer as wide as the gradient. -/
abbrev chunkOf {sp : Space} (m : Memref sig .tc sp S1920x18944 .fp8e5m2) (n : Fin 37) : Memref sig .tc sp S1920x512 .fp8e5m2 :=
  m.slice (Rect.unit (s := S1920x18944) ![0, 512 * n.val] S1920x512.size (chunk_inb n)) (fun _ => rfl)
/-- A chunk's semaphore. -/
abbrev cell (arg16 : DmaSems sig S37) (n : Fin 37) : DmaSem sig :=
  ((arg16.slice (Rect.unit (s := S37) ![n.val] S1.size (cell_inb n))).squeeze S_ squeezes_S1_S_).sem

/-- What chunk `n`'s columns hold of the gradient. -/
theorem dyChunk_emb (DY : Vec F S1920x18944 .fp8e5m2) (n : Fin 37) :
    (fun j => DY ((chunkR n).emb j)) = dyChunk DY n.val n.isLt := by
  funext j
  refine congrArg DY (funext fun a => Fin.ext ?_)
  refine (unit_emb_val _ _ (chunk_inb n) rfl j a).trans ?_
  fin_cases a
  · exact Nat.zero_add _
  · rfl

/-- The chunks are disjoint. -/
theorem chunk_disj (n n' : Fin 37) (h : n ≠ n') : Disjoint (chunkR n).set (chunkR n').set := by
  rw [Finset.disjoint_left]
  intro y hy hy'
  obtain ⟨j, rfl⟩ := (chunkR n).exists_idx_of_mem hy
  obtain ⟨j', he⟩ := (chunkR n').exists_idx_of_mem hy'
  have e : ((chunkR n').emb j' 1).val = ((chunkR n).emb j 1).val := congrArg (fun y : S1920x18944.Idx => (y 1).val) he
  have e1 : ((chunkR n).emb j 1).val = 512 * n.val + (j 1).val := unit_emb_val _ _ (chunk_inb n) rfl j 1
  have e2 : ((chunkR n').emb j' 1).val = 512 * n'.val + (j' 1).val := unit_emb_val _ _ (chunk_inb n') rfl j' 1
  have b1 : (j 1).val < 512 := (j 1).isLt
  have b2 : (j' 1).val < 512 := (j' 1).isLt
  exact h (Fin.ext (by omega))

/-- The chunks cover. -/
theorem chunk_cover : (Finset.univ : Finset (Fin 37)).biUnion (fun n => (chunkR n).set) = Finset.univ := by
  refine Finset.eq_univ_iff_forall.mpr fun y => ?_
  have hy : (y 1).val < 18944 := (y 1).isLt
  have hn : (y 1).val / 512 < 37 := by omega
  refine Finset.mem_biUnion.mpr ⟨⟨(y 1).val / 512, hn⟩, Finset.mem_univ _, ?_⟩
  have hy1 : (y 1).val % 512 < 512 := Nat.mod_lt _ (by decide)
  have : (chunkR ⟨(y 1).val / 512, hn⟩).emb (ix2 (y 0) (⟨(y 1).val % 512, hy1⟩ : Fin 512)) = y := by
    refine funext fun a => Fin.ext ?_
    refine (unit_emb_val _ _ (chunk_inb ⟨(y 1).val / 512, hn⟩) rfl _ a).trans ?_
    fin_cases a
    · exact Nat.zero_add _
    · show 512 * ((y 1).val / 512) + (y 1).val % 512 = (y 1).val; omega
  have hm : (chunkR ⟨(y 1).val / 512, hn⟩).emb (ix2 (y 0) (⟨(y 1).val % 512, hy1⟩ : Fin 512)) ∈ (chunkR ⟨(y 1).val / 512, hn⟩).set := by
    rw [← Rect.map_emb_univ]; exact Finset.mem_map_of_mem _ (Finset.mem_univ _)
  rw [this] at hm; exact hm

section States

variable (c : Dev nD) (arg7 : Memref sig .tc .hbm S1920x18944 .fp8e5m2) (arg10 : Memref sig .tc .vmem S1920x18944 .fp8e5m2)
variable (arg16 : DmaSems sig S37) (DY : Vec F S1920x18944 .fp8e5m2)

/-- Chunk `n` not yet copied: its semaphore at zero, its columns of the buffer at anything. -/
def Free (n : Fin 37) : sProp (MT nD τ sig Unit (Elt F) ℕ (Pipeline.UD sig nD τ) ℕ) :=
  iprop(semVal ((c : Thread nD τ), SemLoc.dma (cell arg16 n)) 0
    ∗ (∃ f, owns (c : Thread nD τ) (chunkOf arg10 n) fullShare f)
    ∗ owns (c : Thread nD τ) (chunkOf arg7 n) fullShare (dyChunk DY n.val n.isLt))
/-- What chunk `n`'s transfer delivers: its columns of the buffer at the gradient's, and the gradient's own back. -/
def Delivered (n : Fin 37) : sProp (MT nD τ sig Unit (Elt F) ℕ (Pipeline.UD sig nD τ) ℕ) :=
  iprop(owns (c : Thread nD τ) (chunkOf arg10 n) fullShare (dyChunk DY n.val n.isLt)
    ∗ owns (c : Thread nD τ) (chunkOf arg7 n) fullShare (dyChunk DY n.val n.isLt))
/-- Chunk `n` in flight. -/
def Flying (n : Fin 37) : sProp (MT nD τ sig Unit (Elt F) ℕ (Pipeline.UD sig nD τ) ℕ) :=
  Transfers.Flight (countersEmb (U := Pipeline.UD sig nD τ)) (c : Thread nD τ) (SemLoc.dma (cell arg16 n)) ()
    ((chunkOf arg10 n).view.dmaCredit) (Delivered (F := F) c arg7 arg10 DY n)
/-- Chunk `n` arrived: its semaphore at zero again. -/
def Landed (n : Fin 37) : sProp (MT nD τ sig Unit (Elt F) ℕ (Pipeline.UD sig nD τ) ℕ) :=
  iprop(semVal ((c : Thread nD τ), SemLoc.dma (cell arg16 n)) 0 ∗ Delivered (F := F) c arg7 arg10 DY n)

end States

section Rules

variable (𝒱 : Variants) (c : Dev nD) (bd : Option 𝒱.V)
variable {arg7 : Memref sig .tc .hbm S1920x18944 .fp8e5m2} {arg10 : Memref sig .tc .vmem S1920x18944 .fp8e5m2}
variable {arg16 : DmaSems sig S37} {DY : Vec F S1920x18944 .fp8e5m2}
variable {α : Type} {Q : α → sProp (MT nD τ sig Unit (Elt F) ℕ (Pipeline.UD sig nD τ) ℕ)}

/-- Starting a chunk's transfer. -/
theorem startChunk (n : Fin 37) (off2 : Fin 2 → ℕ) (inb2) (ho2 : off2 = ![0, 512 * n.val]) (off1 : Fin 1 → ℕ) (inb1) (ho1 : off1 = ![n.val])
    {hs : ∀ a, (Rect.unit (s := S1920x18944) off2 S1920x512.size inb2).stride a = 1}
    {hsrc} {hdst} {hsem} {k : PUnit → Prog (TpuEff nD τ sig (Elt F) Λ₀ .tc) α} :
    Free (F := F) c arg7 arg10 arg16 DY n
      ⊢ iprop((Flying (F := F) c arg7 arg10 arg16 DY n -∗ wp frame (wpE (defs₀ (F := F)) 𝒱 (c : Thread nD τ) bd) Set.univ (k ⟨⟩) Q)
        -∗ wp frame (wpE (defs₀ (F := F)) 𝒱 (c : Thread nD τ) bd) Set.univ
            (.op (.enqueueDma (arg7.slice (Rect.unit (s := S1920x18944) off2 S1920x512.size inb2) hs)
              (.here (arg10.slice (Rect.unit (s := S1920x18944) off2 S1920x512.size inb2) hs))
              (.dma ((arg16.slice (Rect.unit (s := S37) off1 S1.size inb1)).squeeze S_ squeezes_S1_S_).sem) hsrc hdst hsem) k) Q) := by
  subst ho2 ho1
  unfold Free
  iintro ⟨Hv, ⟨%g, Hd⟩, Hs⟩ Hk
  ihave Hd' := (show owns (c : Thread nD τ) (chunkOf arg10 n) fullShare g ⊢ iprop(∃ f, ⌜(chunkOf arg10 n).view.read (Elt F) f = g⌝
    ∗ ((chunkOf arg10 n).view.loc (c : Thread nD τ) ↦[(chunkOf arg10 n).view.set]{fullShare} f)) from .rfl) $$ Hd
  icases Hd' with ⟨%fd, -, Hd⟩
  ihave Hs' := (show owns (c : Thread nD τ) (chunkOf arg7 n) fullShare (dyChunk DY n.val n.isLt) ⊢ iprop(∃ f, ⌜(chunkOf arg7 n).view.read (Elt F) f = dyChunk DY n.val n.isLt⌝
    ∗ ((chunkOf arg7 n).view.loc (c : Thread nD τ) ↦[(chunkOf arg7 n).view.set]{fullShare} f)) from .rfl) $$ Hs
  icases Hs' with ⟨%fs, %hfs, Hs⟩
  iapply (Transfers.wp_dmaLocal (countersEmb (U := Pipeline.UD sig nD τ)) 𝒱 (c : Thread nD τ) bd (via := ReadAs.same) ()
    ((chunkOf arg10 n).view.dmaCredit) rfl (View.dmaCredit_pos _ (by decide)) (Finset.Subset.refl _)) $$ [Hs Hd Hv]
  · isplitl [Hs]; · iexact Hs
    isplitl [Hd]; · iexact Hd
    iexact Hv
  iintro HF
  iapply Hk
  unfold Flying
  iapply (Transfers.Flight_mono (countersEmb (U := Pipeline.UD sig nD τ)) (c : Thread nD τ) ?_) $$ HF
  unfold Delivered
  iintro ⟨Hd, Hs⟩
  isplitl [Hd]
  · unfold owns
    iexists _; isplitr; swap; · iexact Hd
    ipureintro
    rw [View.read_write_univ]; exact hfs
  · unfold owns
    iexists _; isplitr; swap; · iexact Hs
    ipureintro; exact hfs

/-- Waiting for a chunk's transfer. -/
theorem waitChunk (n : Fin 37) (off2 : Fin 2 → ℕ) (inb2) (ho2 : off2 = ![0, 512 * n.val]) (off1 : Fin 1 → ℕ) (inb1) (ho1 : off1 = ![n.val])
    {hs : ∀ a, (Rect.unit (s := S1920x18944) off2 S1920x512.size inb2).stride a = 1} {W : Waits sig Unit}
    {hsrc} {hdst} {k : PUnit → Prog (TpuEff nD τ sig (Elt F) Λ₀ .tc) α} :
    iprop(Flying (F := F) c arg7 arg10 arg16 DY n ∗ owes (c : Thread nD τ) 0 W)
      ⊢ iprop(((Landed (F := F) c arg7 arg10 arg16 DY n ∗ (∃ W', owes (c : Thread nD τ) 0 W')) -∗ wp frame (wpE (defs₀ (F := F)) 𝒱 (c : Thread nD τ) bd) Set.univ (k ⟨⟩) Q)
        -∗ wp frame (wpE (defs₀ (F := F)) 𝒱 (c : Thread nD τ) bd) Set.univ
            (.op (.waitDma2 ((arg16.slice (Rect.unit (s := S37) off1 S1.size inb1)).squeeze S_ squeezes_S1_S_).sem
              (arg7.slice (Rect.unit (s := S1920x18944) off2 S1920x512.size inb2) hs)
              (arg10.slice (Rect.unit (s := S1920x18944) off2 S1920x512.size inb2) hs) hsrc hdst) k) Q) := by
  subst ho2 ho1
  unfold Flying
  iintro ⟨HF, HW⟩ Hk
  iapply (Transfers.wp_waitLocal (countersEmb (U := Pipeline.UD sig nD τ)) 𝒱 (c : Thread nD τ) bd () rfl) $$ [HF HW]
  · isplitl [HF]; · iexact HF
    iexact HW
  iintro ⟨HD, Hv, HW⟩
  iapply Hk
  isplitl [HD Hv]
  · unfold Landed; isplitl [Hv]; · iexact Hv
    iexact HD
  · iexists _; iexact HW

/-- Loading a chunk's columns of the buffer. -/
theorem loadChunk (n : Fin 37) (off2 : Fin 2 → ℕ) (inb2) (ho2 : off2 = ![0, 512 * n.val])
    {hl} {k : Vec F S1920x512 .fp8e5m2 → Prog (TpuEff nD τ sig (Elt F) Λ₀ .tc) α} :
    Landed (F := F) c arg7 arg10 arg16 DY n
      ⊢ iprop((Landed (F := F) c arg7 arg10 arg16 DY n -∗ wp frame (wpE (defs₀ (F := F)) 𝒱 (c : Thread nD τ) bd) Set.univ (k (dyChunk DY n.val n.isLt)) Q)
        -∗ wp frame (wpE (defs₀ (F := F)) 𝒱 (c : Thread nD τ) bd) Set.univ
            (.op (.load arg10 (Rect.unit (s := S1920x18944) off2 S1920x512.size inb2).toLoadRect hl) k) Q) := by
  subst ho2
  unfold Landed Delivered
  iintro ⟨Hv, Hd, Hs⟩ Hk
  ihave Hd' := (show owns (c : Thread nD τ) (chunkOf arg10 n) fullShare (dyChunk DY n.val n.isLt) ⊢ iprop(∃ f, ⌜(chunkOf arg10 n).view.read (Elt F) f = dyChunk DY n.val n.isLt⌝
    ∗ ((chunkOf arg10 n).view.loc (c : Thread nD τ) ↦[(chunkOf arg10 n).view.set]{fullShare} f)) from .rfl) $$ Hd
  icases Hd' with ⟨%fd, %hfd, Hd⟩
  iapply (wp_load 𝒱 (c : Thread nD τ) bd Set.univ (m := arg10) (r := (Rect.unit (s := S1920x18944) ![0, 512 * n.val] S1920x512.size inb2).toLoadRect) (hl := hl) (k := k) (f := fd)
    (S := (chunkOf arg10 n).view.set) (le_of_eq (View.set_slice _ _).symm)) $$ Hd
  iintro Hd
  have : (arg10.view.readAt (Elt F) (Rect.unit (s := S1920x18944) ![0, 512 * n.val] S1920x512.size inb2).toLoadRect fd) = dyChunk DY n.val n.isLt := by
    rw [← hfd]; rfl
  rw [this]
  iapply Hk
  isplitl [Hv]; · iexact Hv
  isplitl [Hd]
  · unfold owns; iexists fd; isplitr
    · ipureintro; exact hfd
    · iexact Hd
  · iexact Hs

end Rules

section Loop

variable (𝒱 : Variants) (c : Dev nD) (bd : Option 𝒱.V) (i : grid0.Coords)
variable (arg2 : Memref sig .tc .smem S1920 .i32)
  (harg2 : arg2.IsWhole)
  (arg3 : Memref sig .tc .vmem S1920x112 .i32)
  (harg3 : arg3.IsWhole)
  (arg4 : Memref sig .tc .vmem S13440x128 .i8)
  (harg4 : arg4.IsWhole)
  (arg5 : Memref sig .tc .vmem S1920x128 .f32)
  (harg5 : arg5.IsWhole)
  (arg6 : Memref sig .tc .vmem S1920x128 .f32)
  (harg6 : arg6.IsWhole)
  (arg7 : Memref sig .tc .hbm S1920x18944 .fp8e5m2)
  (harg7 : arg7.IsWhole)
  (arg8 : Memref sig .tc .vmem S256x512 .f32)
  (harg8 : arg8.IsWhole)
  (arg9 : Memref sig .tc .vmem S1920x256 .bf16)
  (harg9 : arg9.IsWhole)
  (arg10 : Memref sig .tc .vmem S1920x18944 .fp8e5m2)
  (harg10 : arg10.IsWhole)
  (arg11 : Memref sig .tc .vmem S3360x128 .i32)
  (harg11 : arg11.IsWhole)
  (arg12 : Memref sig .tc .vmem S3x1920x128 .i32)
  (harg12 : arg12.IsWhole)
  (arg13 : Memref sig .tc .vmem S1920x128 .i32)
  (harg13 : arg13.IsWhole)
  (arg14 : Memref sig .tc .vmem S1920x128 .i32)
  (harg14 : arg14.IsWhole)
  (arg15 : Memref sig .tc .vmem S1920x256 .bf16)
  (harg15 : arg15.IsWhole)
  (arg16 : DmaSems sig S37)
variable (DY : Vec F S1920x18944 .fp8e5m2)

theorem trips1 : k0_t1_loop.trips = 37 := by decide +kernel
theorem off1_eq (k : Fin k0_t1_loop.trips) : k0_off1 k = ![(k.cast trips1).val] := by
  revert k; decide +kernel
theorem off2_eq (k : Fin k0_t1_loop.trips) : k0_off2 k = ![0, 512 * (k.cast trips1).val] := by
  revert k; decide +kernel

/-- The loop over the chunks starts every transfer. -/
theorem loop1 (h1 : k0_cond1 i = 1#1) {α : Type} {kk : Unit → Prog (TpuEff nD τ sig (Elt F) Λ₀ .tc) α}
    {Q : α → sProp (MT nD τ sig Unit (Elt F) ℕ (Pipeline.UD sig nD τ) ℕ)} :
    bigSep Finset.univ (Free (F := F) c arg7 arg10 arg16 DY)
      ⊢ iprop((∀ acc, bigSep Finset.univ (Flying (F := F) c arg7 arg10 arg16 DY)
            -∗ wp frame (wpE (defs₀ (F := F)) 𝒱 (c : Thread nD τ) bd) Set.univ (kk acc) Q)
        -∗ wp frame (wpE (defs₀ (F := F)) 𝒱 (c : Thread nD τ) bd) Set.univ
            (Scf.Loop.for k0_t1_loop (k0_t1_ok i h1) ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 h1) >>= kk) Q) := by
  have trip : ∀ (k : Fin k0_t1_loop.trips) (acc : Unit),
      bigSep Finset.univ (mix k.val (Flying (F := F) c arg7 arg10 arg16 DY) (Free (F := F) c arg7 arg10 arg16 DY))
        ⊢ wp frame (wpE (defs₀ (F := F)) 𝒱 (c : Thread nD τ) bd) Set.univ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 h1 k acc)
            (fun _ => bigSep Finset.univ (mix (k.val + 1) (Flying (F := F) c arg7 arg10 arg16 DY) (Free (F := F) c arg7 arg10 arg16 DY))) := by
    intro k acc
    refine (mix_step (Flying (F := F) c arg7 arg10 arg16 DY) (Free (F := F) c arg7 arg10 arg16 DY) (k.cast trips1)).trans ?_
    unfold k0_t1_body
    iintro ⟨HB, HR⟩
    iapply (startChunk 𝒱 c bd (k.cast trips1) (k0_off2 k) _ (off2_eq k) (k0_off1 k) _ (off1_eq k)) $$ HB
    iintro HA
    iapply (done 𝒱 (c : Thread nD τ) bd Set.univ)
    iapply HR; iexact HA
  iintro H Hk
  rw [← mix_zero (Flying (F := F) c arg7 arg10 arg16 DY) (Free (F := F) c arg7 arg10 arg16 DY)]
  iapply (Scf.wp_for_bind Idealize.ShloMosaic.frame (wpE (defs₀ (F := F)) 𝒱 (c : Thread nD τ) bd) Set.univ _ _ _ (k0_t1_ok i h1) _ _
    (fun k _ => bigSep Finset.univ (mix k (Flying (F := F) c arg7 arg10 arg16 DY) (Free (F := F) c arg7 arg10 arg16 DY))) trip) $$ H
  iintro %acc H
  rw [mix_full _ _ _ (le_of_eq trips1.symm)]
  iapply Hk; iexact H

end Loop

section Whole

variable (c : Dev nD) (arg7 : Memref sig .tc .hbm S1920x18944 .fp8e5m2) (arg10 : Memref sig .tc .vmem S1920x18944 .fp8e5m2)
variable (arg16 : DmaSems sig S37) (DY : Vec F S1920x18944 .fp8e5m2)

/-- A whole buffer is its chunks, each at its columns, -/
theorem chunks_split {sp : Space} (m : Memref sig .tc sp S1920x18944 .fp8e5m2) (X : Vec F S1920x18944 .fp8e5m2) :
    (owns (c : Thread nD τ) m fullShare X : sProp (MT nD τ sig Unit (Elt F) ℕ (Pipeline.UD sig nD τ) ℕ))
      ⊢ bigSep Finset.univ fun n : Fin 37 => owns (c : Thread nD τ) (chunkOf m n) fullShare (dyChunk X n.val n.isLt) :=
  (owns_rects (c : Thread nD τ) m fullShare chunkR (fun _ _ => rfl) chunk_disj chunk_cover X).trans
    (Entails.of_eq (bigSep_congr fun n _ => congrArg (owns (c : Thread nD τ) (chunkOf m n) fullShare) (dyChunk_emb X n)))
/-- and the chunks are the buffer. -/
theorem chunks_join {sp : Space} (m : Memref sig .tc sp S1920x18944 .fp8e5m2) (X : Vec F S1920x18944 .fp8e5m2) :
    (bigSep Finset.univ fun n : Fin 37 => owns (c : Thread nD τ) (chunkOf m n) fullShare (dyChunk X n.val n.isLt))
      ⊢ (owns (c : Thread nD τ) m fullShare X : sProp (MT nD τ sig Unit (Elt F) ℕ (Pipeline.UD sig nD τ) ℕ)) :=
  (Entails.of_eq (bigSep_congr fun n _ => congrArg (owns (c : Thread nD τ) (chunkOf m n) fullShare) (dyChunk_emb X n).symm)).trans
    (owns_of_rects (c : Thread nD τ) m fullShare chunkR (fun _ _ => rfl) chunk_disj chunk_cover X)

theorem free_intro (f : Vec F S1920x18944 .fp8e5m2) (n : Fin 37) :
    iprop(semVal ((c : Thread nD τ), SemLoc.dma (cell arg16 n)) 0
        ∗ (owns (c : Thread nD τ) (chunkOf arg10 n) fullShare (dyChunk f n.val n.isLt)
          ∗ owns (c : Thread nD τ) (chunkOf arg7 n) fullShare (dyChunk DY n.val n.isLt)))
      ⊢ Free (F := F) c arg7 arg10 arg16 DY n := by
  unfold Free
  iintro ⟨Hv, H10, H7⟩
  isplitl [Hv]; · iexact Hv
  isplitl [H10]
  · iexists _; iexact H10
  · iexact H7

/-- The two whole buffers and the semaphores at zero are the chunks not yet copied. -/
theorem free_of_whole :
    iprop(bigSep Finset.univ (fun n : Fin 37 => (semVal ((c : Thread nD τ), SemLoc.dma (cell arg16 n)) 0 : sProp (MT nD τ sig Unit (Elt F) ℕ (Pipeline.UD sig nD τ) ℕ)))
        ∗ (∃ f, owns (c : Thread nD τ) arg10 fullShare f) ∗ owns (c : Thread nD τ) arg7 fullShare DY)
      ⊢ bigSep Finset.univ (Free (F := F) c arg7 arg10 arg16 DY) := by
  iintro ⟨Hv, ⟨%f, H10⟩, H7⟩
  ihave H10 := (chunks_split c arg10 f) $$ H10
  ihave H7 := (chunks_split c arg7 DY) $$ H7
  ihave H := (bigSep_sep_join Finset.univ _ _) $$ [H10 H7]
  · isplitl [H10]; · iexact H10
    iexact H7
  ihave H := (bigSep_sep_join Finset.univ _ _) $$ [Hv H]
  · isplitl [Hv]; · iexact Hv
    iexact H
  iapply (bigSep_each Finset.univ _ _ fun n _ => free_intro c arg7 arg10 arg16 DY f n) $$ H

/-- The chunks all arrived are the two whole buffers, both at the gradient, and the semaphores at zero. -/
theorem whole_of_landed :
    bigSep Finset.univ (Landed (F := F) c arg7 arg10 arg16 DY)
      ⊢ iprop(bigSep Finset.univ (fun n : Fin 37 => (semVal ((c : Thread nD τ), SemLoc.dma (cell arg16 n)) 0 : sProp (MT nD τ sig Unit (Elt F) ℕ (Pipeline.UD sig nD τ) ℕ)))
        ∗ owns (c : Thread nD τ) arg10 fullShare DY ∗ owns (c : Thread nD τ) arg7 fullShare DY) := by
  unfold Landed Delivered
  iintro H
  ihave H' := (bigSep_sep_split Finset.univ _ _) $$ H
  icases H' with ⟨Hv, H⟩
  ihave H' := (bigSep_sep_split Finset.univ _ _) $$ H
  icases H' with ⟨H10, H7⟩
  isplitl [Hv]; · iexact Hv
  isplitl [H10]
  · iapply (chunks_join c arg10 DY) $$ H10
  · iapply (chunks_join c arg7 DY) $$ H7

end Whole

end Cert.Kernel.Hand

end
-- ==== Proof.Body.lean ====
/-
  The kernel's body at one grid point, in its four cases: the first point; the later points of the first column group, which
  still wait for chunks; the first point of a later column group, which decodes; the points between.
-/
module

public import proofs.«01_k».proof.Proof.Windows
public import proofs.«01_k».proof.Proof.Prefix
public import proofs.«01_k».proof.Proof.Decode
public import proofs.«01_k».proof.Proof.Chunks

@[expose] public section

set_option maxRecDepth 16384

noncomputable section

namespace Cert.Kernel.Hand

open Cert.Kernel Cert.Kernel.Gen Cert.ByContents
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The user algebra: the pipeline's own beside the transfers' counters. -/
local notation "𝕄" => MT nD τ sig Unit (Elt F) ℕ (Pipeline.UD sig nD τ) ℕ

section WholeRect

variable {s : Shape} {β : Type} (off : Fin s.rank → ℕ) (inb : ∀ a, off a + s.size a ≤ s.size a)

/-- The rectangle of a whole shape places every index at itself. -/
theorem emb_whole (ho : off = fun _ => 0) (X : s.Idx → β) (j : (Rect.unit (s := s) off s.size inb).shape.Idx) :
    X ((Rect.unit (s := s) off s.size inb).emb j) = X j :=
  congrArg X (funext fun a => Fin.ext ((unit_emb_val off s.size inb ho j a).trans (Nat.zero_add _)))

/-- A store over the whole shape leaves the payload. -/
theorem put_whole (ho : off = fun _ => 0) (X w : s.Idx → β) : put (Rect.unit (s := s) off s.size inb) X w = w := by
  funext y
  exact put_unit_in off s.size inb ho X w y y fun a => (Nat.zero_add _).symm

end WholeRect

theorem zero2 : (![0, 0] : Fin 2 → ℕ) = fun _ => 0 := by funext a; fin_cases a <;> rfl

/-- The mask words stored over zeros: the first 112 lanes are the operand's. -/
theorem put_word (MASK : Vec F S1920x112 .i32) :
    put (Rect.unit (s := S1920x128) ![0, 0] S1920x112.size inb_S1920x128_S1920x112_0_0) (k0_pay6 : Vec F S1920x128 .i32) (k0_pay7 MASK)
      = word (F := F) MASK := by
  funext y
  obtain ⟨t, l, rfl⟩ : ∃ (t : Fin 1920) (l : Fin 128), y = ix2 t l := ⟨y 0, y 1, eq_ix2 y⟩
  by_cases h : l.val < 112
  · have hin := put_unit_in (s := S1920x128) ![0, 0] S1920x112.size inb_S1920x128_S1920x112_0_0 zero2 (k0_pay6 : Vec F S1920x128 .i32) (k0_pay7 MASK)
      (ix2 t l) (ix2 t (⟨l.val, h⟩ : Fin 112)) (by intro a; fin_cases a <;> exact (Nat.zero_add _).symm)
    refine hin.trans ?_
    show _ = dite (l.val < 112) (fun h => k0_pay7 MASK (ix2 t (⟨l.val, h⟩ : Fin 112))) (fun _ => (k0_pay6 : Vec F S1920x128 .i32) (ix2 t l))
    rw [dif_pos h]
  · have hout := put_unit_out (s := S1920x128) ![0, 0] S1920x112.size inb_S1920x128_S1920x112_0_0 zero2 (k0_pay6 : Vec F S1920x128 .i32) (k0_pay7 MASK)
      (ix2 t l) (1 : Fin 2) (Or.inr (by show 0 + 112 ≤ l.val; omega))
    refine hout.trans ?_
    show _ = dite (l.val < 112) (fun h => k0_pay7 MASK (ix2 t (⟨l.val, h⟩ : Fin 112))) (fun _ => (k0_pay6 : Vec F S1920x128 .i32) (ix2 t l))
    rw [dif_neg h]

variable (𝒱 : Variants) (c : Dev nD) (bd : Option 𝒱.V) (i : grid0.Coords)
variable (arg2 : Memref sig .tc .smem S1920 .i32)
  (harg2 : arg2.IsWhole)
  (arg3 : Memref sig .tc .vmem S1920x112 .i32)
  (harg3 : arg3.IsWhole)
  (arg4 : Memref sig .tc .vmem S13440x128 .i8)
  (harg4 : arg4.IsWhole)
  (arg5 : Memref sig .tc .vmem S1920x128 .f32)
  (harg5 : arg5.IsWhole)
  (arg6 : Memref sig .tc .vmem S1920x128 .f32)
  (harg6 : arg6.IsWhole)
  (arg7 : Memref sig .tc .hbm S1920x18944 .fp8e5m2)
  (harg7 : arg7.IsWhole)
  (arg8 : Memref sig .tc .vmem S256x512 .f32)
  (harg8 : arg8.IsWhole)
  (arg9 : Memref sig .tc .vmem S1920x256 .bf16)
  (harg9 : arg9.IsWhole)
  (arg10 : Memref sig .tc .vmem S1920x18944 .fp8e5m2)
  (harg10 : arg10.IsWhole)
  (arg11 : Memref sig .tc .vmem S3360x128 .i32)
  (harg11 : arg11.IsWhole)
  (arg12 : Memref sig .tc .vmem S3x1920x128 .i32)
  (harg12 : arg12.IsWhole)
  (arg13 : Memref sig .tc .vmem S1920x128 .i32)
  (harg13 : arg13.IsWhole)
  (arg14 : Memref sig .tc .vmem S1920x128 .i32)
  (harg14 : arg14.IsWhole)
  (arg15 : Memref sig .tc .vmem S1920x256 .bf16)
  (harg15 : arg15.IsWhole)
  (arg16 : DmaSems sig S37)
variable (CNT : Vec F S1920 .i32) (MASK : Vec F S1920x112 .i32) (VAL : Vec F S13440x128 .i8) (SX SR : Vec F S1920x128 .f32)
variable (DY : Vec F S1920x18944 .fp8e5m2)

/-- The operands, whole and unchanged. -/
def Ops : sProp (MT nD τ sig Unit (Elt F) ℕ (Pipeline.UD sig nD τ) ℕ) :=
  iprop(owns (c : Thread nD τ) arg2 fullShare CNT ∗ owns (c : Thread nD τ) arg3 fullShare MASK ∗ owns (c : Thread nD τ) arg4 fullShare VAL
    ∗ owns (c : Thread nD τ) arg5 fullShare SX ∗ owns (c : Thread nD τ) arg6 fullShare SR)
/-- The scratch before the first point: anything. -/
def Fresh : sProp (MT nD τ sig Unit (Elt F) ℕ (Pipeline.UD sig nD τ) ℕ) :=
  iprop((∃ f, owns (c : Thread nD τ) arg11 fullShare f) ∗ (∃ f, owns (c : Thread nD τ) arg12 fullShare f)
    ∗ (∃ f, owns (c : Thread nD τ) arg13 fullShare f) ∗ (∃ f, owns (c : Thread nD τ) arg14 fullShare f)
    ∗ (∃ f, owns (c : Thread nD τ) arg15 fullShare f))
/-- The scratch after a point of column group `a`: the windows, the offsets, the mask words, the rescaled tokens of the group. -/
def Held (a : BitVec 32) : sProp (MT nD τ sig Unit (Elt F) ℕ (Pipeline.UD sig nD τ) ℕ) :=
  iprop((∃ f, owns (c : Thread nD τ) arg11 fullShare f) ∗ owns (c : Thread nD τ) arg12 fullShare (win CNT VAL)
    ∗ owns (c : Thread nD τ) arg13 fullShare (off1 (F := F) CNT MASK) ∗ owns (c : Thread nD τ) arg14 fullShare (word (F := F) MASK)
    ∗ owns (c : Thread nD τ) arg15 fullShare (xt CNT MASK VAL SX SR a))

/-- What every point ends with: the operands, its two results, the scratch held, the chunks up to its own arrived. -/
def After (a : BitVec 32) (n : Fin 37) (k : ℕ) : sProp (MT nD τ sig Unit (Elt F) ℕ (Pipeline.UD sig nD τ) ℕ) :=
  iprop(Ops c arg2 arg3 arg4 arg5 arg6 CNT MASK VAL SX SR
    ∗ owns (c : Thread nD τ) arg8 fullShare (k0_pay10 (xt CNT MASK VAL SX SR a) (dyChunk DY n.val n.isLt))
    ∗ owns (c : Thread nD τ) arg9 fullShare (xrec CNT MASK VAL SX a)
    ∗ Held c arg11 arg12 arg13 arg14 arg15 CNT MASK VAL SX SR a
    ∗ bigSep Finset.univ (mix k (Landed (F := F) c arg7 arg10 arg16 DY) (Flying (F := F) c arg7 arg10 arg16 DY))
    ∗ (∃ W', owes (c : Thread nD τ) 0 W'))

section

variable {M : Type} [URA M]

theorem mix_start (A B : Fin 37 → sProp M) (k : ℕ) (hk : k = 0) : bigSep Finset.univ B ⊢ bigSep Finset.univ (mix k A B) := by
  subst hk; rw [mix_zero A B]

/-- Once all have passed, any one may be taken and put back. -/
theorem landed_at (A B : Fin 37 → sProp M) (n : Fin 37) (k : ℕ) (hk : 37 ≤ k) :
    bigSep Finset.univ (mix k A B) ⊢ iprop(A n ∗ (A n -∗ bigSep Finset.univ (mix (k + 1) A B))) := by
  rw [mix_full A B k hk, mix_full A B (k + 1) (by omega), bigSep_at (Finset.mem_univ n) A]
  iintro ⟨HA, HR⟩
  isplitl [HA]; · iexact HA
  iintro HA
  isplitl [HA]; · iexact HA
  iexact HR

end

set_option maxHeartbeats 4000000 in
/-- The first point: the transfers started, the windows and offsets made, the first column group decoded, the first chunk waited for. -/
theorem body_first (n : Fin 37) (h1 : k0_cond1 i = 1#1) (h2 : k0_cond2 i = 1#1) (h3 : k0_cond3 i = 1#1)
    (ho16 : k0_off16 i = ![n.val]) (ho17 : k0_off17 i = ![0, 512 * n.val]) (ho18 : k0_off18 i = ![0, 512 * n.val]) (hn : n.val = 0)
    (W : Waits sig Unit) :
    iprop(Ops c arg2 arg3 arg4 arg5 arg6 CNT MASK VAL SX SR ∗ (∃ f, owns (c : Thread nD τ) arg8 fullShare f)
        ∗ (∃ f, owns (c : Thread nD τ) arg9 fullShare f) ∗ Fresh c arg11 arg12 arg13 arg14 arg15 ∗ bigSep Finset.univ (Free (F := F) c arg7 arg10 arg16 DY) ∗ owes (c : Thread nD τ) 0 W)
      ⊢ wp frame (wpE (defs₀ (F := F)) 𝒱 (c : Thread nD τ) bd) Set.univ (cc0_dropit_dw (F := F) i arg2 harg2 arg3 harg3 arg4 harg4 arg5 harg5 arg6 harg6 arg7 harg7 arg8 harg8 arg9 harg9 arg10 harg10 arg11 harg11 arg12 harg12 arg13 harg13 arg14 harg14 arg15 harg15 arg16)
          (fun _ => After c arg2 arg3 arg4 arg5 arg6 arg7 arg8 arg9 arg10 arg11 arg12 arg13 arg14 arg15 arg16 CNT MASK VAL SX SR DY
            (BitVec.ofNat 32 (i 0).val) n (n.val + 1)) := by
  rw [cc0_dropit_dw_eq_skeleton]
  unfold cc0_dropit_dw_skel
  dsimp -proj only
  rw [dif_pos h1, dif_pos h2, dif_pos h3]
  unfold After Ops Held
  iintro ⟨⟨H2, H3, H4, H5, H6⟩, ⟨%f8, H8⟩, H9, HS, HC, HW⟩
  unfold Fresh
  icases HS with ⟨⟨%f11, H11⟩, H12, H13, ⟨%f14, H14⟩, H15⟩
  iapply (loop1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 DY h1) $$ HC
  iintro %_ HC
  iapply (loadAs 𝒱 (c : Thread nD τ) bd Set.univ (VAL) (emb_whole _ _ zero2 (VAL))) $$ H4
  iintro H4
  iapply (loadAs 𝒱 (c : Thread nD τ) bd Set.univ (f11) (emb_whole _ _ zero2 (f11))) $$ H11
  iintro H11
  iapply (store 𝒱 (c : Thread nD τ) bd Set.univ) $$ H11
  iintro H11
  rw [put_whole _ _ zero2]
  iapply (loop2 𝒱 c bd Set.univ i arg2 harg2 arg3 harg3 arg4 harg4 arg5 harg5 arg6 harg6 arg7 harg7 arg8 harg8 arg9 harg9 arg10 harg10 arg11 harg11 arg12 harg12 arg13 harg13 arg14 harg14 arg15 harg15 arg16 CNT VAL h1) $$ [H2 H11 H12 H13]
  · isplitl [H2]; · iexact H2
    isplitl [H11]; · iexact H11
    isplitl [H12]; · iexact H12
    iexact H13
  iintro %_ ⟨H2, H11, H12, H13⟩
  iapply (loadAs 𝒱 (c : Thread nD τ) bd Set.univ (f14) (emb_whole _ _ zero2 (f14))) $$ H14
  iintro H14
  iapply (store 𝒱 (c : Thread nD τ) bd Set.univ) $$ H14
  iintro H14
  rw [put_whole _ _ zero2]
  iapply (loadAs 𝒱 (c : Thread nD τ) bd Set.univ (MASK) (emb_whole _ _ zero2 (MASK))) $$ H3
  iintro H3
  iapply (load 𝒱 (c : Thread nD τ) bd Set.univ) $$ H14
  iintro H14
  iapply (store 𝒱 (c : Thread nD τ) bd Set.univ) $$ H14
  iintro H14
  rw [put_word]
  iapply (loop3 𝒱 c bd Set.univ i arg2 harg2 arg3 harg3 arg4 harg4 arg5 harg5 arg6 harg6 arg7 harg7 arg8 harg8 arg9 harg9 arg10 harg10 arg11 harg11 arg12 harg12 arg13 harg13 arg14 harg14 arg15 harg15 arg16 (word MASK) (off0 CNT) h1) $$ [H13 H14]
  · isplitl [H14]; · iexact H14
    iexact H13
  iintro %_ ⟨H14, H13⟩
  iapply (loop4 𝒱 c bd Set.univ i arg2 harg2 arg3 harg3 arg4 harg4 arg5 harg5 arg6 harg6 arg7 harg7 arg8 harg8 arg9 harg9 arg10 harg10 arg11 harg11 arg12 harg12 arg13 harg13 arg14 harg14 arg15 harg15 arg16 (word MASK) (off1 CNT MASK) (win CNT VAL) SX SR (BitVec.ofNat 32 (i 0).val) h2) $$ [H5 H6 H9 H12 H13 H14 H15]
  · isplitl [H5]; · iexact H5
    isplitl [H6]; · iexact H6
    isplitl [H12]; · iexact H12
    isplitl [H13]; · iexact H13
    isplitl [H14]; · iexact H14
    isplitl [H9]; · iexact H9
    iexact H15
  iintro %_ ⟨H5, H6, H12, H13, H14, H9, H15⟩
  ihave HC := (mix_start (Landed (F := F) c arg7 arg10 arg16 DY) (Flying (F := F) c arg7 arg10 arg16 DY) n.val hn) $$ HC
  ihave HC := (mix_step (Landed (F := F) c arg7 arg10 arg16 DY) (Flying (F := F) c arg7 arg10 arg16 DY) n) $$ HC
  icases HC with ⟨HF, HR⟩
  iapply (waitChunk 𝒱 c bd n (k0_off17 i) _ ho17 (k0_off16 i) _ ho16) $$ [HF HW]
  · isplitl [HF]; · iexact HF
    iexact HW
  iintro ⟨HL, HW⟩
  iapply (loadAs 𝒱 (c : Thread nD τ) bd Set.univ (xt CNT MASK VAL SX SR (BitVec.ofNat 32 (i 0).val)) (emb_whole _ _ zero2 (xt CNT MASK VAL SX SR (BitVec.ofNat 32 (i 0).val)))) $$ H15
  iintro H15
  iapply (loadChunk 𝒱 c bd n (k0_off18 i) _ ho18) $$ HL
  iintro HL
  iapply (loadAs 𝒱 (c : Thread nD τ) bd Set.univ (f8) (emb_whole _ _ zero2 (f8))) $$ H8
  iintro H8
  iapply (store 𝒱 (c : Thread nD τ) bd Set.univ) $$ H8
  iintro H8
  rw [put_whole _ _ zero2]
  iapply (done 𝒱 (c : Thread nD τ) bd Set.univ)
  isplitl [H2 H3 H4 H5 H6]
  · isplitl [H2]; · iexact H2
    isplitl [H3]; · iexact H3
    isplitl [H4]; · iexact H4
    isplitl [H5]; · iexact H5
    iexact H6
  isplitl [H8]; · iexact H8
  isplitl [H9]; · iexact H9
  isplitl [H11 H12 H13 H14 H15]
  · isplitl [H11]
    · iexists _; iexact H11
    isplitl [H12]; · iexact H12
    isplitl [H13]; · iexact H13
    isplitl [H14]; · iexact H14
    iexact H15
  isplitl [HL HR]
  · iapply HR; iexact HL
  iexact HW

set_option maxHeartbeats 4000000 in
/-- A later point of the first column group: its chunk waited for. -/
theorem body_early (n : Fin 37) (h1 : ¬ k0_cond1 i = 1#1) (h2 : ¬ k0_cond2 i = 1#1) (h3 : k0_cond3 i = 1#1)
    (ho16 : k0_off16 i = ![n.val]) (ho17 : k0_off17 i = ![0, 512 * n.val]) (ho18 : k0_off18 i = ![0, 512 * n.val])
    (W : Waits sig Unit) :
    iprop(Ops c arg2 arg3 arg4 arg5 arg6 CNT MASK VAL SX SR ∗ (∃ f, owns (c : Thread nD τ) arg8 fullShare f)
        ∗ owns (c : Thread nD τ) arg9 fullShare (xrec CNT MASK VAL SX (BitVec.ofNat 32 (i 0).val)) ∗ Held c arg11 arg12 arg13 arg14 arg15 CNT MASK VAL SX SR (BitVec.ofNat 32 (i 0).val) ∗ bigSep Finset.univ (mix n.val (Landed (F := F) c arg7 arg10 arg16 DY) (Flying (F := F) c arg7 arg10 arg16 DY)) ∗ owes (c : Thread nD τ) 0 W)
      ⊢ wp frame (wpE (defs₀ (F := F)) 𝒱 (c : Thread nD τ) bd) Set.univ (cc0_dropit_dw (F := F) i arg2 harg2 arg3 harg3 arg4 harg4 arg5 harg5 arg6 harg6 arg7 harg7 arg8 harg8 arg9 harg9 arg10 harg10 arg11 harg11 arg12 harg12 arg13 harg13 arg14 harg14 arg15 harg15 arg16)
          (fun _ => After c arg2 arg3 arg4 arg5 arg6 arg7 arg8 arg9 arg10 arg11 arg12 arg13 arg14 arg15 arg16 CNT MASK VAL SX SR DY
            (BitVec.ofNat 32 (i 0).val) n (n.val + 1)) := by
  rw [cc0_dropit_dw_eq_skeleton]
  unfold cc0_dropit_dw_skel
  dsimp -proj only
  rw [dif_neg h1, dif_neg h2, dif_pos h3]
  unfold After Ops Held
  iintro ⟨⟨H2, H3, H4, H5, H6⟩, ⟨%f8, H8⟩, H9, HS, HC, HW⟩
  icases HS with ⟨⟨%f11, H11⟩, H12, H13, H14, H15⟩
  ihave HC := (mix_step (Landed (F := F) c arg7 arg10 arg16 DY) (Flying (F := F) c arg7 arg10 arg16 DY) n) $$ HC
  icases HC with ⟨HF, HR⟩
  iapply (waitChunk 𝒱 c bd n (k0_off17 i) _ ho17 (k0_off16 i) _ ho16) $$ [HF HW]
  · isplitl [HF]; · iexact HF
    iexact HW
  iintro ⟨HL, HW⟩
  iapply (loadAs 𝒱 (c : Thread nD τ) bd Set.univ (xt CNT MASK VAL SX SR (BitVec.ofNat 32 (i 0).val)) (emb_whole _ _ zero2 (xt CNT MASK VAL SX SR (BitVec.ofNat 32 (i 0).val)))) $$ H15
  iintro H15
  iapply (loadChunk 𝒱 c bd n (k0_off18 i) _ ho18) $$ HL
  iintro HL
  iapply (loadAs 𝒱 (c : Thread nD τ) bd Set.univ (f8) (emb_whole _ _ zero2 (f8))) $$ H8
  iintro H8
  iapply (store 𝒱 (c : Thread nD τ) bd Set.univ) $$ H8
  iintro H8
  rw [put_whole _ _ zero2]
  iapply (done 𝒱 (c : Thread nD τ) bd Set.univ)
  isplitl [H2 H3 H4 H5 H6]
  · isplitl [H2]; · iexact H2
    isplitl [H3]; · iexact H3
    isplitl [H4]; · iexact H4
    isplitl [H5]; · iexact H5
    iexact H6
  isplitl [H8]; · iexact H8
  isplitl [H9]; · iexact H9
  isplitl [H11 H12 H13 H14 H15]
  · isplitl [H11]
    · iexists _; iexact H11
    isplitl [H12]; · iexact H12
    isplitl [H13]; · iexact H13
    isplitl [H14]; · iexact H14
    iexact H15
  isplitl [HL HR]
  · iapply HR; iexact HL
  iexact HW

set_option maxHeartbeats 4000000 in
/-- The first point of a later column group: the group decoded. -/
theorem body_group (n : Fin 37) (h1 : ¬ k0_cond1 i = 1#1) (h2 : k0_cond2 i = 1#1) (h3 : ¬ k0_cond3 i = 1#1)
    (ho16 : k0_off16 i = ![n.val]) (ho17 : k0_off17 i = ![0, 512 * n.val]) (ho18 : k0_off18 i = ![0, 512 * n.val]) (k : ℕ) (hk : 37 ≤ k) (a : BitVec 32)
    (W : Waits sig Unit) :
    iprop(Ops c arg2 arg3 arg4 arg5 arg6 CNT MASK VAL SX SR ∗ (∃ f, owns (c : Thread nD τ) arg8 fullShare f)
        ∗ (∃ f, owns (c : Thread nD τ) arg9 fullShare f) ∗ Held c arg11 arg12 arg13 arg14 arg15 CNT MASK VAL SX SR a ∗ bigSep Finset.univ (mix k (Landed (F := F) c arg7 arg10 arg16 DY) (Flying (F := F) c arg7 arg10 arg16 DY)) ∗ owes (c : Thread nD τ) 0 W)
      ⊢ wp frame (wpE (defs₀ (F := F)) 𝒱 (c : Thread nD τ) bd) Set.univ (cc0_dropit_dw (F := F) i arg2 harg2 arg3 harg3 arg4 harg4 arg5 harg5 arg6 harg6 arg7 harg7 arg8 harg8 arg9 harg9 arg10 harg10 arg11 harg11 arg12 harg12 arg13 harg13 arg14 harg14 arg15 harg15 arg16)
          (fun _ => After c arg2 arg3 arg4 arg5 arg6 arg7 arg8 arg9 arg10 arg11 arg12 arg13 arg14 arg15 arg16 CNT MASK VAL SX SR DY
            (BitVec.ofNat 32 (i 0).val) n (k + 1)) := by
  rw [cc0_dropit_dw_eq_skeleton]
  unfold cc0_dropit_dw_skel
  dsimp -proj only
  rw [dif_neg h1, dif_pos h2, dif_neg h3]
  unfold After Ops Held
  iintro ⟨⟨H2, H3, H4, H5, H6⟩, ⟨%f8, H8⟩, H9, HS, HC, HW⟩
  icases HS with ⟨⟨%f11, H11⟩, H12, H13, H14, H15⟩
  ihave H15 : (∃ f, owns (c : Thread nD τ) arg15 fullShare f) $$ [H15]
  · iexists _; iexact H15
  iapply (loop4 𝒱 c bd Set.univ i arg2 harg2 arg3 harg3 arg4 harg4 arg5 harg5 arg6 harg6 arg7 harg7 arg8 harg8 arg9 harg9 arg10 harg10 arg11 harg11 arg12 harg12 arg13 harg13 arg14 harg14 arg15 harg15 arg16 (word MASK) (off1 CNT MASK) (win CNT VAL) SX SR (BitVec.ofNat 32 (i 0).val) h2) $$ [H5 H6 H9 H12 H13 H14 H15]
  · isplitl [H5]; · iexact H5
    isplitl [H6]; · iexact H6
    isplitl [H12]; · iexact H12
    isplitl [H13]; · iexact H13
    isplitl [H14]; · iexact H14
    isplitl [H9]; · iexact H9
    iexact H15
  iintro %_ ⟨H5, H6, H12, H13, H14, H9, H15⟩
  ihave HC := (landed_at (Landed (F := F) c arg7 arg10 arg16 DY) (Flying (F := F) c arg7 arg10 arg16 DY) n k hk) $$ HC
  icases HC with ⟨HL, HR⟩
  iapply (loadAs 𝒱 (c : Thread nD τ) bd Set.univ (xt CNT MASK VAL SX SR (BitVec.ofNat 32 (i 0).val)) (emb_whole _ _ zero2 (xt CNT MASK VAL SX SR (BitVec.ofNat 32 (i 0).val)))) $$ H15
  iintro H15
  iapply (loadChunk 𝒱 c bd n (k0_off18 i) _ ho18) $$ HL
  iintro HL
  iapply (loadAs 𝒱 (c : Thread nD τ) bd Set.univ (f8) (emb_whole _ _ zero2 (f8))) $$ H8
  iintro H8
  iapply (store 𝒱 (c : Thread nD τ) bd Set.univ) $$ H8
  iintro H8
  rw [put_whole _ _ zero2]
  iapply (done 𝒱 (c : Thread nD τ) bd Set.univ)
  isplitl [H2 H3 H4 H5 H6]
  · isplitl [H2]; · iexact H2
    isplitl [H3]; · iexact H3
    isplitl [H4]; · iexact H4
    isplitl [H5]; · iexact H5
    iexact H6
  isplitl [H8]; · iexact H8
  isplitl [H9]; · iexact H9
  isplitl [H11 H12 H13 H14 H15]
  · isplitl [H11]
    · iexists _; iexact H11
    isplitl [H12]; · iexact H12
    isplitl [H13]; · iexact H13
    isplitl [H14]; · iexact H14
    iexact H15
  isplitl [HL HR]
  · iapply HR; iexact HL
  iexists _; iexact HW

set_option maxHeartbeats 4000000 in
/-- A point between: the product alone. -/
theorem body_rest (n : Fin 37) (h1 : ¬ k0_cond1 i = 1#1) (h2 : ¬ k0_cond2 i = 1#1) (h3 : ¬ k0_cond3 i = 1#1)
    (ho16 : k0_off16 i = ![n.val]) (ho17 : k0_off17 i = ![0, 512 * n.val]) (ho18 : k0_off18 i = ![0, 512 * n.val]) (k : ℕ) (hk : 37 ≤ k)
    (W : Waits sig Unit) :
    iprop(Ops c arg2 arg3 arg4 arg5 arg6 CNT MASK VAL SX SR ∗ (∃ f, owns (c : Thread nD τ) arg8 fullShare f)
        ∗ owns (c : Thread nD τ) arg9 fullShare (xrec CNT MASK VAL SX (BitVec.ofNat 32 (i 0).val)) ∗ Held c arg11 arg12 arg13 arg14 arg15 CNT MASK VAL SX SR (BitVec.ofNat 32 (i 0).val) ∗ bigSep Finset.univ (mix k (Landed (F := F) c arg7 arg10 arg16 DY) (Flying (F := F) c arg7 arg10 arg16 DY)) ∗ owes (c : Thread nD τ) 0 W)
      ⊢ wp frame (wpE (defs₀ (F := F)) 𝒱 (c : Thread nD τ) bd) Set.univ (cc0_dropit_dw (F := F) i arg2 harg2 arg3 harg3 arg4 harg4 arg5 harg5 arg6 harg6 arg7 harg7 arg8 harg8 arg9 harg9 arg10 harg10 arg11 harg11 arg12 harg12 arg13 harg13 arg14 harg14 arg15 harg15 arg16)
          (fun _ => After c arg2 arg3 arg4 arg5 arg6 arg7 arg8 arg9 arg10 arg11 arg12 arg13 arg14 arg15 arg16 CNT MASK VAL SX SR DY
            (BitVec.ofNat 32 (i 0).val) n (k + 1)) := by
  rw [cc0_dropit_dw_eq_skeleton]
  unfold cc0_dropit_dw_skel
  dsimp -proj only
  rw [dif_neg h1, dif_neg h2, dif_neg h3]
  unfold After Ops Held
  iintro ⟨⟨H2, H3, H4, H5, H6⟩, ⟨%f8, H8⟩, H9, HS, HC, HW⟩
  icases HS with ⟨⟨%f11, H11⟩, H12, H13, H14, H15⟩
  ihave HC := (landed_at (Landed (F := F) c arg7 arg10 arg16 DY) (Flying (F := F) c arg7 arg10 arg16 DY) n k hk) $$ HC
  icases HC with ⟨HL, HR⟩
  iapply (loadAs 𝒱 (c : Thread nD τ) bd Set.univ (xt CNT MASK VAL SX SR (BitVec.ofNat 32 (i 0).val)) (emb_whole _ _ zero2 (xt CNT MASK VAL SX SR (BitVec.ofNat 32 (i 0).val)))) $$ H15
  iintro H15
  iapply (loadChunk 𝒱 c bd n (k0_off18 i) _ ho18) $$ HL
  iintro HL
  iapply (loadAs 𝒱 (c : Thread nD τ) bd Set.univ (f8) (emb_whole _ _ zero2 (f8))) $$ H8
  iintro H8
  iapply (store 𝒱 (c : Thread nD τ) bd Set.univ) $$ H8
  iintro H8
  rw [put_whole _ _ zero2]
  iapply (done 𝒱 (c : Thread nD τ) bd Set.univ)
  isplitl [H2 H3 H4 H5 H6]
  · isplitl [H2]; · iexact H2
    isplitl [H3]; · iexact H3
    isplitl [H4]; · iexact H4
    isplitl [H5]; · iexact H5
    iexact H6
  isplitl [H8]; · iexact H8
  isplitl [H9]; · iexact H9
  isplitl [H11 H12 H13 H14 H15]
  · isplitl [H11]
    · iexists _; iexact H11
    isplitl [H12]; · iexact H12
    isplitl [H13]; · iexact H13
    isplitl [H14]; · iexact H14
    iexact H15
  isplitl [HL HR]
  · iapply HR; iexact HL
  iexists _; iexact HW

end Cert.Kernel.Hand

end
-- ==== Proof.Launch.lean ====
/-
  The launch: the host operations before the region, the windows' blocks, what every point finds and leaves, and the run.
  Every point leaves in window 5 one block of the weight gradient and in window 6 its column group of the reconstruction;
  between points the kernel's scratch holds the decoded state of `Held` and the chunks of the gradient that have arrived.
-/
module

public import proofs.«01_k».proof.Proof.Body
public import proofs.«01_k».proof.Proof.Gen.Kernel.Frame
public import Idealize.ShloMosaic.Lib.Pipeline.TableIdle
public import Idealize.ShloMosaic.Lib.Pipeline.ValueKit

@[expose] public section

set_option maxRecDepth 16384

noncomputable section

namespace Cert.Kernel.Hand

open Cert.Kernel Cert.Kernel.Gen Cert.ByContents
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The user algebra: the pipeline's own beside the transfers' counters. -/
local notation "𝕄" => MT nD τ sig Unit (Elt F) ℕ (Pipeline.UD sig nD τ) ℕ

variable (m : (ℓ : Loc nD τ sig) → Buf (Elt F) ℓ) (ρ : Dev nD → PrngReg)

/-! ## Entering the region, and the frame read off a run -/

set_option maxHeartbeats 800000 in
/-- The program up to the region, at this algebra. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The operands the kernel body finds -/

/-- Codes per token. -/
abbrev CNT (c : Dev nD) : Vec F S1920 .i32 := V m c main_v8
/-- Mask words per token. -/
abbrev MASK (c : Dev nD) : Vec F S1920x112 .i32 := V m c main_v1
/-- The packed codes. -/
abbrev VAL (c : Dev nD) : Vec F S13440x128 .i8 := V m c main_v2
/-- The codes' scales. -/
abbrev SX (c : Dev nD) : Vec F S1920x128 .f32 := V m c main_v4
/-- The gradient's scales. -/
abbrev SR (c : Dev nD) : Vec F S1920x128 .f32 := V m c main_v6
/-- The quantized gradient. -/
abbrev DY (c : Dev nD) : Vec F S1920x18944 .fp8e5m2 := V m c main_v7

theorem idx_0_0 : ∀ t : Fin cfg0.N, win0_0.index t 0 = 0 := fun _ => rfl
theorem iblk_0 (c : Dev nD) (t : Fin cfg0.N) : iblk m c 0 t = CNT m c := by
  funext y; blk_ext [iblk, idx_0_0]
theorem idx_1_0 : ∀ t : Fin cfg0.N, win0_1.index t 0 = 0 := fun _ => rfl
theorem idx_1_1 : ∀ t : Fin cfg0.N, win0_1.index t 1 = 0 := fun _ => rfl
theorem iblk_1 (c : Dev nD) (t : Fin cfg0.N) : iblk m c 1 t = MASK m c := by
  funext y; blk_ext [iblk, idx_1_0, idx_1_1]
theorem idx_2_0 : ∀ t : Fin cfg0.N, win0_2.index t 0 = 0 := fun _ => rfl
theorem idx_2_1 : ∀ t : Fin cfg0.N, win0_2.index t 1 = 0 := fun _ => rfl
theorem iblk_2 (c : Dev nD) (t : Fin cfg0.N) : iblk m c 2 t = VAL m c := by
  funext y; blk_ext [iblk, idx_2_0, idx_2_1]
theorem idx_3_0 : ∀ t : Fin cfg0.N, win0_3.index t 0 = 0 := fun _ => rfl
theorem idx_3_1 : ∀ t : Fin cfg0.N, win0_3.index t 1 = 0 := fun _ => rfl
theorem iblk_3 (c : Dev nD) (t : Fin cfg0.N) : iblk m c 3 t = SX m c := by
  funext y; blk_ext [iblk, idx_3_0, idx_3_1]
theorem idx_4_0 : ∀ t : Fin cfg0.N, win0_4.index t 0 = 0 := fun _ => rfl
theorem idx_4_1 : ∀ t : Fin cfg0.N, win0_4.index t 1 = 0 := fun _ => rfl
theorem iblk_4 (c : Dev nD) (t : Fin cfg0.N) : iblk m c 4 t = SR m c := by
  funext y; blk_ext [iblk, idx_4_0, idx_4_1]

/-! ## The points -/

/-- A point's column group, as the body reads it. -/
theorem coord_group : ∀ t : Fin grid0.N, (grid0.coords t 0).val = t.val / 37 := by decide +kernel
theorem coord_chunk : ∀ t : Fin grid0.N, (grid0.coords t 1).val = t.val % 37 := by decide +kernel
theorem cond1_iff : ∀ t : Fin grid0.N, k0_cond1 (grid0.coords t) = 1#1 ↔ t.val = 0 := by decide +kernel
theorem cond2_iff : ∀ t : Fin grid0.N, k0_cond2 (grid0.coords t) = 1#1 ↔ t.val % 37 = 0 := by decide +kernel
theorem cond3_iff : ∀ t : Fin grid0.N, k0_cond3 (grid0.coords t) = 1#1 ↔ t.val < 37 := by decide +kernel

/-- A point's chunk. -/
def chunkAt (t : Fin cfg0.N) : Fin 37 := ⟨t.val % 37, Nat.mod_lt _ (by omega)⟩
/-- A point's column group. -/
def groupAt (t : ℕ) : BitVec 32 := BitVec.ofNat 32 (t / 37)

theorem off16_at : ∀ t : Fin grid0.N, k0_off16 (grid0.coords t) 0 = t.val % 37 := by decide +kernel
theorem off17_at : ∀ t : Fin grid0.N, k0_off17 (grid0.coords t) 0 = 0 ∧ k0_off17 (grid0.coords t) 1 = 512 * (t.val % 37) := by decide +kernel
theorem off18_at : ∀ t : Fin grid0.N, k0_off18 (grid0.coords t) 0 = 0 ∧ k0_off18 (grid0.coords t) 1 = 512 * (t.val % 37) := by decide +kernel

theorem ho16 (t : Fin cfg0.N) : k0_off16 (grid0.coords t) = ![(chunkAt t).val] := by
  funext a; fin_cases a; exact off16_at t
theorem ho17 (t : Fin cfg0.N) : k0_off17 (grid0.coords t) = ![0, 512 * (chunkAt t).val] := by
  funext a; fin_cases a
  · exact (off17_at t).1
  · exact (off17_at t).2
theorem ho18 (t : Fin cfg0.N) : k0_off18 (grid0.coords t) = ![0, 512 * (chunkAt t).val] := by
  funext a; fin_cases a
  · exact (off18_at t).1
  · exact (off18_at t).2

/-! ## The proof data -/

abbrev sc0 : Memref sig .tc .vmem S1920x18944 .fp8e5m2 := Memref.whole cc0_scratch0
abbrev sc1 : Memref sig .tc .vmem S3360x128 .i32 := Memref.whole cc0_scratch1
abbrev sc2 : Memref sig .tc .vmem S3x1920x128 .i32 := Memref.whole cc0_scratch2
abbrev sc3 : Memref sig .tc .vmem S1920x128 .i32 := Memref.whole cc0_scratch3
abbrev sc4 : Memref sig .tc .vmem S1920x128 .i32 := Memref.whole cc0_scratch4
abbrev sc5 : Memref sig .tc .vmem S1920x256 .bf16 := Memref.whole cc0_scratch5
abbrev hb7 : Memref sig .tc .hbm S1920x18944 .fp8e5m2 := Memref.whole main_v7

/-- The transfers' semaphores, one to a chunk. -/
abbrev osem0 : Fin 37 → SemLoc sig := fun n => SemLoc.dma (cell cc0_scratch6 n)
theorem ownSemFacts0 : Pipeline.OwnSemFacts spec0 osem0 := by decide
/-- The operand left in HBM. -/
def H0 : Finset (Ref sig .tc) := {main_v7}
theorem H0_sub : H0 ⊆ Pipeline.restRefs sig spec0 := by decide

/-- What the kernel holds of its own after `k` points. -/
def held (c : Dev nD) (k : ℕ) : sProp (MT nD τ sig Unit (Elt F) ℕ (Pipeline.UD sig nD τ) ℕ) :=
  if k = 0 then
    iprop(Fresh c sc1 sc2 sc3 sc4 sc5 ∗ bigSep Finset.univ (Free (F := F) c hb7 sc0 cc0_scratch6 (DY m c)))
  else
    iprop(Held c sc1 sc2 sc3 sc4 sc5 (CNT m c) (MASK m c) (VAL m c) (SX m c) (SR m c) (groupAt (k - 1))
      ∗ bigSep Finset.univ (mix k (Landed (F := F) c hb7 sc0 cc0_scratch6 (DY m c)) (Flying (F := F) c hb7 sc0 cc0_scratch6 (DY m c))))

/-- The block of the weight gradient a point computes. -/
def dwAt (c : Dev nD) (t : Fin cfg0.N) : Vec F S256x512 .f32 :=
  k0_pay10 (xt (CNT m c) (MASK m c) (VAL m c) (SX m c) (SR m c) (groupAt t.val)) (dyChunk (DY m c) (chunkAt t).val (chunkAt t).isLt)
/-- The column group of the reconstruction a point has computed. -/
def xrAt (c : Dev nD) (t : Fin cfg0.N) : Vec F S1920x256 .bf16 :=
  xrec (CNT m c) (MASK m c) (VAL m c) (SX m c) (groupAt t.val)

/-- The proof data: each input window's block is the whole operand; each output window's is the point's result. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dwAt m c t
    | ⟨6, _⟩ => xrAt m c t
  Φ t := iprop(held m c t.val ∗ (∃ r, prngReg c r))
  q _ := fullShare
  owed _ := 0

theorem A_eq (c : Dev nD) (w : Fin cfg0.W) : (dats m 0 c).A w = V m c (Pipeline.arrRef spec0 w) := by
  dsimp only [dats]
theorem after_5 (c : Dev nD) (t : Fin cfg0.N) : (dats m 0 c).after 5 t = dwAt m c t := by dsimp only [dats]
theorem after_6 (c : Dev nD) (t : Fin cfg0.N) : (dats m 0 c).after 6 t = xrAt m c t := by dsimp only [dats]
theorem before_0 (c : Dev nD) (t : Fin cfg0.N) (d) : (dats m 0 c).before 0 t d = CNT m c :=
  ((dats m 0 c).before_in_eq_fetched 0 rfl (fun _ => rfl) (fun _ _ _ => rfl) (fun t => by rw [show (dats m 0 c).after 0 t = iblk m c 0 t from by dsimp only [dats]]; unfold Dat.blockOf iblk; rw [A_eq]; try rfl) t d).trans
    ((by unfold Dat.fetched Dat.blockOf iblk; rw [A_eq]; try rfl : _ = iblk m c 0 t).trans (iblk_0 m c t))
theorem after_0 (c : Dev nD) (t : Fin cfg0.N) : (dats m 0 c).after 0 t = CNT m c := by
  rw [← iblk_0 m c t]; dsimp only [dats]
theorem before_1 (c : Dev nD) (t : Fin cfg0.N) (d) : (dats m 0 c).before 1 t d = MASK m c :=
  ((dats m 0 c).before_in_eq_fetched 1 rfl (fun _ => rfl) (fun _ _ _ => rfl) (fun t => by rw [show (dats m 0 c).after 1 t = iblk m c 1 t from by dsimp only [dats]]; unfold Dat.blockOf iblk; rw [A_eq]; try rfl) t d).trans
    ((by unfold Dat.fetched Dat.blockOf iblk; rw [A_eq]; try rfl : _ = iblk m c 1 t).trans (iblk_1 m c t))
theorem after_1 (c : Dev nD) (t : Fin cfg0.N) : (dats m 0 c).after 1 t = MASK m c := by
  rw [← iblk_1 m c t]; dsimp only [dats]
theorem before_2 (c : Dev nD) (t : Fin cfg0.N) (d) : (dats m 0 c).before 2 t d = VAL m c :=
  ((dats m 0 c).before_in_eq_fetched 2 rfl (fun _ => rfl) (fun _ _ _ => rfl) (fun t => by rw [show (dats m 0 c).after 2 t = iblk m c 2 t from by dsimp only [dats]]; unfold Dat.blockOf iblk; rw [A_eq]; try rfl) t d).trans
    ((by unfold Dat.fetched Dat.blockOf iblk; rw [A_eq]; try rfl : _ = iblk m c 2 t).trans (iblk_2 m c t))
theorem after_2 (c : Dev nD) (t : Fin cfg0.N) : (dats m 0 c).after 2 t = VAL m c := by
  rw [← iblk_2 m c t]; dsimp only [dats]
theorem before_3 (c : Dev nD) (t : Fin cfg0.N) (d) : (dats m 0 c).before 3 t d = SX m c :=
  ((dats m 0 c).before_in_eq_fetched 3 rfl (fun _ => rfl) (fun _ _ _ => rfl) (fun t => by rw [show (dats m 0 c).after 3 t = iblk m c 3 t from by dsimp only [dats]]; unfold Dat.blockOf iblk; rw [A_eq]; try rfl) t d).trans
    ((by unfold Dat.fetched Dat.blockOf iblk; rw [A_eq]; try rfl : _ = iblk m c 3 t).trans (iblk_3 m c t))
theorem after_3 (c : Dev nD) (t : Fin cfg0.N) : (dats m 0 c).after 3 t = SX m c := by
  rw [← iblk_3 m c t]; dsimp only [dats]
theorem before_4 (c : Dev nD) (t : Fin cfg0.N) (d) : (dats m 0 c).before 4 t d = SR m c :=
  ((dats m 0 c).before_in_eq_fetched 4 rfl (fun _ => rfl) (fun _ _ _ => rfl) (fun t => by rw [show (dats m 0 c).after 4 t = iblk m c 4 t from by dsimp only [dats]]; unfold Dat.blockOf iblk; rw [A_eq]; try rfl) t d).trans
    ((by unfold Dat.fetched Dat.blockOf iblk; rw [A_eq]; try rfl : _ = iblk m c 4 t).trans (iblk_4 m c t))
theorem after_4 (c : Dev nD) (t : Fin cfg0.N) : (dats m 0 c).after 4 t = SR m c := by
  rw [← iblk_4 m c t]; dsimp only [dats]

/-- The second result's buffer starts anew with each column group. -/
theorem fresh_6 (n : ℕ) (h : n ≤ cfg0.N) : cfg0.fresh 6 n = decide (n % 37 = 0) :=
  cfg0.fresh_tab 6 (fun n => decide (n % 37 = 0)) rfl (by decide +kernel) n h

theorem xrAt_pred (c : Dev nD) (t : Fin cfg0.N) (ht : t.val % 37 ≠ 0) (h : t.val - 1 < cfg0.N) : xrAt m c ⟨t.val - 1, h⟩ = xrAt m c t := by
  unfold xrAt groupAt
  rw [show (t.val - 1) / 37 = t.val / 37 by omega]

/-- Within a column group the second result's buffer still holds the group. -/
theorem before_6 (c : Dev nD) (t : Fin cfg0.N) (ht : t.val % 37 ≠ 0) (d) : (dats m 0 c).before 6 t d = xrAt m c t := by
  rw [(dats m 0 c).before_out_traj 6 rfl (fun _ _ => rfl) (fun t _ _ hf => by
      rw [fresh_6 _ (Nat.le_of_lt t.isLt)] at hf
      rw [after_6, after_6, xrAt_pred m c t (of_decide_eq_false hf)]) t.val t rfl d,
    fresh_6 _ (Nat.le_of_lt t.isLt), decide_eq_false ht, if_neg Bool.false_ne_true, after_6, xrAt_pred m c t ht]

/-! ## The body obligation -/

abbrev ops (c : Dev nD) (t : Fin cfg0.N) : sProp (MT nD τ sig Unit (Elt F) ℕ (Pipeline.UD sig nD τ) ℕ) :=
  Ops c (st0_0 t) (st0_1 t) (st0_2 t) (st0_3 t) (st0_4 t) (CNT m c) (MASK m c) (VAL m c) (SX m c) (SR m c)

def bodyPre (c : Dev nD) (t : Fin cfg0.N) : sProp (MT nD τ sig Unit (Elt F) ℕ (Pipeline.UD sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
/-- What is owed of the second result's buffer: at a point that neither stores nor writes it back, what was found. -/
def left6 (c : Dev nD) (t : Fin cfg0.N) : sProp (MT nD τ sig Unit (Elt F) ℕ (Pipeline.UD sig nD τ) ℕ) :=
  match cfg0.idle 6 (cfg0.grid.coords t) with
  | true =>
    match (cfg0.win 6).flush t with
    | false => iprop(∃ d, owns (c : Thread nD τ) (st0_6 t) fullShare ((dats m 0 c).before 6 t d))
    | true => owns (c : Thread nD τ) (st0_6 t) fullShare ((dats m 0 c).after 6 t)
  | false => owns (c : Thread nD τ) (st0_6 t) fullShare ((dats m 0 c).after 6 t)

theorem idle_6 : ∀ t : Fin cfg0.N, cfg0.idle 6 (cfg0.grid.coords t) = decide (t.val % 37 ≠ 0) := by decide +kernel

theorem left6_of (c : Dev nD) (t : Fin cfg0.N) : owns (c : Thread nD τ) (st0_6 t) fullShare (xrAt m c t) ⊢ left6 m c t := by
  unfold left6
  rw [idle_6]
  by_cases h : t.val % 37 = 0
  · rw [show decide (t.val % 37 ≠ 0) = false from decide_eq_false (not_not.mpr h)]
    show _ ⊢ owns (c : Thread nD τ) (st0_6 t) fullShare ((dats m 0 c).after 6 t)
    rw [after_6]
  · rw [show decide (t.val % 37 ≠ 0) = true from decide_eq_true h]
    cases (cfg0.win 6).flush t
    · show _ ⊢ iprop(∃ d, owns (c : Thread nD τ) (st0_6 t) fullShare ((dats m 0 c).before 6 t d))
      simp only [before_6 m c t h]
      iintro H
      iexists xrAt m c t
      iexact H
    · show _ ⊢ owns (c : Thread nD τ) (st0_6 t) fullShare ((dats m 0 c).after 6 t)
      rw [after_6]

def bodyPost (c : Dev nD) (t : Fin cfg0.N) : sProp (MT nD τ sig Unit (Elt F) ℕ (Pipeline.UD sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ left6 m c t)

/-- The obligation's precondition in the words of `Body`. -/
theorem pre_open (c : Dev nD) (t : Fin cfg0.N) :
    bodyPre m c t ⊢ iprop(held m c t.val ∗ (∃ r, prngReg c r) ∗ (∃ W, owes (c : Thread nD τ) 0 W) ∗ ops m c t
      ∗ (∃ f, owns (c : Thread nD τ) (st0_5 t) fullShare f) ∗ (∃ d, owns (c : Thread nD τ) (st0_6 t) fullShare ((dats m 0 c).before 6 t d))) := by
  unfold bodyPre ops Ops
  rw [show (dats m 0 c).Φ t.castSucc = iprop(held m c t.val ∗ (∃ r, prngReg c r)) from rfl]
  unfold Dat.owesAt Pipeline.owesWithin
  rw [show (dats m 0 c).owed t.castSucc = 0 from rfl]
  simp only [before_0, before_1, before_2, before_3, before_4]
  iintro ⟨⟨HK, Hg⟩, ⟨%W, -, HW⟩, ⟨%d0, H0⟩, ⟨%d1, H1⟩, ⟨%d2, H2⟩, ⟨%d3, H3⟩, ⟨%d4, H4⟩, ⟨%d5, H5⟩, ⟨%d6, H6⟩⟩
  isplitl [HK]; · iexact HK
  isplitl [Hg]; · iexact Hg
  isplitl [HW]; · iexists W; iexact HW
  isplitl [H0 H1 H2 H3 H4]
  · isplitl [H0]; · iexact H0
    isplitl [H1]; · iexact H1
    isplitl [H2]; · iexact H2
    isplitl [H3]; · iexact H3
    iexact H4
  isplitl [H5]; · iexists _; iexact H5
  iexists d6; iexact H6

/-- What a point leaves closes the obligation. -/
theorem post_close (c : Dev nD) (t : Fin cfg0.N) (n : Fin 37) (hn : n = chunkAt t) (a : BitVec 32) (ha : a = groupAt t.val) (k : ℕ) (hk : k = t.val) :
    iprop(After c (st0_0 t) (st0_1 t) (st0_2 t) (st0_3 t) (st0_4 t) hb7 (st0_5 t) (st0_6 t) sc0 sc1 sc2 sc3 sc4 sc5 cc0_scratch6
        (CNT m c) (MASK m c) (VAL m c) (SX m c) (SR m c) (DY m c) a n (k + 1) ∗ (∃ r, prngReg c r)) ⊢ bodyPost m c t := by
  subst hn ha hk
  unfold bodyPost After Ops
  rw [show (dats m 0 c).Φ t.succ = iprop(held m c (t.val + 1) ∗ (∃ r, prngReg c r)) from rfl]
  unfold Dat.owesAt Pipeline.owesWithin
  rw [show (dats m 0 c).owed t.succ = 0 from rfl, after_0, after_1, after_2, after_3, after_4, after_5]
  unfold held
  rw [if_neg (Nat.succ_ne_zero _), Nat.add_sub_cancel]
  unfold dwAt
  iintro ⟨⟨⟨H0, H1, H2, H3, H4⟩, H5, H6, HS, HC, ⟨%W', HW⟩⟩, Hg⟩
  isplitl [HS HC Hg]
  · isplitl [HS HC]
    · isplitl [HS]; · iexact HS
      iexact HC
    iexact Hg
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  iapply (left6_of m c t); unfold xrAt; iexact H6

theorem group_eq (t : Fin cfg0.N) : BitVec.ofNat 32 (grid0.coords t 0).val = groupAt t.val := by
  unfold groupAt; rw [coord_group]

set_option maxHeartbeats 1000000 in
/-- The first point. -/
theorem at_first (c : Dev nD) (t : Fin cfg0.N) (h : t.val = 0) (W : Waits sig Unit) :
    iprop(held m c t.val ∗ owes (c : Thread nD τ) 0 W ∗ ops m c t
      ∗ (∃ f, owns (c : Thread nD τ) (st0_5 t) fullShare f) ∗ (∃ d, owns (c : Thread nD τ) (st0_6 t) fullShare ((dats m 0 c).before 6 t d)))
    ⊢ wp frame (wpE (defs₀ (F := F)) Variants.none (c : Thread nD τ) none) Set.univ (bodyAt0 t) (fun _ => After c (st0_0 t) (st0_1 t) (st0_2 t) (st0_3 t) (st0_4 t) hb7 (st0_5 t) (st0_6 t) sc0 sc1 sc2 sc3 sc4 sc5 cc0_scratch6
        (CNT m c) (MASK m c) (VAL m c) (SX m c) (SR m c) (DY m c) (groupAt t.val) (chunkAt t) (t.val + 1)) := by
  have hn : (chunkAt t).val = 0 := by show t.val % 37 = 0; omega
  refine triple_restated (body_first Variants.none c none (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) hb7 (Memref.isWhole_whole _) (st0_5 t) (hstage0_5 ((cfg0.slots t 5).cast nbuf0_5)) (st0_6 t) (hstage0_6 ((cfg0.slots t 6).cast nbuf0_6)) sc0 (Memref.isWhole_whole _) sc1 (Memref.isWhole_whole _) sc2 (Memref.isWhole_whole _) sc3 (Memref.isWhole_whole _) sc4 (Memref.isWhole_whole _) sc5 (Memref.isWhole_whole _) cc0_scratch6 (CNT m c) (MASK m c) (VAL m c) (SX m c) (SR m c) (DY m c) (chunkAt t)
    ((cond1_iff t).mpr h) ((cond2_iff t).mpr (by rw [h])) ((cond3_iff t).mpr (by omega)) (ho16 t) (ho17 t) (ho18 t) hn W) rfl ?_ (fun _ => ?_)
  · unfold held; rw [if_pos h]
    iintro ⟨⟨HS, HC⟩, HW, HO, H5, ⟨%d6, H6⟩⟩
    isplitl [HO]; · iexact HO
    isplitl [H5]; · iexact H5
    isplitl [H6]; · iexists _; iexact H6
    isplitl [HS]; · iexact HS
    isplitl [HC]; · iexact HC
    iexact HW
  · rw [group_eq, hn, h]

set_option maxHeartbeats 1000000 in
/-- A later point of the first column group. -/
theorem at_early (c : Dev nD) (t : Fin cfg0.N) (h0 : t.val ≠ 0) (h : t.val < 37) (W : Waits sig Unit) :
    iprop(held m c t.val ∗ owes (c : Thread nD τ) 0 W ∗ ops m c t
      ∗ (∃ f, owns (c : Thread nD τ) (st0_5 t) fullShare f) ∗ (∃ d, owns (c : Thread nD τ) (st0_6 t) fullShare ((dats m 0 c).before 6 t d)))
    ⊢ wp frame (wpE (defs₀ (F := F)) Variants.none (c : Thread nD τ) none) Set.univ (bodyAt0 t) (fun _ => After c (st0_0 t) (st0_1 t) (st0_2 t) (st0_3 t) (st0_4 t) hb7 (st0_5 t) (st0_6 t) sc0 sc1 sc2 sc3 sc4 sc5 cc0_scratch6
        (CNT m c) (MASK m c) (VAL m c) (SX m c) (SR m c) (DY m c) (groupAt t.val) (chunkAt t) (t.val + 1)) := by
  have hm : t.val % 37 = t.val := Nat.mod_eq_of_lt h
  have hn : (chunkAt t).val = t.val := hm
  have hg : groupAt (t.val - 1) = groupAt t.val := by unfold groupAt; rw [show (t.val - 1) / 37 = t.val / 37 by omega]
  refine triple_restated (body_early Variants.none c none (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) hb7 (Memref.isWhole_whole _) (st0_5 t) (hstage0_5 ((cfg0.slots t 5).cast nbuf0_5)) (st0_6 t) (hstage0_6 ((cfg0.slots t 6).cast nbuf0_6)) sc0 (Memref.isWhole_whole _) sc1 (Memref.isWhole_whole _) sc2 (Memref.isWhole_whole _) sc3 (Memref.isWhole_whole _) sc4 (Memref.isWhole_whole _) sc5 (Memref.isWhole_whole _) cc0_scratch6 (CNT m c) (MASK m c) (VAL m c) (SX m c) (SR m c) (DY m c) (chunkAt t)
    (fun e => h0 ((cond1_iff t).mp e)) (fun e => h0 (hm.symm.trans ((cond2_iff t).mp e))) ((cond3_iff t).mpr h) (ho16 t) (ho17 t) (ho18 t) W) rfl ?_ (fun _ => ?_)
  · unfold held; rw [if_neg h0, hg, group_eq, hn]
    simp only [before_6 m c t (by omega)]
    unfold xrAt
    iintro ⟨⟨HS, HC⟩, HW, HO, H5, ⟨%d6, H6⟩⟩
    isplitl [HO]; · iexact HO
    isplitl [H5]; · iexact H5
    isplitl [H6]; · iexact H6
    isplitl [HS]; · iexact HS
    isplitl [HC]; · iexact HC
    iexact HW
  · rw [group_eq, hn]

set_option maxHeartbeats 1000000 in
/-- The first point of a later column group. -/
theorem at_group (c : Dev nD) (t : Fin cfg0.N) (h : 37 ≤ t.val) (hm : t.val % 37 = 0) (W : Waits sig Unit) :
    iprop(held m c t.val ∗ owes (c : Thread nD τ) 0 W ∗ ops m c t
      ∗ (∃ f, owns (c : Thread nD τ) (st0_5 t) fullShare f) ∗ (∃ d, owns (c : Thread nD τ) (st0_6 t) fullShare ((dats m 0 c).before 6 t d)))
    ⊢ wp frame (wpE (defs₀ (F := F)) Variants.none (c : Thread nD τ) none) Set.univ (bodyAt0 t) (fun _ => After c (st0_0 t) (st0_1 t) (st0_2 t) (st0_3 t) (st0_4 t) hb7 (st0_5 t) (st0_6 t) sc0 sc1 sc2 sc3 sc4 sc5 cc0_scratch6
        (CNT m c) (MASK m c) (VAL m c) (SX m c) (SR m c) (DY m c) (groupAt t.val) (chunkAt t) (t.val + 1)) := by
  have h0 : t.val ≠ 0 := by omega
  refine triple_restated (body_group Variants.none c none (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) hb7 (Memref.isWhole_whole _) (st0_5 t) (hstage0_5 ((cfg0.slots t 5).cast nbuf0_5)) (st0_6 t) (hstage0_6 ((cfg0.slots t 6).cast nbuf0_6)) sc0 (Memref.isWhole_whole _) sc1 (Memref.isWhole_whole _) sc2 (Memref.isWhole_whole _) sc3 (Memref.isWhole_whole _) sc4 (Memref.isWhole_whole _) sc5 (Memref.isWhole_whole _) cc0_scratch6 (CNT m c) (MASK m c) (VAL m c) (SX m c) (SR m c) (DY m c) (chunkAt t)
    (fun e => h0 ((cond1_iff t).mp e)) ((cond2_iff t).mpr hm) (fun e => absurd ((cond3_iff t).mp e) (by omega)) (ho16 t) (ho17 t) (ho18 t)
    t.val h (groupAt (t.val - 1)) W) rfl ?_ (fun _ => ?_)
  · unfold held; rw [if_neg h0]
    iintro ⟨⟨HS, HC⟩, HW, HO, H5, ⟨%d6, H6⟩⟩
    isplitl [HO]; · iexact HO
    isplitl [H5]; · iexact H5
    isplitl [H6]; · iexists _; iexact H6
    isplitl [HS]; · iexact HS
    isplitl [HC]; · iexact HC
    iexact HW
  · rw [group_eq]

set_option maxHeartbeats 1000000 in
/-- Any other point. -/
theorem at_rest (c : Dev nD) (t : Fin cfg0.N) (h : 37 ≤ t.val) (hm : t.val % 37 ≠ 0) (W : Waits sig Unit) :
    iprop(held m c t.val ∗ owes (c : Thread nD τ) 0 W ∗ ops m c t
      ∗ (∃ f, owns (c : Thread nD τ) (st0_5 t) fullShare f) ∗ (∃ d, owns (c : Thread nD τ) (st0_6 t) fullShare ((dats m 0 c).before 6 t d)))
    ⊢ wp frame (wpE (defs₀ (F := F)) Variants.none (c : Thread nD τ) none) Set.univ (bodyAt0 t) (fun _ => After c (st0_0 t) (st0_1 t) (st0_2 t) (st0_3 t) (st0_4 t) hb7 (st0_5 t) (st0_6 t) sc0 sc1 sc2 sc3 sc4 sc5 cc0_scratch6
        (CNT m c) (MASK m c) (VAL m c) (SX m c) (SR m c) (DY m c) (groupAt t.val) (chunkAt t) (t.val + 1)) := by
  have h0 : t.val ≠ 0 := by omega
  have hg : groupAt (t.val - 1) = groupAt t.val := by unfold groupAt; rw [show (t.val - 1) / 37 = t.val / 37 by omega]
  refine triple_restated (body_rest Variants.none c none (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) hb7 (Memref.isWhole_whole _) (st0_5 t) (hstage0_5 ((cfg0.slots t 5).cast nbuf0_5)) (st0_6 t) (hstage0_6 ((cfg0.slots t 6).cast nbuf0_6)) sc0 (Memref.isWhole_whole _) sc1 (Memref.isWhole_whole _) sc2 (Memref.isWhole_whole _) sc3 (Memref.isWhole_whole _) sc4 (Memref.isWhole_whole _) sc5 (Memref.isWhole_whole _) cc0_scratch6 (CNT m c) (MASK m c) (VAL m c) (SX m c) (SR m c) (DY m c) (chunkAt t)
    (fun e => h0 ((cond1_iff t).mp e)) (fun e => hm ((cond2_iff t).mp e)) (fun e => absurd ((cond3_iff t).mp e) (by omega)) (ho16 t) (ho17 t) (ho18 t)
    t.val h W) rfl ?_ (fun _ => ?_)
  · unfold held; rw [if_neg h0, hg, group_eq]
    simp only [before_6 m c t hm]
    unfold xrAt
    iintro ⟨⟨HS, HC⟩, HW, HO, H5, ⟨%d6, H6⟩⟩
    isplitl [HO]; · iexact HO
    isplitl [H5]; · iexact H5
    isplitl [H6]; · iexact H6
    isplitl [HS]; · iexact HS
    isplitl [HC]; · iexact HC
    iexact HW
  · rw [group_eq]

/-- Every point, whatever its place. -/
theorem at_point (c : Dev nD) (t : Fin cfg0.N) (W : Waits sig Unit) :
    iprop(held m c t.val ∗ owes (c : Thread nD τ) 0 W ∗ ops m c t
      ∗ (∃ f, owns (c : Thread nD τ) (st0_5 t) fullShare f) ∗ (∃ d, owns (c : Thread nD τ) (st0_6 t) fullShare ((dats m 0 c).before 6 t d)))
    ⊢ wp frame (wpE (defs₀ (F := F)) Variants.none (c : Thread nD τ) none) Set.univ (bodyAt0 t) (fun _ => After c (st0_0 t) (st0_1 t) (st0_2 t) (st0_3 t) (st0_4 t) hb7 (st0_5 t) (st0_6 t) sc0 sc1 sc2 sc3 sc4 sc5 cc0_scratch6
        (CNT m c) (MASK m c) (VAL m c) (SX m c) (SR m c) (DY m c) (groupAt t.val) (chunkAt t) (t.val + 1)) := by
  by_cases h0 : t.val = 0
  · exact at_first m c t h0 W
  by_cases h1 : t.val < 37
  · exact at_early m c t h0 h1 W
  by_cases h2 : t.val % 37 = 0
  · exact at_group m c t (by omega) h2 W
  · exact at_rest m c t (by omega) h2 W

theorem sound_body (c : Dev nD) (t : Fin cfg0.N) :
    bodyPre m c t ⊢ wp frame (wpE (defs₀ (F := F)) Variants.none (c : Thread nD τ) none) Set.univ (bodyAt0 t) (fun _ => bodyPost m c t) := by
  refine (pre_open m c t).trans ?_
  iintro ⟨HK, Hg, ⟨%W, HW⟩, HO, H5, H6⟩
  ihave H := (at_point m c t W) $$ [HK HW HO H5 H6]
  · isplitl [HK]; · iexact HK
    isplitl [HW]; · iexact HW
    isplitl [HO]; · iexact HO
    isplitl [H5]; · iexact H5
    iexact H6
  iapply (wp_wand frame (wpE (defs₀ (F := F)) Variants.none (c : Thread nD τ) none) Set.univ) $$ H
  iintro %_ HA
  iapply (post_close m c t (chunkAt t) rfl (groupAt t.val) rfl t.val rfl)
  isplitl [HA]; · iexact HA
  iexact Hg

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

/-! ## The run -/

theorem bigSep_one {M : Type} [URA M] {ι : Type} [DecidableEq ι] (i : ι) (Φ : ι → sProp M) : bigSep {i} Φ = Φ i :=
  BI.bigSep_singleton

theorem phi_in (c : Dev nD) : Pipeline.ΦD osem0 spec0 H0 (V m) c ⊢ (dats m 0 c).Φ 0 := by
  rw [Pipeline.ΦD_eq, scopedRest0_eq, show (dats m 0 c).Φ 0 = iprop(held m c 0 ∗ (∃ r, prngReg c r)) from rfl]
  unfold held Pipeline.ownSems0 H0
  rw [if_pos rfl, bigSep_one]
  unfold Fresh
  simp only [owns_whole]
  iintro ⟨⟨S0, S1, S2, S3, S4, S5⟩, Hg, HS, H7⟩
  isplitr [Hg]
  · isplitl [S1 S2 S3 S4 S5]
    · isplitl [S1]; · iexact S1
      isplitl [S2]; · iexact S2
      isplitl [S3]; · iexact S3
      isplitl [S4]; · iexact S4
      iexact S5
    iapply (free_of_whole (F := F) c hb7 sc0 cc0_scratch6 (DY m c))
    isplitl [HS]; · iexact HS
    simp only [owns_whole]
    isplitl [S0]; · iexact S0
    iexact H7
  iexact Hg

theorem phi_out (c : Dev nD) : (dats m 0 c).Φ (Fin.last cfg0.N) ⊢ Pipeline.ΦD osem0 spec0 H0 (V m) c := by
  rw [Pipeline.ΦD_eq, scopedRest0_eq, show (dats m 0 c).Φ (Fin.last cfg0.N) = iprop(held m c 518 ∗ (∃ r, prngReg c r)) from rfl]
  unfold held Pipeline.ownSems0 H0
  rw [if_neg (by omega), bigSep_one, mix_full _ _ 518 (by omega)]
  unfold Held
  simp only [owns_whole]
  iintro ⟨⟨⟨S1, S2, S3, S4, S5⟩, HC⟩, Hg⟩
  ihave HC := (whole_of_landed (F := F) c hb7 sc0 cc0_scratch6 (DY m c)) $$ HC
  icases HC with ⟨HS, S0, H7⟩
  simp only [owns_whole]
  isplitl [S0 S1 S2 S3 S4 S5]
  · isplitl [S0]; · iexists _; iexact S0
    isplitl [S1]; · iexact S1
    isplitl [S2]; · iexists _; iexact S2
    isplitl [S3]; · iexists _; iexact S3
    isplitl [S4]; · iexists _; iexact S4
    iexists _; iexact S5
  isplitl [Hg]; · iexact Hg
  isplitl [HS]; · iexact HS
  iexact H7

set_option backward.isDefEq.respectTransparency.types false in
/-- The run: the outputs hold what the points wrote back, the other buffers are as entered, the semaphores are at zero. -/
theorem run_main : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose)
    (hshare := fun c => (dats m 0 c).share_full fun _ => rfl)
    (howed := fun _ _ => rfl)
    (V := V m) (hmain := hmain m Variants.none) (hA := A_eq m)
    (hin := phi_in m) (hout := phi_out m)

/-- The frame: the run ends with the six arguments as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main m ρ)

end Cert.Kernel.Hand

end
-- ==== Proof.ContentsIdeal.lean ====
/-
  What the kernel's scratch and output buffers hold, as functions of what its operands hold.

  CNT, MASK, VAL, SX, SR, DY: the counts, the mask words, the packed code bytes, the two scale columns (each spread over
  128 lanes) and the quantised gradient, as the kernel's body sees them.
-/
module

public import proofs.«01_k».proof.Proof.Gen.KernelIdeal.Skeleton
public import Idealize.ShloMosaic.Lib.Pointwise.Index

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- Where token `t`'s codes begin, as the 32-bit running sum of the counts before it. -/
def startAt (CNT : Vec F S1920 .i32) : ℕ → BitVec 32
  | 0 => 0#32
  | k + 1 => Scalar.addi (startAt CNT k) (if h : k < 1920 then (CNT (ix1 (⟨k, h⟩ : Fin 1920)) : BitVec 32) else 0#32)

/-- The code words: four code rows to one 32-bit row. -/
abbrev words (VAL : Vec F S13440x128 .i8) : Vec F S3360x128 .i32 := k0_pay1 VAL

/-- The row index of a start `s`: the number of whole 512-code rows before it, at most 3357. -/
theorem rowOf_toNat (s : BitVec 32) : (Scalar.minsi (Scalar.shrui s 9#32) 3357#32).toNat = min (s.toNat / 512) 3357 := by
  have h1 : Scalar.shrui s 9#32 = s >>> 9 := rfl
  have h2 : (s >>> 9).toNat = s.toNat / 512 := by rw [BitVec.toNat_ushiftRight, Nat.shiftRight_eq_div_pow]
  have h3 := s.isLt
  have h4 : (s >>> 9).toInt = ((s.toNat / 512 : ℕ) : ℤ) := by
    rw [BitVec.toInt_eq_toNat_of_lt (by omega), h2]
  rw [h1]
  show (if (s >>> 9).slt 3357#32 then s >>> 9 else 3357#32).toNat = _
  have h5 : (3357#32 : BitVec 32).toInt = 3357 := by decide
  rw [BitVec.slt, h4, h5]
  by_cases h : s.toNat / 512 < 3357
  · rw [if_pos (by simpa using (by omega : ((s.toNat / 512 : ℕ) : ℤ) < 3357)), h2]; omega
  · rw [if_neg (by simpa using (by omega : ¬ ((s.toNat / 512 : ℕ) : ℤ) < 3357))]
    show 3357 = _; omega

/-- The word row read for window row `r` at start `s`. -/
theorem off3_eq (s : BitVec 32) (r : Fin 3) : k0_off3 s (BitVec.ofNat 32 r.val) = ![min (s.toNat / 512) 3357 + r.val, 0] := by
  show ![(Scalar.minsi (Scalar.shrui s 9#32) 3357#32 + BitVec.ofNat 32 r.val).toNat, 0] = _
  have := r.isLt
  rw [BitVec.toNat_add, rowOf_toNat, BitVec.toNat_ofNat, Nat.mod_eq_of_lt (a := r.val) (by omega), Nat.mod_eq_of_lt (by omega)]

/-- The word row read for window row `r` at start `s`, as an index of the word array. -/
def wrow (s : BitVec 32) (r : Fin 3) : Fin 3360 := ⟨min (s.toNat / 512) 3357 + r.val, by omega⟩

/-- Every start passes the check made before a token's rows are read. -/
theorem chk1 (i : grid0.Coords) (s : BitVec 32) : k0_chk1 i s := by
  intro _ r a
  rw [off3_eq]
  fin_cases a
  · show min (s.toNat / 512) 3357 + r.val + 1 ≤ 3360; omega
  · show 0 + 128 ≤ 128; omega

/-- Token windows: three word rows per token, from the row its codes begin in. -/
def win (CNT : Vec F S1920 .i32) (VAL : Vec F S13440x128 .i8) : Vec F S3x1920x128 .i32 := fun y =>
  words VAL (ix2 (wrow (startAt CNT (y 1).val) (y 0)) (y 2))

/-- Token offsets before the prefix sums: where in its window a token's codes begin. -/
def off0 (CNT : Vec F S1920 .i32) : Vec F S1920x128 .i32 := fun y =>
  k0_pay5 (startAt CNT (y 0).val) (ix2 (0 : Fin 1) (y 1))

/-- The mask words, 112 lanes of the operand's and zeros after them. -/
def word (MASK : Vec F S1920x112 .i32) : Vec F S1920x128 .i32 := fun y =>
  if h : (y 1).val < 112 then k0_pay7 MASK (ix2 (y 0) (⟨(y 1).val, h⟩ : Fin 112)) else k0_pay6 y

section Blocks

variable {e : EltTy}

/-- The row of block `k`'s row `q`, 32 rows to a block. -/
def brow (k : ℕ) (hk : k < 60) (q : Fin 32) : Fin 1920 := ⟨32 * k + q.val, by omega⟩

/-- Rows 32k … 32k + 31 of a 1920-row array. -/
def blk (X : Vec F S1920x128 e) (k : ℕ) (hk : k < 60) : Vec F S32x128 e := fun j => X (ix2 (brow k hk (j 0)) (j 1))

/-- Rows 32k … 32k + 31 of plane `r` of the windows. -/
def wblk (X : Vec F S3x1920x128 e) (r : Fin 3) (k : ℕ) (hk : k < 60) : Vec F S1x32x128 e := fun j =>
  X (ix3 r (brow k hk (j 1)) (j 2))

end Blocks

theorem blk_lt (t : Fin 1920) : t.val / 32 < 60 := by omega
/-- The row a token has in its block. -/
def inBlk (t : Fin 1920) : Fin 32 := ⟨t.val % 32, Nat.mod_lt _ (by decide)⟩

/-- The lane numbers. -/
abbrev lanes : IVec S32x128 32 := iota .tc S32x128 32 [1] iota_S32x128_d1_w32

/-- The offsets of one block after the prefix sums, of its mask words `w` and its offsets `o` before them. -/
def off1Blk (w o : Vec F S32x128 .i32) : IVec S32x128 32 :=
  k0_pay8 (F := F) (k0_pay11 (F := F) w) (k0_pay12 (F := F) lanes w) (k0_pay13 lanes) (k0_pay14 (F := F) lanes w) k0_pay15 o

/-- Token offsets after the prefix sums, of the mask words and the offsets before them. -/
def off1Of (WORD OFF : Vec F S1920x128 .i32) : Vec F S1920x128 .i32 := fun y =>
  off1Blk (F := F) (blk WORD ((y 0).val / 32) (blk_lt (y 0))) (blk OFF ((y 0).val / 32) (blk_lt (y 0))) (ix2 (inBlk (y 0)) (y 1))

/-- Token offsets: per mask word, where in its token's window the word's first code is. -/
abbrev off1 (CNT : Vec F S1920 .i32) (MASK : Vec F S1920x112 .i32) : Vec F S1920x128 .i32 :=
  off1Of (F := F) (word (F := F) MASK) (off0 (F := F) CNT)

section Decode

/-- The first 128 decoded columns of a block in column group `c`, of its mask words `w`, offsets `o`, windows and scales. -/
def decLo (c : BitVec 32) (w o : Vec F S32x128 .i32) (w0 w1 w2 : Vec F S1x32x128 .i32) (sx : Vec F S32x128 .f32) : FVec F S32x128 .bf16 :=
  k0_pay23 (k0_pay19 (F := F) c w) (k0_pay20 (F := F) c w o) (k0_pay21 (F := F) c w o) (k0_pay22 (F := F) c w o) w0 w1 w2 sx
/-- The last 128 decoded columns of the block. -/
def decHi (c : BitVec 32) (w o : Vec F S32x128 .i32) (w0 w1 w2 : Vec F S1x32x128 .i32) (sx : Vec F S32x128 .f32) : FVec F S32x128 .bf16 :=
  k0_pay32 (k0_pay29 (F := F) c w) (k0_pay30 (F := F) c w o) (k0_pay31 (F := F) c w o) 9#32 w0 w1 w2 sx
/-- The first 128 columns of the operand of the product, scaled once more. -/
def mulLo (c : BitVec 32) (w o : Vec F S32x128 .i32) (w0 w1 w2 : Vec F S1x32x128 .i32) (sx sr : Vec F S32x128 .f32) : FVec F S32x128 .bf16 :=
  k0_pay25 (k0_pay24 (k0_pay19 (F := F) c w) (k0_pay20 (F := F) c w o) (k0_pay21 (F := F) c w o) (k0_pay22 (F := F) c w o) w0 w1 w2 sx sr)
/-- The last 128 columns of the operand of the product, scaled once more. -/
def mulHi (c : BitVec 32) (w o : Vec F S32x128 .i32) (w0 w1 w2 : Vec F S1x32x128 .i32) (sx sr : Vec F S32x128 .f32) : FVec F S32x128 .bf16 :=
  k0_pay9 (decHi c w o w0 w1 w2 sx) (k0_pay33 sr)

variable (CNT : Vec F S1920 .i32) (MASK : Vec F S1920x112 .i32) (VAL : Vec F S13440x128 .i8) (SX SR : Vec F S1920x128 .f32)
variable (WORD OFF : Vec F S1920x128 .i32) (WIN : Vec F S3x1920x128 .i32)

/-- Column group `c` of the decoded tokens, of the mask words, offsets and windows held in scratch. -/
def xrecOf (c : BitVec 32) : Vec F S1920x256 .bf16 := fun y =>
  if h : (y 1).val < 128 then
    decLo c (blk WORD _ (blk_lt (y 0))) (blk OFF _ (blk_lt (y 0))) (wblk WIN 0 _ (blk_lt (y 0))) (wblk WIN 1 _ (blk_lt (y 0)))
      (wblk WIN 2 _ (blk_lt (y 0))) (blk SX _ (blk_lt (y 0))) (ix2 (inBlk (y 0)) (⟨(y 1).val, h⟩ : Fin 128))
  else
    decHi c (blk WORD _ (blk_lt (y 0))) (blk OFF _ (blk_lt (y 0))) (wblk WIN 0 _ (blk_lt (y 0))) (wblk WIN 1 _ (blk_lt (y 0)))
      (wblk WIN 2 _ (blk_lt (y 0))) (blk SX _ (blk_lt (y 0))) (ix2 (inBlk (y 0)) (⟨(y 1).val - 128, by have := (y 1).isLt; show _ < 128; change (y 1).val < 256 at this; omega⟩ : Fin 128))

/-- Column group `c` of the product's first operand. -/
def xtOf (c : BitVec 32) : Vec F S1920x256 .bf16 := fun y =>
  if h : (y 1).val < 128 then
    mulLo c (blk WORD _ (blk_lt (y 0))) (blk OFF _ (blk_lt (y 0))) (wblk WIN 0 _ (blk_lt (y 0))) (wblk WIN 1 _ (blk_lt (y 0)))
      (wblk WIN 2 _ (blk_lt (y 0))) (blk SX _ (blk_lt (y 0))) (blk SR _ (blk_lt (y 0))) (ix2 (inBlk (y 0)) (⟨(y 1).val, h⟩ : Fin 128))
  else
    mulHi c (blk WORD _ (blk_lt (y 0))) (blk OFF _ (blk_lt (y 0))) (wblk WIN 0 _ (blk_lt (y 0))) (wblk WIN 1 _ (blk_lt (y 0)))
      (wblk WIN 2 _ (blk_lt (y 0))) (blk SX _ (blk_lt (y 0))) (blk SR _ (blk_lt (y 0))) (ix2 (inBlk (y 0)) (⟨(y 1).val - 128, by have := (y 1).isLt; show _ < 128; change (y 1).val < 256 at this; omega⟩ : Fin 128))

/-- Column group `c` of the decoded tokens, of the operands. -/
abbrev xrec (c : BitVec 32) : Vec F S1920x256 .bf16 :=
  xrecOf SX (word (F := F) MASK) (off1 (F := F) CNT MASK) (win (F := F) CNT VAL) c

/-- Column group `c` of the product's first operand, of the operands. -/
abbrev xt (c : BitVec 32) : Vec F S1920x256 .bf16 :=
  xtOf SX SR (word (F := F) MASK) (off1 (F := F) CNT MASK) (win (F := F) CNT VAL) c

end Decode

/-- Columns 512n … 512n + 511 of the gradient. -/
def dyChunk (DY : Vec F S1920x18944 .fp8e5m2) (n : ℕ) (hn : n < 37) : Vec F S1920x512 .fp8e5m2 := fun j =>
  DY (ix2 (j 0) (⟨512 * n + (j 1).val, by have := (j 1).isLt; change (j 1).val < 512 at this; omega⟩ : Fin 18944))

end Cert.KernelIdeal.Hand

end
-- ==== Proof.Ranks.lean ====
module

public import Idealize.ShloMosaic.Lib.PointwiseCore
public import Idealize.ShloMosaic.Lib.WordArith
public import Mathlib.Data.BitVec
public import Mathlib.Tactic.Abel
public import Mathlib.Algebra.BigOperators.Intervals

/-!
Counting set bits: how many bits before a position of a row of mask words are set, by whole words and then
within one word, and how a running sum made of doubling shifts is the sum of a prefix.
-/

@[expose] public section

noncomputable section

namespace Cert.Ranks

open Idealize.ShloMosaic

/-- Bit `i` of a row of 32-bit words, as a number. -/
def bit (w : ℕ → BitVec 32) (i : ℕ) : ℕ := ((w (i / 32)).getLsbD (i % 32)).toNat

/-- How many bits before position `i` are set. -/
def rank (w : ℕ → BitVec 32) (i : ℕ) : ℕ := ∑ j ∈ Finset.range i, bit w j

theorem bit_le (w : ℕ → BitVec 32) (i : ℕ) : bit w i ≤ 1 := Bool.toNat_le _

theorem rank_succ (w : ℕ → BitVec 32) (i : ℕ) : rank w (i + 1) = rank w i + bit w i := Finset.sum_range_succ _ _

theorem rank_le (w : ℕ → BitVec 32) (i : ℕ) : rank w i ≤ i := by
  induction i with
  | zero => exact le_refl _
  | succ i ih => rw [rank_succ]; have := bit_le w i; omega

/-- The number of set bits of a word below bit `b`. -/
def low (x : BitVec 32) (b : ℕ) : ℕ := ∑ q ∈ Finset.range b, (x.getLsbD q).toNat

theorem filter_length (x : BitVec 32) (b : ℕ) : ((List.range b).filter fun i => x.getLsbD i).length = low x b := by
  induction b with
  | zero => rfl
  | succ b ih =>
    rw [List.range_succ, List.filter_append, List.length_append, ih, low, low, Finset.sum_range_succ]
    congr 1
    cases h : x.getLsbD b <;> simp [h]

theorem ctpop_eq (x : BitVec 32) : IntOp.ctpop x = BitVec.ofNat 32 (low x 32) := by
  unfold IntOp.ctpop; rw [filter_length]

/-- The population count of a word with the bits from `b` on cleared. -/
theorem low_mask (x : BitVec 32) (b : ℕ) (hb : b < 32) :
    low (x &&& ((1#32 <<< b) - 1#32)) 32 = low x b := by
  have hd : ∀ b q : Fin 32, ((1#32 <<< b.val) - 1#32 : BitVec 32).getLsbD q.val = decide (q.val < b.val) := by decide +kernel
  have hm : ∀ q, ((1#32 <<< b) - 1#32 : BitVec 32).getLsbD q = decide (q < b) := fun q => by
    by_cases hq : q < 32
    · exact hd ⟨b, hb⟩ ⟨q, hq⟩
    · rw [BitVec.getLsbD_of_ge _ _ (by omega), decide_eq_false (by omega)]
  have h2 : Finset.range 32 = Finset.range (b + (32 - b)) := by congr 1; omega
  unfold low
  rw [h2, Finset.sum_range_add, Finset.sum_congr rfl (g := fun q => (x.getLsbD q).toNat), add_eq_left]
  · refine Finset.sum_eq_zero fun q _ => ?_
    rw [BitVec.getLsbD_and, hm]; simp
  · intro q hq
    have := Finset.mem_range.mp hq
    rw [BitVec.getLsbD_and, hm]; simp [this]

/-- The rank of a position, by whole words and then within its word. -/
theorem rank_split (w : ℕ → BitVec 32) (k b : ℕ) (hb : b ≤ 32) :
    rank w (32 * k + b) = (∑ j ∈ Finset.range k, low (w j) 32) + low (w k) b := by
  have hin : ∀ k b, b ≤ 32 → ∑ q ∈ Finset.range b, bit w (32 * k + q) = low (w k) b := fun k b hb =>
    Finset.sum_congr rfl fun q hq => by
      have := Finset.mem_range.mp hq
      unfold bit
      rw [show (32 * k + q) / 32 = k by omega, show (32 * k + q) % 32 = q by omega]
  have hwords : ∀ k, rank w (32 * k) = ∑ j ∈ Finset.range k, low (w j) 32 := by
    intro k
    induction k with
    | zero => simp [rank]
    | succ k ih =>
      rw [Finset.sum_range_succ, ← ih, ← hin k 32 (le_refl _), show 32 * (k + 1) = 32 * k + 32 by omega]
      unfold rank
      rw [Finset.sum_range_add]
  rw [← hwords, ← hin k b hb]
  unfold rank
  rw [Finset.sum_range_add]

/-- One doubling step of a running sum: a sum over the last `n` entries and one over the `n` before them. -/
theorem doubling (P : ℕ → BitVec 32) (h0 : P 0 = 0#32) (n l : ℕ) :
    (P (l + 1) - P (l + 1 - n)) + (if n ≤ l then P (l - n + 1) - P (l - n + 1 - n) else 0#32) = P (l + 1) - P (l + 1 - 2 * n) := by
  split
  · next h =>
    rw [show l - n + 1 - n = l + 1 - 2 * n by omega, show l + 1 - n = l - n + 1 by omega]; abel
  · next h =>
    rw [show l + 1 - n = 0 by omega, show l + 1 - 2 * n = 0 by omega, h0]; simp

theorem ofNat_sum (f : ℕ → ℕ) (n : ℕ) : ∑ j ∈ Finset.range n, BitVec.ofNat 32 (f j) = BitVec.ofNat 32 (∑ j ∈ Finset.range n, f j) := by
  induction n with
  | zero => rfl
  | succ n ih => rw [Finset.sum_range_succ, Finset.sum_range_succ, ih, BitVec.ofNat_add]

end Cert.Ranks

end
-- ==== Proof.Scan.lean ====
/-
  The prefix sums of the kernel: after seven doubling steps over the 128 lanes of a block's population counts, lane `l`
  holds the counts of lanes 0 … l, so the offsets after them are the offsets before plus the set bits of the words before.
-/
module

public import proofs.«01_k».proof.Proof.ContentsIdeal
public import proofs.«01_k».proof.Proof.Ranks
public import Idealize.ShloMosaic.Lib.PointwiseCore

@[expose] public section

set_option maxRecDepth 16384

noncomputable section

namespace Cert.KernelIdeal.Hand

open Cert.KernelIdeal Cert.KernelIdeal.Gen
open Idealize.ShloMosaic Idealize.ShloMosaic.TcCoe
open Cert.Ranks

variable {F : FTy → Type} [FloatOps F]

/-- The population counts of the first `k` lanes of row `r`, summed. -/
def countsTo (w : IVec S32x128 32) (r : Fin 32) (k : ℕ) : BitVec 32 :=
  ∑ j ∈ Finset.range k, if h : j < 128 then IntOp.ctpop (w (ix2 r (⟨j, h⟩ : Fin 128))) else 0#32

theorem countsTo_zero (w : IVec S32x128 32) (r : Fin 32) : countsTo w r 0 = 0#32 := rfl

theorem countsTo_succ (w : IVec S32x128 32) (r : Fin 32) (l : Fin 128) :
    countsTo w r (l.val + 1) = countsTo w r l.val + IntOp.ctpop (w (ix2 r l)) := by
  unfold countsTo
  rw [Finset.sum_range_succ, dif_pos l.isLt]

/-- `x` holds at each lane the counts of the last `n` lanes up to it. -/
def Runs (w : IVec S32x128 32) (n : ℕ) (x : IVec S32x128 32) : Prop :=
  ∀ (r : Fin 32) (l : Fin 128), x (ix2 r l) = countsTo w r (l.val + 1) - countsTo w r (l.val + 1 - n)

/-- A rotation by `n` lanes brings lane `l - n` to lane `l`. -/
theorem rotate_at (x : IVec S32x128 32) (n : ℕ) (hn : n < 128) (h : S32x128.Rotates 1 none) (r : Fin 32) (l : Fin 128) (hl : n ≤ l.val) :
    dynamicRotate 1 (BitVec.ofNat 32 n) none x h (ix2 r l) = x (ix2 r (⟨l.val - n, by omega⟩ : Fin 128)) := by
  have hl' := l.isLt
  have e : (l.val + 128 - (BitVec.ofNat 32 n).toNat % 128) % 128 = l.val - n := by
    rw [BitVec.toNat_ofNat, Nat.mod_eq_of_lt (a := n) (by omega), Nat.mod_eq_of_lt (a := n) (by omega)]; omega
  unfold dynamicRotate
  refine congrArg x ?_
  funext b
  match b with
  | ⟨0, _⟩ => rfl
  | ⟨1, _⟩ => exact Fin.ext e

/-- A lane at or past `n` is told by the signed comparison. -/
theorem lane_ge (n : ℕ) (hn : n < 128) (l : Fin 128) :
    IntOp.cmpi .sge (BitVec.ofNat 32 l.val) (BitVec.ofNat 32 n) = if n ≤ l.val then 1#1 else 0#1 := by
  have hl := l.isLt
  have h1 : (BitVec.ofNat 32 l.val).toInt = l.val := by
    rw [BitVec.toInt_eq_toNat_of_lt (by rw [BitVec.toNat_ofNat, Nat.mod_eq_of_lt (by omega)]; omega), BitVec.toNat_ofNat, Nat.mod_eq_of_lt (by omega)]
  have h2 : (BitVec.ofNat 32 n).toInt = n := by
    rw [BitVec.toInt_eq_toNat_of_lt (by rw [BitVec.toNat_ofNat, Nat.mod_eq_of_lt (by omega)]; omega), BitVec.toNat_ofNat, Nat.mod_eq_of_lt (by omega)]
  show BitVec.ofBool ((BitVec.ofNat 32 n).sle (BitVec.ofNat 32 l.val)) = _
  rw [BitVec.sle, h1, h2]
  by_cases h : n ≤ l.val
  · rw [if_pos h, decide_eq_true (by omega)]; rfl
  · rw [if_neg h, decide_eq_false (by omega)]; rfl

/-- One doubling step. -/
theorem runs_double (w : IVec S32x128 32) (n : ℕ) (hn : n < 128) (x : IVec S32x128 32) (h : S32x128.Rotates 1 none) (hx : Runs w n x) :
    Runs w (2 * n) (addi x (select (cmpi .sge lanes (broadcast S32x128 (BitVec.ofNat 32 n))) (dynamicRotate 1 (BitVec.ofNat 32 n) none x h) (broadcast S32x128 0#32))) := by
  intro r l
  rw [← doubling (countsTo w r) (countsTo_zero w r) n l.val, ← hx r l]
  show x (ix2 r l) + Scalar.select (IntOp.cmpi .sge (lanes (ix2 r l)) (BitVec.ofNat 32 n)) (dynamicRotate 1 (BitVec.ofNat 32 n) none x h (ix2 r l)) 0#32 = _
  rw [show lanes (ix2 r l) = BitVec.ofNat 32 l.val by pointwise, lane_ge n hn l]
  congr 1
  by_cases hl : n ≤ l.val
  · rw [if_pos hl, if_pos hl, rotate_at x n hn h r l hl, hx]; rfl
  · rw [if_neg hl, if_neg hl]; rfl

/-- The offsets after the prefix sums: those before plus the set bits of the words in the lanes before. -/
theorem off1Blk_at (w o : Vec F S32x128 .i32) (r : Fin 32) (l : Fin 128) :
    off1Blk (F := F) w o (ix2 r l) = (o (ix2 r l) : BitVec 32) + countsTo w r l.val := by
  have h0 : Runs w 1 (k0_pay11 (F := F) w) := fun r l => by
    rw [show l.val + 1 - 1 = l.val by omega, countsTo_succ]
    show IntOp.ctpop (w (ix2 r l)) = _
    abel
  have h1 := runs_double w 1 (by decide) _ rotates_S32x128_d1 h0
  have h2 := runs_double w 2 (by decide) _ rotates_S32x128_d1 h1
  have h3 := runs_double w 4 (by decide) _ rotates_S32x128_d1 h2
  have h4 := runs_double w 8 (by decide) _ rotates_S32x128_d1 h3
  have h5 := runs_double w 16 (by decide) _ rotates_S32x128_d1 h4
  have h6 := runs_double w 32 (by decide) _ rotates_S32x128_d1 h5
  have h7 := runs_double w 64 (by decide) _ rotates_S32x128_d1 h6 r l
  have hl := l.isLt
  rw [show l.val + 1 - 2 * 64 = 0 by omega, countsTo_zero, countsTo_succ] at h7
  unfold off1Blk k0_pay8
  rw [show ∀ x : IVec S32x128 32, shapeCast S32x128 x shapeCasts_S32x128_S32x128 (ix2 r l) = x (ix2 r l) from fun x => by pointwise]
  show (o (ix2 r l) : BitVec 32) + (_ - IntOp.ctpop (w (ix2 r l))) = _
  refine congrArg ((o (ix2 r l) : BitVec 32) + ·) ?_
  refine (congrArg (· - IntOp.ctpop (w (ix2 r l))) h7).trans ?_
  show countsTo w r l.val + IntOp.ctpop (w (ix2 r l)) - 0#32 - IntOp.ctpop (w (ix2 r l)) = _
  rw [show (0#32 : BitVec 32) = 0 from rfl]; abel

end Cert.KernelIdeal.Hand

end
-- ==== Proof.Unpack.lean ====
/-
  One code out of the words held for a token: which of three word rows, which lane, which byte.
-/
module

public import Idealize.ShloMosaic.Lib.BitcastFour
public import Idealize.ShloMosaic.Lib.PointwiseCore

@[expose] public section

noncomputable section

namespace Cert.Unpack

open Idealize.ShloMosaic

/-- The byte picked for a column: of word rows `x0`, `x1`, `x2` at the position's lane the one its bits from the ninth up name,
    of that word the byte its eighth and ninth bits name; zero where the mask bit is clear. -/
def pick (b : BitVec 1) (p x0 x1 x2 : BitVec 32) : BitVec 8 :=
  (Scalar.select b
    (IntOp.andi (IntOp.shrui .vector
      (Scalar.select (IntOp.cmpi .eq (IntOp.shrui .vector p 9#32) 2#32) x2
        (Scalar.select (IntOp.cmpi .eq (IntOp.shrui .vector p 9#32) 1#32) x1 x0))
      (IntOp.andi (IntOp.shrui .vector p 4#32) 24#32)) 255#32) 0#32).setWidth 8

theorem cmpi_eq_true (x y : BitVec 32) (h : x = y) : IntOp.cmpi .eq x y = 1#1 := by
  subst h; show BitVec.ofBool (x == x) = 1#1; rw [beq_self_eq_true]; rfl
theorem cmpi_eq_false (x y : BitVec 32) (h : x ≠ y) : IntOp.cmpi .eq x y = 0#1 := by
  show BitVec.ofBool (x == y) = 0#1; rw [beq_eq_false_iff_ne.mpr h]; rfl

/-- A clear mask bit picks zero. -/
theorem pick_clear (p x0 x1 x2 : BitVec 32) : pick 0#1 p x0 x1 x2 = 0#8 := rfl

/-- The lane named by a position. -/
theorem lane_toNat (p : BitVec 32) : (IntOp.andi p 127#32).toNat = p.toNat % 128 := by
  show (p &&& 127#32).toNat = _
  rw [BitVec.toNat_and]
  exact Nat.and_two_pow_sub_one_eq_mod p.toNat 7

theorem shift_toNat (p : BitVec 32) : (IntOp.andi (IntOp.shrui .vector p 4#32) 24#32).toNat = 8 * (p.toNat / 128 % 4) := by
  have h1 : IntOp.shrui .vector p 4#32 = p >>> 4 := rfl
  rw [h1]
  show (p >>> 4 &&& 24#32).toNat = _
  have h2 : (p >>> 4 &&& 24#32) = (p >>> 7 &&& 3#32) <<< 3 := by
    apply BitVec.eq_of_getLsbD_eq
    intro i hi
    simp only [BitVec.getLsbD_and, BitVec.getLsbD_shiftLeft, BitVec.getLsbD_ushiftRight]
    interval_cases i <;> simp
  have h3 : (p >>> 7 &&& 3#32).toNat = p.toNat / 128 % 4 := by
    rw [BitVec.toNat_and, BitVec.toNat_ushiftRight, Nat.shiftRight_eq_div_pow]
    exact Nat.and_two_pow_sub_one_eq_mod (p.toNat / 2 ^ 7) 2
  rw [h2, BitVec.toNat_shiftLeft, h3, Nat.shiftLeft_eq, Nat.mod_eq_of_lt (by omega)]
  omega

/-- The low byte of a word shifted right by whole bytes. -/
theorem byte_at (x : BitVec 32) (k : ℕ) (hk : k < 4) (s : BitVec 32) (hs : s.toNat = 8 * k) (y : BitVec 8)
    (hy : ∀ i, i < 8 → x.getLsbD (8 * k + i) = y.getLsbD i) :
    (IntOp.andi (IntOp.shrui .vector x s) 255#32).setWidth 8 = y := by
  have h1 : IntOp.shrui .vector x s = x >>> s := if_pos (by omega)
  rw [h1]
  apply BitVec.eq_of_getLsbD_eq
  intro i hi
  show ((x >>> s &&& 255#32).setWidth 8).getLsbD i = _
  have h255 : (255#32 : BitVec 32).getLsbD i = true := by interval_cases i <;> rfl
  rw [BitVec.getLsbD_setWidth, BitVec.getLsbD_and, BitVec.ushiftRight_eq', BitVec.getLsbD_ushiftRight, hs, hy i hi, h255]
  simp [hi]

/-- A set mask bit picks the byte at its position: byte `P / 128 % 4` of lane `P % 128` of word row `P / 512`. -/
theorem pick_set (p x0 x1 x2 : BitVec 32) (hp : p.toNat < 1536) (X : Fin 3 → BitVec 32) (h0 : X 0 = x0) (h1 : X 1 = x1) (h2 : X 2 = x2)
    (y : BitVec 8)
    (hy : ∀ i, i < 8 → (X ⟨p.toNat / 512, by omega⟩).getLsbD (8 * (p.toNat / 128 % 4) + i) = y.getLsbD i) :
    pick 1#1 p x0 x1 x2 = y := by
  have hn : (IntOp.shrui .vector p 9#32).toNat = p.toNat / 512 := by
    show (p >>> 9).toNat = _
    rw [BitVec.toNat_ushiftRight, Nat.shiftRight_eq_div_pow]
  have hsel : Scalar.select (IntOp.cmpi .eq (IntOp.shrui .vector p 9#32) 2#32) x2
      (Scalar.select (IntOp.cmpi .eq (IntOp.shrui .vector p 9#32) 1#32) x1 x0) = X ⟨p.toNat / 512, by omega⟩ := by
    have hr : p.toNat / 512 = 0 ∨ p.toNat / 512 = 1 ∨ p.toNat / 512 = 2 := by omega
    rcases hr with hr | hr | hr
    · have e : IntOp.shrui .vector p 9#32 = 0#32 := BitVec.eq_of_toNat_eq (hn.trans hr)
      have ex : (⟨p.toNat / 512, by omega⟩ : Fin 3) = 0 := Fin.ext hr
      rw [ex, e, h0]; rfl
    · have e : IntOp.shrui .vector p 9#32 = 1#32 := BitVec.eq_of_toNat_eq (hn.trans hr)
      have ex : (⟨p.toNat / 512, by omega⟩ : Fin 3) = 1 := Fin.ext hr
      rw [ex, e, h1]; rfl
    · have e : IntOp.shrui .vector p 9#32 = 2#32 := BitVec.eq_of_toNat_eq (hn.trans hr)
      have ex : (⟨p.toNat / 512, by omega⟩ : Fin 3) = 2 := Fin.ext hr
      rw [ex, e, h2]; rfl
  unfold pick
  rw [hsel]
  exact byte_at _ (p.toNat / 128 % 4) (by omega) _ (shift_toNat p) y hy

/-- The mask bit of a word, as the kernel's comparison tells it. -/
theorem bit_at (x : BitVec 32) (b : BitVec 32) (hb : b.toNat < 32) :
    IntOp.cmpi .eq (IntOp.andi (IntOp.shrui .vector x b) 1#32) 1#32 = BitVec.ofBool (x.getLsbD b.toNat) := by
  have h1 : IntOp.shrui .vector x b = x >>> b := if_pos hb
  rw [h1]
  have h2 : IntOp.andi (x >>> b) 1#32 = if x.getLsbD b.toNat then 1#32 else 0#32 := by
    apply BitVec.eq_of_getLsbD_eq
    intro i hi
    show (x >>> b &&& 1#32).getLsbD i = _
    rw [BitVec.getLsbD_and, BitVec.ushiftRight_eq', BitVec.getLsbD_ushiftRight]
    by_cases h0 : i = 0
    · subst h0; cases h : x.getLsbD b.toNat <;> simp [h]
    · have : (1#32 : BitVec 32).getLsbD i = false := by
        rw [BitVec.getLsbD_one]; simp [h0]
      rw [this]; split <;> simp [this]
  rw [h2]
  cases x.getLsbD b.toNat <;> rfl

end Cert.Unpack

end
-- ==== Proof.Codes.lean ====
/-
  One decoded element of the kernel: which mask word and bit a lane of a column group reads, the position they give, and
  the value of the picked byte times the scale.
-/
module

public import proofs.«01_k».proof.Proof.Scan
public import proofs.«01_k».proof.Proof.Unpack
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe
open Cert.Ranks Cert.Unpack

/-- The mask word of lane `l` of half `h` of column group `g`. -/
def wordOf (g : ℕ) (h : ℕ) (l : Fin 128) : ℕ := l.val / 32 + (g * 2 + h) * 4

theorem wordOf_lt (g h : ℕ) (hg : g < 14) (hh : h < 2) (l : Fin 128) : wordOf g h l < 112 := by
  unfold wordOf; omega

/-- The lane of a mask word. -/
abbrev lane (k : ℕ) (hk : k < 112) : Fin 128 := ⟨k, by omega⟩

/-- The position of a lane's code, of the word, the word's offset and the bit. -/
def posOf (w o : BitVec 32) (b : BitVec 32) : BitVec 32 :=
  o + IntOp.ctpop (IntOp.andi w (IntOp.subi (IntOp.shli .vector 1#32 b) 1#32))

/-- The bit a lane reads in its word. -/
abbrev bitOf (l : Fin 128) : BitVec 32 := IntOp.andi (BitVec.ofNat 32 l.val) 31#32

theorem bitOf_toNat (l : Fin 128) : (bitOf l).toNat = l.val % 32 := by
  show (BitVec.ofNat 32 l.val &&& 31#32).toNat = _
  have := l.isLt
  rw [BitVec.toNat_and, BitVec.toNat_ofNat, Nat.mod_eq_of_lt (by omega)]
  exact Nat.and_two_pow_sub_one_eq_mod l.val 5

/-- The word index as the kernel computes it. -/
theorem wordIdx (g h : ℕ) (hg : g < 14) (hh : h < 2) (l : Fin 128) :
    (IntOp.addi (IntOp.shrui .vector (BitVec.ofNat 32 l.val) 5#32)
      (Scalar.muli (Scalar.addi (Scalar.muli (BitVec.ofNat 32 g) 2#32) (BitVec.ofNat 32 h)) 4#32)).toNat = wordOf g h l := by
  have hl := l.isLt
  have h1 : IntOp.shrui .vector (BitVec.ofNat 32 l.val) 5#32 = BitVec.ofNat 32 (l.val / 32) := by
    show BitVec.ofNat 32 l.val >>> 5 = _
    apply BitVec.eq_of_toNat_eq
    rw [BitVec.toNat_ushiftRight, BitVec.toNat_ofNat, BitVec.toNat_ofNat, Nat.shiftRight_eq_div_pow, Nat.mod_eq_of_lt (by omega), Nat.mod_eq_of_lt (by omega)]
  rw [h1]
  show (BitVec.ofNat 32 (l.val / 32) + (BitVec.ofNat 32 g * BitVec.ofNat 32 2 + BitVec.ofNat 32 h) * BitVec.ofNat 32 4).toNat = _
  rw [← BitVec.ofNat_mul, ← BitVec.ofNat_add, ← BitVec.ofNat_mul, ← BitVec.ofNat_add, BitVec.toNat_ofNat, Nat.mod_eq_of_lt (by omega)]
  rfl

section
variable {F : FTy → Type} [FloatOps F]

/-- Lookup along the lanes of a row. -/
theorem gather_at {α : Type} (x : S32x128.Idx → α) (idx : IVec S32x128 32) (q : Fin 32) (l : Fin 128) (k : Fin 128)
    (hk : (idx (ix2 q l)).toNat % 128 = k.val) : dynamicGather 1 x idx (ix2 q l) = x (ix2 q k) := by
  unfold dynamicGather
  refine congrArg x ?_
  funext b
  match b with
  | ⟨0, _⟩ => rfl
  | ⟨1, _⟩ => exact Fin.ext hk

theorem again_at (x : IVec S32x128 32) (q : Fin 32) (l : Fin 128) :
    shapeCast S32x128 (shapeCast S32x128x1 x shapeCasts_S32x128_S32x128x1) shapeCasts_S32x128x1_S32x128 (ix2 q l) = x (ix2 q l) := by
  pointwise

variable (g : ℕ) (hg : g < 14) (w o : Vec F S32x128 .i32) (q : Fin 32) (l : Fin 128)

include hg

theorem pay16_at : (k0_pay16 (BitVec.ofNat 32 g) (ix2 q l)).toNat % 128 = wordOf g 0 l := by
  have := wordOf_lt g 0 hg (by decide) l
  have e : k0_pay16 (BitVec.ofNat 32 g) (ix2 q l) = IntOp.addi (IntOp.shrui .vector (BitVec.ofNat 32 l.val) 5#32)
      (Scalar.muli (Scalar.addi (Scalar.muli (BitVec.ofNat 32 g) 2#32) 0#32) 4#32) := by pointwise [k0_pay16]
  rw [e, wordIdx g 0 hg (by decide) l, Nat.mod_eq_of_lt (by omega)]

theorem pay26_at : (k0_pay26 (BitVec.ofNat 32 g) (ix2 q l)).toNat % 128 = wordOf g 1 l := by
  have := wordOf_lt g 1 hg (by decide) l
  have e : k0_pay26 (BitVec.ofNat 32 g) (ix2 q l) = IntOp.addi (IntOp.shrui .vector (BitVec.ofNat 32 l.val) 5#32)
      (Scalar.muli (Scalar.addi (Scalar.muli (BitVec.ofNat 32 g) 2#32) 1#32) 4#32) := by pointwise [k0_pay26]
  rw [e, wordIdx g 1 hg (by decide) l, Nat.mod_eq_of_lt (by omega)]

omit hg in
theorem pay17_at : k0_pay17 (ix2 q l) = bitOf l := by pointwise [k0_pay17]
omit hg in
theorem pay27_at : k0_pay27 (ix2 q l) = bitOf l := by pointwise [k0_pay27]

theorem pay18_at : k0_pay18 (F := F) (BitVec.ofNat 32 g) w (ix2 q l) = w (ix2 q (lane _ (wordOf_lt g 0 hg (by decide) l))) := by
  unfold k0_pay18
  exact gather_at _ _ q l _ (by rw [again_at]; exact pay16_at g hg q l)
theorem pay28_at : k0_pay28 (F := F) (BitVec.ofNat 32 g) w (ix2 q l) = w (ix2 q (lane _ (wordOf_lt g 1 hg (by decide) l))) := by
  unfold k0_pay28
  exact gather_at _ _ q l _ (by rw [again_at]; exact pay26_at g hg q l)

/-- The mask bit of a lane. -/
theorem pay19_at : k0_pay19 (F := F) (BitVec.ofNat 32 g) w (ix2 q l)
    = BitVec.ofBool ((w (ix2 q (lane _ (wordOf_lt g 0 hg (by decide) l))) : BitVec 32).getLsbD (l.val % 32)) := by
  rw [← bitOf_toNat, ← bit_at _ _ (by rw [bitOf_toNat]; omega), ← pay18_at g hg w q l, ← pay17_at q l]
  rfl
theorem pay29_at : k0_pay29 (F := F) (BitVec.ofNat 32 g) w (ix2 q l)
    = BitVec.ofBool ((w (ix2 q (lane _ (wordOf_lt g 1 hg (by decide) l))) : BitVec 32).getLsbD (l.val % 32)) := by
  rw [← bitOf_toNat, ← bit_at _ _ (by rw [bitOf_toNat]; omega), ← pay28_at g hg w q l, ← pay27_at q l]
  rfl

/-- The position of a lane's code. -/
theorem pay20_at : k0_pay20 (F := F) (BitVec.ofNat 32 g) w o (ix2 q l)
    = posOf (w (ix2 q (lane _ (wordOf_lt g 0 hg (by decide) l)))) (o (ix2 q (lane _ (wordOf_lt g 0 hg (by decide) l)))) (bitOf l) := by
  unfold posOf
  rw [← pay18_at g hg w q l, ← pay17_at q l,
    ← gather_at (α := BitVec 32) o (shapeCast S32x128 (shapeCast S32x128x1 (k0_pay16 (BitVec.ofNat 32 g)) shapeCasts_S32x128_S32x128x1) shapeCasts_S32x128x1_S32x128) q l
      (lane _ (wordOf_lt g 0 hg (by decide) l)) (by rw [again_at]; exact pay16_at g hg q l)]
  rfl
theorem pay30_at : k0_pay30 (F := F) (BitVec.ofNat 32 g) w o (ix2 q l)
    = posOf (w (ix2 q (lane _ (wordOf_lt g 1 hg (by decide) l)))) (o (ix2 q (lane _ (wordOf_lt g 1 hg (by decide) l)))) (bitOf l) := by
  unfold posOf
  rw [← pay28_at g hg w q l, ← pay27_at q l,
    ← gather_at (α := BitVec 32) o (shapeCast S32x128 (shapeCast S32x128x1 (k0_pay26 (BitVec.ofNat 32 g)) shapeCasts_S32x128_S32x128x1) shapeCasts_S32x128x1_S32x128) q l
      (lane _ (wordOf_lt g 1 hg (by decide) l)) (by rw [again_at]; exact pay26_at g hg q l)]
  rfl

end

/-- The position's value: the word's offset and the set bits below the lane's bit. -/
theorem posOf_eq (w o : BitVec 32) (l : Fin 128) : posOf w o (bitOf l) = o + BitVec.ofNat 32 (low w (l.val % 32)) := by
  unfold posOf
  have h1 : IntOp.shli .vector 1#32 (bitOf l) = 1#32 <<< (l.val % 32) := by
    unfold IntOp.shli
    rw [if_pos (by rw [bitOf_toNat]; omega), BitVec.shiftLeft_eq', bitOf_toNat]
  rw [h1, ctpop_eq]
  show o + BitVec.ofNat 32 (low (w &&& (1#32 <<< (l.val % 32) - 1#32)) 32) = _
  rw [low_mask _ _ (by omega)]

/-- The lane of the window a position names. -/
abbrev laneAt (p : BitVec 32) : Fin 128 := ⟨p.toNat % 128, by omega⟩

variable (g : ℕ) (hg : g < 14) (w o : Vec Ideal S32x128 .i32) (w0 w1 w2 : Vec Ideal S1x32x128 .i32) (sx sr : Vec Ideal S32x128 .f32)
  (q : Fin 32) (l : Fin 128)

/-- What a decoding of bits `b` at positions `p` yields at a lane. -/
theorem pay23_at (b : IVec S32x128 1) (p : IVec S32x128 32) (a n : IVec S32x128 32)
    (ha : a (ix2 q l) = IntOp.andi (p (ix2 q l)) 127#32) (hn : n (ix2 q l) = IntOp.shrui .vector (p (ix2 q l)) 9#32) :
    k0_pay23 (F := Ideal) b p a n w0 w1 w2 sx (ix2 q l)
      = Ideal.ofBits .fp8e4m3 (pick (b (ix2 q l)) (p (ix2 q l)) (w0 (ix3 0 q (laneAt (p (ix2 q l))))) (w1 (ix3 0 q (laneAt (p (ix2 q l)))))
          (w2 (ix3 0 q (laneAt (p (ix2 q l)))))) * sx (ix2 q l) := by
  have hl : (shapeCast S32x128 (shapeCast S32x128x1 a shapeCasts_S32x128_S32x128x1) shapeCasts_S32x128x1_S32x128 (ix2 q l)).toNat % 128
      = (laneAt (p (ix2 q l))).val := by
    rw [again_at, ha, lane_toNat, Nat.mod_mod]
  have hx : ∀ x : Vec Ideal S1x32x128 .i32, dynamicGather 1 (shapeCast S32x128 x shapeCasts_S1x32x128_S32x128)
      (shapeCast S32x128 (shapeCast S32x128x1 a shapeCasts_S32x128_S32x128x1) shapeCasts_S32x128x1_S32x128) (ix2 q l)
        = x (ix3 0 q (laneAt (p (ix2 q l)))) := fun x => by
    rw [gather_at _ _ q l _ hl]; pointwise
  rw [← hx w0, ← hx w1, ← hx w2]
  unfold pick k0_pay23
  rw [← hn]
  have hs : shapeCast S32x128 sx shapeCasts_S32x128_S32x128 (ix2 q l) = sx (ix2 q l) := by pointwise
  rw [← hs]
  rfl

end Cert.KernelIdeal.Hand

end
-- ==== Proof.Spec.lean ====
/-
  What is computed, as numbers: the bit of a token's column, its rank among the token's set bits, where its code lies,
  the decoded value, and what the precondition says of them.
-/
module

public import proofs.«01_k».proof.Proof.Ranks
public import Idealize.ShloMosaic.Lib.Pointwise.Index
public import Idealize.ShloMosaic.PureOps.Ideal

@[expose] public section

set_option maxRecDepth 16384

noncomputable section

namespace Cert.Spec

open Idealize.ShloMosaic
open Cert.Ranks

/-- Token `t` of the 1920 is row `t % 640` of plane `t / 640`. -/
abbrev plane (t : Fin 1920) : Fin 3 := ⟨t.val / 640, by omega⟩
abbrev row (t : Fin 1920) : Fin 640 := ⟨t.val % 640, by omega⟩

/-- The mask words, the code bytes, the counts, and a column of scales, as the arguments hold them. -/
abbrev Masks := (⟨3, ![3, 640, 112]⟩ : Shape).Idx → BitVec 32
abbrev Codes := (⟨1, ![1720320]⟩ : Shape).Idx → BitVec 8
abbrev Counts := (⟨2, ![3, 640]⟩ : Shape).Idx → BitVec 32

/-- The mask words of token `t`. -/
def words (A0 : Masks) (t : Fin 1920) (k : ℕ) : BitVec 32 :=
  if h : k < 112 then A0 (ix3 (plane t) (row t) (⟨k, h⟩ : Fin 112)) else 0#32

/-- The count of token `t`. -/
def count (A2 : Counts) (t : Fin 1920) : BitVec 32 := A2 (ix2 (plane t) (row t))

/-- The counts of the tokens before `t`, summed in 32 bits. -/
def start (A2 : Counts) : ℕ → BitVec 32
  | 0 => 0#32
  | k + 1 => start A2 k + (if h : k < 1920 then count A2 ⟨k, h⟩ else 0#32)

/-- The code at position `n` of the packed bytes. -/
def code (A1 : Codes) (n : ℕ) : BitVec 8 := A1 (ix1 (⟨min n 1720319, by omega⟩ : Fin 1720320))

/-- Where the code of token `t`'s column `i` lies, if the column is present. -/
def place (A0 : Masks) (A2 : Counts) (t : Fin 1920) (i : ℕ) : ℕ := (start A2 t.val).toNat + rank (words A0 t) i

/-- The unpacked value of token `t`'s column `i`: the number its code denotes, zero where the mask bit is clear. -/
def value (A0 : Masks) (A1 : Codes) (A2 : Counts) (t : Fin 1920) (i : ℕ) : EReal :=
  if bit (words A0 t) i = 1 then Ideal.ofBits .fp8e4m3 (code A1 (place A0 A2 t i)) else 0

/-- A column of scales, and the output gradient, as the arguments hold them. -/
abbrev Scales := (⟨2, ![3, 640]⟩ : Shape).Idx → EReal
abbrev Grads := (⟨3, ![3, 640, 18944]⟩ : Shape).Idx → EReal

/-- The scale of token `t`. -/
def scale (A : Scales) (t : Fin 1920) : EReal := A (ix2 (plane t) (row t))

/-- The recovered activations: unpacked value times the token's scale. -/
def tokens (A0 : Masks) (A1 : Codes) (A2 : Counts) (A3 : Scales) : (⟨2, ![1920, 3584]⟩ : Shape).Idx → EReal := fun y =>
  value A0 A1 A2 (y 0) (y 1).val * scale A3 (y 0)

/-- The weight gradient: over all tokens, recovered activation times scaled output gradient. -/
def weights (A0 : Masks) (A1 : Codes) (A2 : Counts) (A3 : Scales) (A4 : Grads) (A5 : Scales) : (⟨2, ![3584, 18944]⟩ : Shape).Idx → EReal := fun y =>
  ∑ t : Fin 1920, value A0 A1 A2 t (y 0).val * scale A3 t * (A4 (ix3 (plane t) (row t) (y 1)) * scale A5 t)

/-- The packing is consistent: no count exceeds 896, and a set bit's rank is below its token's count. -/
structure Packed (A0 : Masks) (A2 : Counts) : Prop where
  counted : ∀ t, (count A2 t).toNat ≤ 896
  fits : ∀ (t : Fin 1920) (i : ℕ), i < 3584 → bit (words A0 t) i = 1 → rank (words A0 t) i < (count A2 t).toNat

variable {A0 : Masks} {A2 : Counts}

/-- The codes of the tokens before `t` number at most 896 each, and their sum does not wrap. -/
theorem Packed.start_le (h : Packed A0 A2) : ∀ t : ℕ, t ≤ 1920 → (start A2 t).toNat ≤ 896 * t
  | 0, _ => le_refl _
  | t + 1, ht => by
    have ih := h.start_le t (by omega)
    have hc := h.counted ⟨t, by omega⟩
    show (start A2 t + (if h : t < 1920 then count A2 ⟨t, h⟩ else 0#32)).toNat ≤ _
    rw [dif_pos (by omega), BitVec.toNat_add, Nat.mod_eq_of_lt (by omega)]
    omega

/-- A present column's code lies within the packed bytes. -/
theorem Packed.place_lt (h : Packed A0 A2) (t : Fin 1920) (i : ℕ) (hi : i < 3584) (hb : bit (words A0 t) i = 1) :
    place A0 A2 t i < 1720320 := by
  have h1 := h.start_le t.val (by omega)
  have h2 := h.fits t i hi hb
  have h3 := h.counted t
  have := t.isLt
  unfold place
  omega

theorem ofBits_zero : Ideal.ofBits .fp8e4m3 0#8 = 0 := by simp [Ideal.ofBits, Ideal.e4m3fn, Ideal.ieee]

end Cert.Spec

end
-- ==== Proof.KernelElem.lean ====
/-
  One element of what the kernel decodes, over the arguments: under the packing precondition it is the unpacked value of the
  token's column times the token's scale.
-/
module

public import proofs.«01_k».proof.Proof.Codes
public import proofs.«01_k».proof.Proof.Spec

@[expose] public section

set_option maxRecDepth 16384

noncomputable section

namespace Cert.KernelIdeal.Hand

open Cert.KernelIdeal Cert.KernelIdeal.Gen
open Idealize.ShloMosaic Idealize.ShloMosaic.TcCoe
open Cert.Ranks Cert.Unpack

section Decoded

variable (g : ℕ) (hg : g < 14) (w o : Vec Ideal S32x128 .i32) (w0 w1 w2 : Vec Ideal S1x32x128 .i32) (sx sr : Vec Ideal S32x128 .f32)
  (q : Fin 32) (l : Fin 128)

/-- The byte picked at lane `l` of half `h` of a block in column group `g`. -/
def byteAt (h : ℕ) (hh : h < 2) : BitVec 8 :=
  let k := lane (wordOf g h l) (wordOf_lt g h hg hh l)
  let p := posOf (w (ix2 q k)) (o (ix2 q k)) (bitOf l)
  pick (BitVec.ofBool ((w (ix2 q k) : BitVec 32).getLsbD (l.val % 32))) p (w0 (ix3 0 q (laneAt p))) (w1 (ix3 0 q (laneAt p))) (w2 (ix3 0 q (laneAt p)))

theorem decLo_at : decLo (F := Ideal) (BitVec.ofNat 32 g) w o w0 w1 w2 sx (ix2 q l)
    = Ideal.ofBits .fp8e4m3 (byteAt g hg w o w0 w1 w2 q l 0 (by decide)) * sx (ix2 q l) := by
  unfold decLo byteAt
  rw [pay23_at w0 w1 w2 sx q l _ _ _ _ rfl rfl, pay19_at g hg, pay20_at g hg]

theorem decHi_at : decHi (F := Ideal) (BitVec.ofNat 32 g) w o w0 w1 w2 sx (ix2 q l)
    = Ideal.ofBits .fp8e4m3 (byteAt g hg w o w0 w1 w2 q l 1 (by decide)) * sx (ix2 q l) := by
  have e : decHi (F := Ideal) (BitVec.ofNat 32 g) w o w0 w1 w2 sx
      = k0_pay23 (F := Ideal) (k0_pay29 (F := Ideal) (BitVec.ofNat 32 g) w) (k0_pay30 (F := Ideal) (BitVec.ofNat 32 g) w o)
        (k0_pay31 (F := Ideal) (BitVec.ofNat 32 g) w o) (shrui (k0_pay30 (F := Ideal) (BitVec.ofNat 32 g) w o) (broadcast S32x128 9#32)) w0 w1 w2 sx := rfl
  unfold byteAt
  rw [e, pay23_at w0 w1 w2 sx q l _ _ _ _ rfl rfl, pay29_at g hg, pay30_at g hg]

theorem mulLo_at : mulLo (F := Ideal) (BitVec.ofNat 32 g) w o w0 w1 w2 sx sr (ix2 q l)
    = Ideal.ofBits .fp8e4m3 (byteAt g hg w o w0 w1 w2 q l 0 (by decide)) * sx (ix2 q l) * sr (ix2 q l) := by
  have e : mulLo (F := Ideal) (BitVec.ofNat 32 g) w o w0 w1 w2 sx sr
      = k0_pay9 (decLo (F := Ideal) (BitVec.ofNat 32 g) w o w0 w1 w2 sx) (k0_pay33 sr) := rfl
  rw [e, ← decLo_at]
  pointwise [k0_pay9, k0_pay33]

theorem mulHi_at : mulHi (F := Ideal) (BitVec.ofNat 32 g) w o w0 w1 w2 sx sr (ix2 q l)
    = Ideal.ofBits .fp8e4m3 (byteAt g hg w o w0 w1 w2 q l 1 (by decide)) * sx (ix2 q l) * sr (ix2 q l) := by
  rw [← decHi_at]
  unfold mulHi
  pointwise [k0_pay9, k0_pay33]

end Decoded

section Blocks
variable {F : FTy → Type} [FloatOps F] {e : EltTy}

theorem brow_inBlk (t : Fin 1920) : brow (t.val / 32) (blk_lt t) (inBlk t) = t :=
  Fin.ext (by show 32 * (t.val / 32) + t.val % 32 = t.val; omega)

theorem blk_at (X : Vec F S1920x128 e) (t : Fin 1920) (l : Fin 128) :
    blk (F := F) X (t.val / 32) (blk_lt t) (ix2 (inBlk t) l) = X (ix2 t l) := by
  show X (ix2 (brow (t.val / 32) (blk_lt t) (inBlk t)) l) = _
  rw [brow_inBlk]

theorem wblk_at (X : Vec F S3x1920x128 e) (r : Fin 3) (t : Fin 1920) (l : Fin 128) :
    wblk (F := F) X r (t.val / 32) (blk_lt t) (ix3 0 (inBlk t) l) = X (ix3 r t l) := by
  show X (ix3 r (brow (t.val / 32) (blk_lt t) (inBlk t)) l) = _
  rw [brow_inBlk]

end Blocks

/-- The code at lane `b` of row `a`, 128 codes to a row. -/
def byteIx (a : Fin 13440) (b : Fin 128) : Fin 1720320 := ⟨128 * a.val + b.val, by omega⟩

section Arguments
open Cert.Spec

variable (A0 : Masks) (A1 : Codes) (A2 : Counts)
variable (CNT : Vec Ideal S1920 .i32) (MASK : Vec Ideal S1920x112 .i32) (VAL : Vec Ideal S13440x128 .i8)
variable (hC : ∀ t : Fin 1920, CNT (ix1 t) = count A2 t)
variable (hM : ∀ (t : Fin 1920) (k : Fin 112), MASK (ix2 t k) = Spec.words A0 t k.val)
variable (hV : ∀ (a : Fin 13440) (b : Fin 128), VAL (ix2 a b) = A1 (ix1 (byteIx a b)))

include hC in
theorem startAt_eq : ∀ k, startAt (F := Ideal) CNT k = start A2 k
  | 0 => rfl
  | k + 1 => by
    show startAt (F := Ideal) CNT k + (if h : k < 1920 then (CNT (ix1 (⟨k, h⟩ : Fin 1920)) : BitVec 32) else 0#32) = start A2 k + _
    rw [startAt_eq k]
    split
    · rw [hC]
    · rfl

include hM in
theorem word_at (t : Fin 1920) (k : ℕ) (hk : k < 112) : word (F := Ideal) MASK (ix2 t (lane k hk)) = Spec.words A0 t k := by
  rw [← hM t ⟨k, hk⟩]
  show (if h : k < 112 then k0_pay7 (F := Ideal) MASK (ix2 t (⟨k, h⟩ : Fin 112)) else _) = _
  rw [dif_pos hk]
  pointwise [k0_pay7]

/-- The number of whole 512-code rows before a token's codes, at most 3357. -/
def rows (s : BitVec 32) : ℕ := min (s.toNat / 512) 3357

theorem off0_at (t : Fin 1920) (k : Fin 128) (s : BitVec 32) (hs : startAt (F := Ideal) CNT t.val = s) :
    off0 (F := Ideal) CNT (ix2 t k) = s - BitVec.ofNat 32 (512 * rows s) := by
  have e : off0 (F := Ideal) CNT (ix2 t k) = k0_pay5 s (ix2 (0 : Fin 1) k) := by rw [← hs]; rfl
  have e2 : k0_pay5 s (ix2 (0 : Fin 1) k) = s - (Scalar.minsi (Scalar.shrui s 9#32) 3357#32) * 512#32 := by pointwise [k0_pay5]; rfl
  have e3 : Scalar.minsi (Scalar.shrui s 9#32) 3357#32 = BitVec.ofNat 32 (rows s) := by
    apply BitVec.eq_of_toNat_eq
    rw [rowOf_toNat, BitVec.toNat_ofNat, Nat.mod_eq_of_lt (by unfold rows; omega)]; rfl
  rw [e, e2, e3, ← BitVec.ofNat_mul, Nat.mul_comm]

include hM in
theorem off1_at (t : Fin 1920) (k : ℕ) (hk : k < 112) :
    off1 (F := Ideal) CNT MASK (ix2 t (lane k hk))
      = (off0 (F := Ideal) CNT (ix2 t (lane k hk)) : BitVec 32) + BitVec.ofNat 32 (∑ j ∈ Finset.range k, low (Spec.words A0 t j) 32) := by
  show off1Blk (F := Ideal) (blk (word (F := Ideal) MASK) (t.val / 32) (blk_lt t)) (blk (off0 (F := Ideal) CNT) (t.val / 32) (blk_lt t)) (ix2 (inBlk t) (lane k hk)) = _
  rw [off1Blk_at, blk_at, ← ofNat_sum]
  refine congrArg ((off0 (F := Ideal) CNT (ix2 t (lane k hk)) : BitVec 32) + ·) ?_
  refine Finset.sum_congr rfl fun j hj => ?_
  have hj' := Finset.mem_range.mp hj
  rw [dif_pos (show j < 128 by omega)]
  have e : blk (word (F := Ideal) MASK) (t.val / 32) (blk_lt t) (ix2 (inBlk t) (⟨j, by omega⟩ : Fin 128)) = Spec.words A0 t j := by
    rw [blk_at]; exact word_at A0 MASK hM t j (by omega)
  rw [← ctpop_eq]
  exact congrArg IntOp.ctpop e

include hV in
/-- A byte of the code words: bits `8k + i` of word `(a, b)` are the bits of code `512a + 128k + b`. -/
theorem words_at (a : Fin 3360) (b : Fin 128) (k i : ℕ) (hk : k < 4) (hi : i < 8) :
    (words (F := Ideal) VAL (ix2 a b) : BitVec 32).getLsbD (8 * k + i) = (code A1 (512 * a.val + 128 * k + b.val)).getLsbD i := by
  have hb := b.isLt
  have ha := a.isLt
  have e : words (F := Ideal) VAL (ix2 a b) = bitcast S3360x128 32 (fun i => VAL i) bitcasts_S13440x128_w8_S3360x128_w32 (ix2 a b) := by
    have h1 : shapeCast S13440x128 VAL shapeCasts_S13440x128_S13440x128 = VAL := by
      funext y; idx_vars y; pointwise
    have h2 : words (F := Ideal) VAL = shapeCast S3360x128 (bitcast S3360x128 32 (shapeCast S13440x128 VAL shapeCasts_S13440x128_S13440x128) bitcasts_S13440x128_w8_S3360x128_w32) shapeCasts_S3360x128_S3360x128 := rfl
    rw [h2, h1]
    pointwise
  have eix : ∀ {n m : ℕ} (a : Fin n) (b : Fin m), ix2 a b = ValueIdx.ix2 a b := fun a b => by
    funext c; match c with
    | ⟨0, _⟩ => rfl
    | ⟨1, _⟩ => rfl
  rw [e, eix, bitcast_8_32_getLsbD_ix2 _ _ a b (8 * k + i) (by omega) (⟨4 * a.val + k, by omega⟩ : Fin 13440) (by show 4 * a.val + k = _; omega), ← eix]
  rw [show (8 * k + i) % 8 = i by omega]
  refine congrArg (fun x : BitVec 8 => x.getLsbD i) ?_
  unfold code
  refine (hV _ _).trans ?_
  refine congrArg A1 (congrArg ix1 (Fin.ext ?_))
  show 128 * (4 * a.val + k) + b.val = min (512 * a.val + 128 * k + b.val) 1720319
  omega

include hC hM hV in
/-- The number the picked byte denotes is the unpacked value of its column. -/
theorem byte_value (hP : Packed A0 A2) (g : ℕ) (hg : g < 14) (l : Fin 128) (t : Fin 1920) (h : ℕ) (hh : h < 2) :
    Ideal.ofBits .fp8e4m3 (byteAt g hg (blk (word (F := Ideal) MASK) (t.val / 32) (blk_lt t)) (blk (off1 (F := Ideal) CNT MASK) (t.val / 32) (blk_lt t))
      (wblk (win (F := Ideal) CNT VAL) 0 (t.val / 32) (blk_lt t)) (wblk (win (F := Ideal) CNT VAL) 1 (t.val / 32) (blk_lt t))
      (wblk (win (F := Ideal) CNT VAL) 2 (t.val / 32) (blk_lt t)) (inBlk t) l h hh)
      = value A0 A1 A2 t (256 * g + 128 * h + l.val) := by
  have hl := l.isLt
  have ht := t.isLt
  obtain ⟨i, hi⟩ : ∃ i, i = 256 * g + 128 * h + l.val := ⟨_, rfl⟩
  have hdiv : i / 32 = wordOf g h l := by unfold wordOf; omega
  have hmod : i % 32 = l.val % 32 := by omega
  have hk := wordOf_lt g h hg hh l
  unfold byteAt
  simp only [blk_at, wblk_at]
  rw [word_at A0 MASK hM, off1_at A0 CNT MASK hM, posOf_eq, off0_at CNT t _ _ (startAt_eq A2 CNT hC t.val), add_assoc, ← BitVec.ofNat_add, ← rank_split _ _ _ (by omega : l.val % 32 ≤ 32)]
  rw [show 32 * wordOf g h l + l.val % 32 = i by omega, ← hdiv, ← hmod, ← hi]
  unfold value
  by_cases hb : bit (Spec.words A0 t) i = 1
  · rw [if_pos hb]
    have hbit : (Spec.words A0 t (i / 32)).getLsbD (i % 32) = true := by
      unfold bit at hb; cases hc : (Spec.words A0 t (i / 32)).getLsbD (i % 32)
      · rw [hc] at hb; exact absurd hb (by decide)
      · rfl
    have hfit := hP.fits t i (by omega) hb
    have hcnt := hP.counted t
    have hst := hP.start_le t.val (by omega)
    have hR : rows (start A2 t.val) = min ((start A2 t.val).toNat / 512) 3357 := rfl
    have hp : ((start A2 t.val) - BitVec.ofNat 32 (512 * rows (start A2 t.val)) + BitVec.ofNat 32 (rank (Spec.words A0 t) i)).toNat
        = (start A2 t.val).toNat - 512 * rows (start A2 t.val) + rank (Spec.words A0 t) i := by
      rw [BitVec.toNat_add, BitVec.toNat_sub, BitVec.toNat_ofNat, BitVec.toNat_ofNat]
      omega
    rw [hbit]
    refine congrArg (Ideal.ofBits .fp8e4m3) ?_
    refine pick_set _ _ _ _ (by rw [hp]; omega) (fun r => win (F := Ideal) CNT VAL (ix3 r t (laneAt _))) rfl rfl rfl _ fun q hq => ?_
    show (words (F := Ideal) VAL (ix2 (wrow (startAt (F := Ideal) CNT t.val) _) (laneAt _)) : BitVec 32).getLsbD _ = _
    rw [words_at A1 VAL hV _ _ _ q (by omega) hq]
    refine congrArg (fun n => (code A1 n).getLsbD q) ?_
    unfold place
    rw [startAt_eq A2 CNT hC]
    show 512 * (min ((start A2 t.val).toNat / 512) 3357 + _ / 512) + 128 * _ + _ % 128 = _
    rw [hp]
    omega
  · rw [if_neg hb]
    have hbit : (Spec.words A0 t (i / 32)).getLsbD (i % 32) = false := by
      unfold bit at hb; cases hc : (Spec.words A0 t (i / 32)).getLsbD (i % 32)
      · rfl
      · rw [hc] at hb; exact absurd rfl hb
    rw [hbit]
    exact ofBits_zero

end Arguments

end Cert.KernelIdeal.Hand

end
-- ==== Proof.WindowsIdeal.lean ====
/-
  The token windows: the loop over the 1920 tokens that runs along the counts, copies three rows of code words per token
  and notes where in them the token's codes begin.
-/
module

public import proofs.«01_k».proof.Proof.ContentsIdeal
public import Idealize.ShloMosaic.Lib.PointwiseCore
public import proofs.«01_k».proof.Proof.Rules
public import proofs.«01_k».proof.Proof.Gen.KernelIdeal.Loops

@[expose] public section

set_option maxRecDepth 16384

noncomputable section

namespace Cert.KernelIdeal.Hand

open Cert.KernelIdeal Cert.KernelIdeal.Gen Cert.ByContents
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {Ix Name U Lvl : Type} [DecidableEq Ix] [DecidableEq Name] [URA U] [Preorder Lvl]

local notation "𝕄" => MT nD τ sig Ix (Elt F) Name U Lvl

variable (𝒱 : Variants) (c : Dev nD) (bd : Option 𝒱.V) (E : Set Name) (i : grid0.Coords)
variable (arg2 : Memref sig .tc .smem S1920 .i32)
  (harg2 : arg2.IsWhole)
  (arg3 : Memref sig .tc .vmem S1920x112 .i32)
  (harg3 : arg3.IsWhole)
  (arg4 : Memref sig .tc .vmem S13440x128 .i8)
  (harg4 : arg4.IsWhole)
  (arg5 : Memref sig .tc .vmem S1920x128 .f32)
  (harg5 : arg5.IsWhole)
  (arg6 : Memref sig .tc .vmem S1920x128 .f32)
  (harg6 : arg6.IsWhole)
  (arg7 : Memref sig .tc .hbm S1920x18944 .fp8e5m2)
  (harg7 : arg7.IsWhole)
  (arg8 : Memref sig .tc .vmem S256x512 .f32)
  (harg8 : arg8.IsWhole)
  (arg9 : Memref sig .tc .vmem S1920x256 .bf16)
  (harg9 : arg9.IsWhole)
  (arg10 : Memref sig .tc .vmem S1920x18944 .fp8e5m2)
  (harg10 : arg10.IsWhole)
  (arg11 : Memref sig .tc .vmem S3360x128 .i32)
  (harg11 : arg11.IsWhole)
  (arg12 : Memref sig .tc .vmem S3x1920x128 .i32)
  (harg12 : arg12.IsWhole)
  (arg13 : Memref sig .tc .vmem S1920x128 .i32)
  (harg13 : arg13.IsWhole)
  (arg14 : Memref sig .tc .vmem S1920x128 .i32)
  (harg14 : arg14.IsWhole)
  (arg15 : Memref sig .tc .vmem S1920x256 .bf16)
  (harg15 : arg15.IsWhole)
  (arg16 : DmaSems sig S37)

theorem trips2 : k0_t2_loop.trips = 1920 := by decide +kernel
theorem iv2 (k : Fin k0_t2_loop.trips) : (Scf.iv (0#32) (1#32) k.val).toNat = k.val := by
  have : k.val < 1920 := lt_of_lt_of_eq k.isLt trips2
  unfold Scf.iv
  rw [BitVec.zero_add, BitVec.mul_one, BitVec.toNat_ofNat, Nat.mod_eq_of_lt (by omega)]

theorem off4_eq (k : Fin k0_t2_loop.trips) : k0_off4 k = ![0, k.val, 0] := by
  show ![0, (Scf.iv (0#32) (1#32) k.val).toNat, 0] = _; rw [iv2]
theorem off5_eq (k : Fin k0_t2_loop.trips) : k0_off5 k = ![1, k.val, 0] := by
  show ![1, (Scf.iv (0#32) (1#32) k.val).toNat, 0] = _; rw [iv2]
theorem off6_eq (k : Fin k0_t2_loop.trips) : k0_off6 k = ![2, k.val, 0] := by
  show ![2, (Scf.iv (0#32) (1#32) k.val).toNat, 0] = _; rw [iv2]
theorem off7_eq (k : Fin k0_t2_loop.trips) : k0_off7 k = ![k.val, 0] := by
  show ![(Scf.iv (0#32) (1#32) k.val).toNat, 0] = _; rw [iv2]
theorem off8_eq (k : Fin k0_t2_loop.trips) : k0_off8 k = ![k.val] := by
  show ![(Scf.iv (0#32) (1#32) k.val).toNat] = _; rw [iv2]

variable (CNT : Vec F S1920 .i32) (VAL : Vec F S13440x128 .i8)

/-- The windows filled in for the tokens before `k`. -/
def Win (k : ℕ) (f : Vec F S3x1920x128 .i32) : Prop := ∀ y, (y 1).val < k → f y = win CNT VAL y
/-- The offsets filled in for the tokens before `k`. -/
def Off (k : ℕ) (f : Vec F S1920x128 .i32) : Prop := ∀ y, (y 0).val < k → f y = off0 CNT y

/-- Before token `k`: the running sum, and the windows and offsets of the tokens before it. -/
def inv2 (k : ℕ) (acc : BitVec 32) : sProp (MT nD τ sig Ix (Elt F) Name U Lvl) :=
  iprop(⌜acc = startAt CNT k⌝ ∗ owns (c : Thread nD τ) arg2 fullShare CNT ∗ owns (c : Thread nD τ) arg11 fullShare (words VAL)
    ∗ (∃ f, ⌜Win CNT VAL k f⌝ ∗ owns (c : Thread nD τ) arg12 fullShare f)
    ∗ (∃ f, ⌜Off CNT k f⌝ ∗ owns (c : Thread nD τ) arg13 fullShare f))

theorem start_succ (k : Fin k0_t2_loop.trips) (h1 : k0_cond1 i = 1#1) :
    Scalar.addi (startAt CNT k.val) (CNT ((Rect.unit (s := S1920) (k0_off8 k) S1.size (k0_off8_inb i k h1)).emb
      (Shape.Idx.first (s := S1) (by decide)))) = startAt CNT (k.val + 1) := by
  have hk : k.val < 1920 := lt_of_lt_of_eq k.isLt trips2
  show _ = Scalar.addi (startAt CNT k.val) (if h : k.val < 1920 then (CNT (ix1 (⟨k.val, h⟩ : Fin 1920)) : BitVec 32) else 0#32)
  rw [dif_pos hk]
  congr 2
  funext a
  apply Fin.ext
  refine (unit_emb_val _ _ _ (off8_eq k) _ a).trans ?_
  fin_cases a
  rfl

theorem pay2_at (v : Vec F S1x128 .i32) (l : Fin 128) : k0_pay2 v (ix3 (0 : Fin 1) (0 : Fin 1) l) = v (ix2 (0 : Fin 1) l) := by
  pointwise [k0_pay2]
theorem pay3_at (v : Vec F S1x128 .i32) (l : Fin 128) : k0_pay3 v (ix3 (0 : Fin 1) (0 : Fin 1) l) = v (ix2 (0 : Fin 1) l) := by
  pointwise [k0_pay3]
theorem pay4_at (v : Vec F S1x128 .i32) (l : Fin 128) : k0_pay4 v (ix3 (0 : Fin 1) (0 : Fin 1) l) = v (ix2 (0 : Fin 1) l) := by
  pointwise [k0_pay4]

theorem word_row (s : BitVec 32) (r : Fin 3) (inb) (l : Fin 128) :
    (Rect.unit (s := S3360x128) (k0_off3 s (BitVec.ofNat 32 r.val)) S1x128.size inb).emb (ix2 (0 : Fin 1) l) = ix2 (wrow s r) l := by
  funext a
  apply Fin.ext
  refine (unit_emb_val _ _ _ (off3_eq s r) _ a).trans ?_
  fin_cases a
  · rfl
  · show 0 + l.val = l.val; omega

set_option maxHeartbeats 1000000 in
theorem win_succ (k : Fin k0_t2_loop.trips) (h1 : k0_cond1 i = 1#1) (f : Vec F S3x1920x128 .i32)
    (hf : Win CNT VAL k.val f) (hw : k0_chk1 i (startAt CNT k.val)) :
    Win CNT VAL (k.val + 1)
      (put (Rect.unit (s := S3x1920x128) (k0_off6 k) S1x1x128.size (k0_off6_inb i k h1))
        (put (Rect.unit (s := S3x1920x128) (k0_off5 k) S1x1x128.size (k0_off5_inb i k h1))
          (put (Rect.unit (s := S3x1920x128) (k0_off4 k) S1x1x128.size (k0_off4_inb i k h1)) f
            (k0_pay2 (F := F) fun j => words VAL ((Rect.unit (s := S3360x128) (k0_off3 (startAt CNT k.val) 0#32) S1x128.size (k0_off3_inb i _ hw h1 0)).emb j)))
          (k0_pay3 (F := F) fun j => words VAL ((Rect.unit (s := S3360x128) (k0_off3 (startAt CNT k.val) 1#32) S1x128.size (k0_off3_inb i _ hw h1 1)).emb j)))
        (k0_pay4 (F := F) fun j => words VAL ((Rect.unit (s := S3360x128) (k0_off3 (startAt CNT k.val) 2#32) S1x128.size (k0_off3_inb i _ hw h1 2)).emb j))) := by
  intro y hy
  have hk : k.val < 1920 := lt_of_lt_of_eq k.isLt trips2
  obtain ⟨r, t, l, rfl⟩ : ∃ (r : Fin 3) (t : Fin 1920) (l : Fin 128), y = ix3 r t l := ⟨y 0, y 1, y 2, eq_ix3 y⟩
  change t.val < k.val + 1 at hy
  by_cases htk : t.val < k.val
  · refine (put_unit_out _ _ _ (off6_eq k) _ _ (ix3 r t l) (1 : Fin 3) (Or.inl htk)).trans ?_
    refine (put_unit_out _ _ _ (off5_eq k) _ _ (ix3 r t l) (1 : Fin 3) (Or.inl htk)).trans ?_
    refine (put_unit_out _ _ _ (off4_eq k) _ _ (ix3 r t l) (1 : Fin 3) (Or.inl htk)).trans ?_
    exact hf _ htk
  · have htk : t.val = k.val := by omega
    have hw : win CNT VAL (ix3 r t l) = words VAL (ix2 (wrow (startAt CNT t.val) r) l) := rfl
    rw [hw, htk]
    obtain rfl | rfl | rfl : r = 2 ∨ r = 1 ∨ r = 0 := by omega
    · refine (put_unit_in _ _ _ (off6_eq k) _ _ (ix3 _ t l) (ix3 (0 : Fin 1) (0 : Fin 1) l) (by
        intro a; fin_cases a
        · rfl
        · exact htk
        · exact (Nat.zero_add _).symm)).trans ?_
      exact (pay4_at _ l).trans (congrArg (words VAL) (word_row _ 2 _ l))
    · refine (put_unit_out _ _ _ (off6_eq k) _ _ (ix3 _ t l) (0 : Fin 3) (Or.inl (by show 1 < 2; omega))).trans ?_
      refine (put_unit_in _ _ _ (off5_eq k) _ _ (ix3 _ t l) (ix3 (0 : Fin 1) (0 : Fin 1) l) (by
        intro a; fin_cases a
        · rfl
        · exact htk
        · exact (Nat.zero_add _).symm)).trans ?_
      exact (pay3_at _ l).trans (congrArg (words VAL) (word_row _ 1 _ l))
    · refine (put_unit_out _ _ _ (off6_eq k) _ _ (ix3 _ t l) (0 : Fin 3) (Or.inl (by show 0 < 2; omega))).trans ?_
      refine (put_unit_out _ _ _ (off5_eq k) _ _ (ix3 _ t l) (0 : Fin 3) (Or.inl (by show 0 < 1; omega))).trans ?_
      refine (put_unit_in _ _ _ (off4_eq k) _ _ (ix3 _ t l) (ix3 (0 : Fin 1) (0 : Fin 1) l) (by
        intro a; fin_cases a
        · rfl
        · exact htk
        · exact (Nat.zero_add _).symm)).trans ?_
      exact (pay2_at _ l).trans (congrArg (words VAL) (word_row _ 0 _ l))

theorem off_succ (k : Fin k0_t2_loop.trips) (h1 : k0_cond1 i = 1#1) (f : Vec F S1920x128 .i32)
    (hf : Off CNT k.val f) :
    Off CNT (k.val + 1)
      (put (Rect.unit (s := S1920x128) (k0_off7 k) S1x128.size (k0_off7_inb i k h1)) f (k0_pay5 (startAt CNT k.val))) := by
  intro y hy
  obtain ⟨t, l, rfl⟩ : ∃ (t : Fin 1920) (l : Fin 128), y = ix2 t l := ⟨y 0, y 1, eq_ix2 y⟩
  change t.val < k.val + 1 at hy
  by_cases htk : t.val < k.val
  · exact (put_unit_out _ _ _ (off7_eq k) _ _ (ix2 t l) (0 : Fin 2) (Or.inl htk)).trans (hf _ htk)
  · have htk : t.val = k.val := by omega
    have hw : off0 CNT (ix2 t l) = k0_pay5 (startAt CNT t.val) (ix2 (0 : Fin 1) l) := rfl
    rw [hw, htk]
    exact put_unit_in _ _ _ (off7_eq k) _ _ (ix2 t l) (ix2 (0 : Fin 1) l) (by
      intro a; fin_cases a
      · exact htk
      · exact (Nat.zero_add _).symm)

set_option maxHeartbeats 2000000 in
/-- One token: its three word rows copied, its offset noted, its count added to the running sum. -/
theorem trip2 (h1 : k0_cond1 i = 1#1) (k : Fin k0_t2_loop.trips) (acc : BitVec 32) :
    inv2 (F := F) (Ix := Ix) (Name := Name) (U := U) (Lvl := Lvl) c arg2 arg11 arg12 arg13 CNT VAL k.val acc
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 h1 k acc)
          (inv2 c arg2 arg11 arg12 arg13 CNT VAL (k.val + 1)) := by
  have hk : k.val < 1920 := lt_of_lt_of_eq k.isLt trips2
  unfold inv2 k0_t2_body
  iintro ⟨%hacc, H2, H11, ⟨%f12, %h12, H12⟩, ⟨%f13, %h13, H13⟩⟩
  iapply (wp_assume 𝒱 (c : Thread nD τ) bd E (chk1 i acc))
  iapply (load 𝒱 (c : Thread nD τ) bd E) $$ H11
  iintro H11
  iapply (load 𝒱 (c : Thread nD τ) bd E) $$ H12
  iintro H12
  iapply (store 𝒱 (c : Thread nD τ) bd E) $$ H12
  iintro H12
  iapply (load 𝒱 (c : Thread nD τ) bd E) $$ H11
  iintro H11
  iapply (load 𝒱 (c : Thread nD τ) bd E) $$ H12
  iintro H12
  iapply (store 𝒱 (c : Thread nD τ) bd E) $$ H12
  iintro H12
  iapply (load 𝒱 (c : Thread nD τ) bd E) $$ H11
  iintro H11
  iapply (load 𝒱 (c : Thread nD τ) bd E) $$ H12
  iintro H12
  iapply (store 𝒱 (c : Thread nD τ) bd E) $$ H12
  iintro H12
  iapply (load 𝒱 (c : Thread nD τ) bd E) $$ H13
  iintro H13
  iapply (store 𝒱 (c : Thread nD τ) bd E) $$ H13
  iintro H13
  iapply (loadWord 𝒱 (c : Thread nD τ) bd E (h1 := numel1_S1) (hp := rfl)) $$ H2
  iintro H2
  iapply (done 𝒱 (c : Thread nD τ) bd E)
  isplitr
  · ipureintro
    subst hacc
    exact start_succ i CNT k h1
  isplitl [H2]; · iexact H2
  isplitl [H11]; · iexact H11
  isplitl [H12]
  · iexists _
    isplitr; swap; · iexact H12
    ipureintro; subst hacc
    exact win_succ i CNT VAL k h1 f12 h12 (chk1 i _)
  · iexists _
    isplitr; swap; · iexact H13
    ipureintro; subst hacc
    exact off_succ i CNT k h1 f13 h13

/-- The loop over the tokens: from the counts and the code words, the windows and the offsets. -/
theorem loop2 (h1 : k0_cond1 i = 1#1) {α : Type} {kk : BitVec 32 → Prog (TpuEff nD τ sig (Elt F) Λ₀ .tc) α}
    {Q : α → sProp (MT nD τ sig Ix (Elt F) Name U Lvl)} :
    iprop(owns (c : Thread nD τ) arg2 fullShare CNT ∗ owns (c : Thread nD τ) arg11 fullShare (words VAL)
        ∗ (∃ f, owns (c : Thread nD τ) arg12 fullShare f) ∗ (∃ f, owns (c : Thread nD τ) arg13 fullShare f))
      ⊢ iprop((∀ acc, (owns (c : Thread nD τ) arg2 fullShare CNT ∗ owns (c : Thread nD τ) arg11 fullShare (words VAL)
          ∗ owns (c : Thread nD τ) arg12 fullShare (win CNT VAL) ∗ owns (c : Thread nD τ) arg13 fullShare (off0 CNT))
            -∗ wp frame (wpE (defs₀ (F := F)) 𝒱 (c : Thread nD τ) bd) E (kk acc) Q)
        -∗ wp frame (wpE (defs₀ (F := F)) 𝒱 (c : Thread nD τ) bd) E
            (Scf.Loop.for k0_t2_loop (k0_t2_ok i h1) 0#32 (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 h1) >>= kk) Q) := by
  iintro ⟨H2, H11, ⟨%f12, H12⟩, ⟨%f13, H13⟩⟩ Hk
  ihave HI : inv2 (F := F) (Ix := Ix) (Name := Name) (U := U) (Lvl := Lvl) c arg2 arg11 arg12 arg13 CNT VAL 0 0#32 $$ [H2 H11 H12 H13]
  · unfold inv2
    isplitr; · ipureintro; rfl
    isplitl [H2]; · iexact H2
    isplitl [H11]; · iexact H11
    isplitl [H12]
    · iexists f12; isplitr
      · ipureintro; intro y hy; exact absurd hy (Nat.not_lt_zero _)
      · iexact H12
    · iexists f13; isplitr
      · ipureintro; intro y hy; exact absurd hy (Nat.not_lt_zero _)
      · iexact H13
  iapply (Scf.wp_for_bind Idealize.ShloMosaic.frame (wpE (defs₀ (F := F)) 𝒱 (c : Thread nD τ) bd) E _ _ _ (k0_t2_ok i h1) _ _
    (inv2 c arg2 arg11 arg12 arg13 CNT VAL)
    (fun k acc => trip2 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 CNT VAL h1 k acc)) $$ HI
  iintro %acc HI
  unfold inv2
  icases HI with ⟨-, H2, H11, ⟨%f12, %h12, H12⟩, ⟨%f13, %h13, H13⟩⟩
  have e12 : f12 = win CNT VAL := funext fun y => h12 y (lt_of_lt_of_eq (y 1).isLt trips2.symm)
  have e13 : f13 = off0 CNT := funext fun y => h13 y (lt_of_lt_of_eq (y 0).isLt trips2.symm)
  subst e12 e13
  iapply Hk
  isplitl [H2]; · iexact H2
  isplitl [H11]; · iexact H11
  isplitl [H12] <;> iassumption

end Cert.KernelIdeal.Hand

end
-- ==== Proof.PrefixIdeal.lean ====
/-
  The prefix sums: the loop over the sixty 32-token blocks that adds to each token's offset, mask word by mask word, the
  number of marked columns in the words before it.
-/
module

public import proofs.«01_k».proof.Proof.ContentsIdeal
public import Idealize.ShloMosaic.Lib.PointwiseCore
public import proofs.«01_k».proof.Proof.Rules
public import proofs.«01_k».proof.Proof.Gen.KernelIdeal.Loops

@[expose] public section

set_option maxRecDepth 16384

noncomputable section

namespace Cert.KernelIdeal.Hand

open Cert.KernelIdeal Cert.KernelIdeal.Gen Cert.ByContents
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {Ix Name U Lvl : Type} [DecidableEq Ix] [DecidableEq Name] [URA U] [Preorder Lvl]

variable (𝒱 : Variants) (c : Dev nD) (bd : Option 𝒱.V) (E : Set Name) (i : grid0.Coords)
variable (arg2 : Memref sig .tc .smem S1920 .i32)
  (harg2 : arg2.IsWhole)
  (arg3 : Memref sig .tc .vmem S1920x112 .i32)
  (harg3 : arg3.IsWhole)
  (arg4 : Memref sig .tc .vmem S13440x128 .i8)
  (harg4 : arg4.IsWhole)
  (arg5 : Memref sig .tc .vmem S1920x128 .f32)
  (harg5 : arg5.IsWhole)
  (arg6 : Memref sig .tc .vmem S1920x128 .f32)
  (harg6 : arg6.IsWhole)
  (arg7 : Memref sig .tc .hbm S1920x18944 .fp8e5m2)
  (harg7 : arg7.IsWhole)
  (arg8 : Memref sig .tc .vmem S256x512 .f32)
  (harg8 : arg8.IsWhole)
  (arg9 : Memref sig .tc .vmem S1920x256 .bf16)
  (harg9 : arg9.IsWhole)
  (arg10 : Memref sig .tc .vmem S1920x18944 .fp8e5m2)
  (harg10 : arg10.IsWhole)
  (arg11 : Memref sig .tc .vmem S3360x128 .i32)
  (harg11 : arg11.IsWhole)
  (arg12 : Memref sig .tc .vmem S3x1920x128 .i32)
  (harg12 : arg12.IsWhole)
  (arg13 : Memref sig .tc .vmem S1920x128 .i32)
  (harg13 : arg13.IsWhole)
  (arg14 : Memref sig .tc .vmem S1920x128 .i32)
  (harg14 : arg14.IsWhole)
  (arg15 : Memref sig .tc .vmem S1920x256 .bf16)
  (harg15 : arg15.IsWhole)
  (arg16 : DmaSems sig S37)

theorem trips3 : k0_t3_loop.trips = 60 := by decide +kernel
theorem off9_eq (k : Fin k0_t3_loop.trips) : k0_off9 k = ![32 * k.val, 0] := by
  revert k; decide +kernel

/-- A block's rows, as the rectangle at its first row places them. -/
theorem blk_emb {e : EltTy} (X : Vec F S1920x128 e) (off : Fin 2 → ℕ) (inb) (k : ℕ) (hk : k < 60) (ho : off = ![32 * k, 0])
    (j : (Rect.unit (s := S1920x128) off S32x128.size inb).shape.Idx) :
    X ((Rect.unit (s := S1920x128) off S32x128.size inb).emb j) = blk X k hk j := by
  refine congrArg X (funext fun a => Fin.ext ?_)
  refine (unit_emb_val _ _ _ ho j a).trans ?_
  fin_cases a
  · rfl
  · exact Nat.zero_add _

/-- An index of block `k` reads a payload stored over the block, at its row in the block. -/
theorem put_blk_in {e : EltTy} (X : Vec F S1920x128 e) (off : Fin 2 → ℕ) (inb) (k : ℕ) (ho : off = ![32 * k, 0])
    (w : Vec F S32x128 e) (t : Fin 1920) (l : Fin 128) (ht : t.val / 32 = k) :
    put (Rect.unit (s := S1920x128) off S32x128.size inb) X w (ix2 t l) = w (ix2 (inBlk t) l) :=
  put_unit_in _ _ _ ho X w (ix2 t l) (ix2 (inBlk t) l) (by
    intro a; fin_cases a
    · show t.val = 32 * k + t.val % 32; omega
    · exact (Nat.zero_add _).symm)

/-- An index of another block reads what was there. -/
theorem put_blk_out {e : EltTy} (X : Vec F S1920x128 e) (off : Fin 2 → ℕ) (inb) (k : ℕ) (ho : off = ![32 * k, 0])
    (w : Vec F S32x128 e) (t : Fin 1920) (l : Fin 128) (ht : t.val / 32 ≠ k) :
    put (Rect.unit (s := S1920x128) off S32x128.size inb) X w (ix2 t l) = X (ix2 t l) :=
  put_unit_out _ _ _ ho X w (ix2 t l) (0 : Fin 2) (by
    show t.val < 32 * k ∨ 32 * k + 32 ≤ t.val; omega)

variable (WORD OFF : Vec F S1920x128 .i32)

/-- The offsets with the prefix sums added in the blocks before `k`. -/
def Pre (k : ℕ) (f : Vec F S1920x128 .i32) : Prop :=
  ∀ y, f y = if (y 0).val / 32 < k then off1Of WORD OFF y else OFF y

/-- Before block `k`: the mask words, and the offsets with the blocks before it done. -/
def inv3 (k : ℕ) : sProp (MT nD τ sig Ix (Elt F) Name U Lvl) :=
  iprop(owns (c : Thread nD τ) arg14 fullShare WORD
    ∗ (∃ f, ⌜Pre WORD OFF k f⌝ ∗ owns (c : Thread nD τ) arg13 fullShare f))

theorem pre_succ (k : Fin k0_t3_loop.trips) (hk : k.val < 60) (h1 : k0_cond1 i = 1#1) (f : Vec F S1920x128 .i32) (hf : Pre WORD OFF k.val f) :
    Pre WORD OFF (k.val + 1)
      (put (Rect.unit (s := S1920x128) (k0_off9 k) S32x128.size (k0_off9_inb i k h1)) f
        (k0_pay8 (F := F) (k0_pay11 (F := F) (blk WORD k.val hk)) (k0_pay12 (F := F) lanes (blk WORD k.val hk)) (k0_pay13 lanes)
          (k0_pay14 (F := F) lanes (blk WORD k.val hk)) k0_pay15 (blk f k.val hk))) := by
  intro y
  obtain ⟨t, l, rfl⟩ : ∃ (t : Fin 1920) (l : Fin 128), y = ix2 t l := ⟨y 0, y 1, eq_ix2 y⟩
  show _ = if t.val / 32 < k.val + 1 then off1Of WORD OFF (ix2 t l) else OFF (ix2 t l)
  by_cases ht : t.val / 32 = k.val
  · rw [if_pos (by omega)]
    refine (put_blk_in f _ _ k.val (off9_eq k) _ t l ht).trans ?_
    have e : blk f k.val hk = blk OFF k.val hk := by
      funext j
      have := hf (ix2 (brow k.val hk (j 0)) (j 1))
      rw [if_neg (by show ¬ (32 * k.val + (j 0).val) / 32 < k.val; omega)] at this
      exact this
    rw [e]
    have hb : ∀ (q : ℕ) (hq : q < 60), q = k.val →
        off1Blk (F := F) (blk WORD q hq) (blk OFF q hq) (ix2 (inBlk t) l) = off1Blk (F := F) (blk WORD k.val hk) (blk OFF k.val hk) (ix2 (inBlk t) l) := by
      intro q hq h; subst h; rfl
    exact (hb _ _ ht).symm
  · refine (put_blk_out f _ _ k.val (off9_eq k) _ t l ht).trans ?_
    rw [hf]
    show (if t.val / 32 < k.val then _ else _) = _
    by_cases h : t.val / 32 < k.val
    · rw [if_pos h, if_pos (by omega)]
    · rw [if_neg h, if_neg (by omega)]

set_option maxHeartbeats 2000000 in
/-- One block: its mask words counted and prefix-summed along the lanes onto its offsets. -/
theorem trip3 (h1 : k0_cond1 i = 1#1) (k : Fin k0_t3_loop.trips) (acc : Unit) :
    inv3 (F := F) (Ix := Ix) (Name := Name) (U := U) (Lvl := Lvl) c arg13 arg14 WORD OFF k.val
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 h1 lanes k acc)
          (fun _ => inv3 c arg13 arg14 WORD OFF (k.val + 1)) := by
  have hk : k.val < 60 := lt_of_lt_of_eq k.isLt trips3
  unfold inv3 k0_t3_body
  rw [k0_part1_eq_skeleton]
  unfold k0_part1_skel
  iintro ⟨H14, ⟨%f13, %h13, H13⟩⟩
  iapply (loadAs 𝒱 (c : Thread nD τ) bd E (blk WORD k.val hk) (blk_emb WORD _ _ k.val hk (off9_eq k))) $$ H14
  iintro H14
  iapply (loadAs 𝒱 (c : Thread nD τ) bd E (blk f13 k.val hk) (blk_emb f13 _ _ k.val hk (off9_eq k))) $$ H13
  iintro H13
  iapply (loadAs 𝒱 (c : Thread nD τ) bd E (blk f13 k.val hk) (blk_emb f13 _ _ k.val hk (off9_eq k))) $$ H13
  iintro H13
  iapply (store 𝒱 (c : Thread nD τ) bd E) $$ H13
  iintro H13
  iapply (done 𝒱 (c : Thread nD τ) bd E)
  isplitl [H14]; · iexact H14
  iexists _
  isplitr; swap; · iexact H13
  ipureintro
  exact pre_succ i WORD OFF k hk h1 f13 h13

/-- The loop over the blocks: the offsets become the prefix-summed ones. -/
theorem loop3 (h1 : k0_cond1 i = 1#1) {α : Type} {kk : Unit → Prog (TpuEff nD τ sig (Elt F) Λ₀ .tc) α}
    {Q : α → sProp (MT nD τ sig Ix (Elt F) Name U Lvl)} :
    iprop(owns (c : Thread nD τ) arg14 fullShare WORD ∗ owns (c : Thread nD τ) arg13 fullShare OFF)
      ⊢ iprop((∀ acc, (owns (c : Thread nD τ) arg14 fullShare WORD ∗ owns (c : Thread nD τ) arg13 fullShare (off1Of WORD OFF))
            -∗ wp frame (wpE (defs₀ (F := F)) 𝒱 (c : Thread nD τ) bd) E (kk acc) Q)
        -∗ wp frame (wpE (defs₀ (F := F)) 𝒱 (c : Thread nD τ) bd) E
            (Scf.Loop.for k0_t3_loop (k0_t3_ok i h1) ⟨⟩ (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 h1 lanes) >>= kk) Q) := by
  iintro ⟨H14, H13⟩ Hk
  ihave HI : inv3 (F := F) (Ix := Ix) (Name := Name) (U := U) (Lvl := Lvl) c arg13 arg14 WORD OFF 0 $$ [H14 H13]
  · unfold inv3
    isplitl [H14]; · iexact H14
    iexists OFF; isplitr
    · ipureintro; intro y; rw [if_neg (Nat.not_lt_zero _)]
    · iexact H13
  iapply (Scf.wp_for_bind Idealize.ShloMosaic.frame (wpE (defs₀ (F := F)) 𝒱 (c : Thread nD τ) bd) E _ _ _ (k0_t3_ok i h1) _ _
    (fun k _ => inv3 c arg13 arg14 WORD OFF k)
    (fun k acc => trip3 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 WORD OFF h1 k acc)) $$ HI
  iintro %acc HI
  unfold inv3
  icases HI with ⟨H14, ⟨%f13, %h13, H13⟩⟩
  have e13 : f13 = off1Of WORD OFF := funext fun y => (h13 y).trans (if_pos (lt_of_lt_of_eq (blk_lt (y 0)) trips3.symm))
  subst e13
  iapply Hk
  isplitl [H14] <;> iassumption

end Cert.KernelIdeal.Hand

end
-- ==== Proof.DecodeIdeal.lean ====
/-
  The decoding: the loop over the sixty 32-token blocks that looks up each token's codes in its window and scales them,
  256 columns at a time.
-/
module

public import proofs.«01_k».proof.Proof.PrefixIdeal
public import Idealize.ShloMosaic.Lib.PointwiseCore
public import proofs.«01_k».proof.Proof.Rules
public import proofs.«01_k».proof.Proof.Gen.KernelIdeal.Loops

@[expose] public section

set_option maxRecDepth 16384

noncomputable section

namespace Cert.KernelIdeal.Hand

open Cert.KernelIdeal Cert.KernelIdeal.Gen Cert.ByContents
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {Ix Name U Lvl : Type} [DecidableEq Ix] [DecidableEq Name] [URA U] [Preorder Lvl]

variable (𝒱 : Variants) (c : Dev nD) (bd : Option 𝒱.V) (E : Set Name) (i : grid0.Coords)
variable (arg2 : Memref sig .tc .smem S1920 .i32)
  (harg2 : arg2.IsWhole)
  (arg3 : Memref sig .tc .vmem S1920x112 .i32)
  (harg3 : arg3.IsWhole)
  (arg4 : Memref sig .tc .vmem S13440x128 .i8)
  (harg4 : arg4.IsWhole)
  (arg5 : Memref sig .tc .vmem S1920x128 .f32)
  (harg5 : arg5.IsWhole)
  (arg6 : Memref sig .tc .vmem S1920x128 .f32)
  (harg6 : arg6.IsWhole)
  (arg7 : Memref sig .tc .hbm S1920x18944 .fp8e5m2)
  (harg7 : arg7.IsWhole)
  (arg8 : Memref sig .tc .vmem S256x512 .f32)
  (harg8 : arg8.IsWhole)
  (arg9 : Memref sig .tc .vmem S1920x256 .bf16)
  (harg9 : arg9.IsWhole)
  (arg10 : Memref sig .tc .vmem S1920x18944 .fp8e5m2)
  (harg10 : arg10.IsWhole)
  (arg11 : Memref sig .tc .vmem S3360x128 .i32)
  (harg11 : arg11.IsWhole)
  (arg12 : Memref sig .tc .vmem S3x1920x128 .i32)
  (harg12 : arg12.IsWhole)
  (arg13 : Memref sig .tc .vmem S1920x128 .i32)
  (harg13 : arg13.IsWhole)
  (arg14 : Memref sig .tc .vmem S1920x128 .i32)
  (harg14 : arg14.IsWhole)
  (arg15 : Memref sig .tc .vmem S1920x256 .bf16)
  (harg15 : arg15.IsWhole)
  (arg16 : DmaSems sig S37)

theorem trips4 : k0_t4_loop.trips = 60 := by decide +kernel
theorem off10_eq (k : Fin k0_t4_loop.trips) : k0_off10 k = ![32 * k.val, 0] := by
  revert k; decide +kernel
theorem off11_eq (k : Fin k0_t4_loop.trips) : k0_off11 k = ![(0 : Fin 3).val, 32 * k.val, 0] := by
  revert k; decide +kernel
theorem off12_eq (k : Fin k0_t4_loop.trips) : k0_off12 k = ![(1 : Fin 3).val, 32 * k.val, 0] := by
  revert k; decide +kernel
theorem off13_eq (k : Fin k0_t4_loop.trips) : k0_off13 k = ![(2 : Fin 3).val, 32 * k.val, 0] := by
  revert k; decide +kernel
theorem off14_eq (k : Fin k0_t4_loop.trips) : k0_off14 k = ![32 * k.val, 0] := by
  revert k; decide +kernel
theorem off15_eq (k : Fin k0_t4_loop.trips) : k0_off15 k = ![32 * k.val, 128] := by
  revert k; decide +kernel

/-- A block's window rows, as the rectangle at its first row places them. -/
theorem wblk_emb {e : EltTy} (X : Vec F S3x1920x128 e) (r : Fin 3) (off : Fin 3 → ℕ) (inb) (k : ℕ) (hk : k < 60) (ho : off = ![r.val, 32 * k, 0])
    (j : (Rect.unit (s := S3x1920x128) off S1x32x128.size inb).shape.Idx) :
    X ((Rect.unit (s := S3x1920x128) off S1x32x128.size inb).emb j) = wblk X r k hk j := by
  refine congrArg X (funext fun a => Fin.ext ?_)
  refine (unit_emb_val _ _ _ ho j a).trans ?_
  have h0 : (j 0).val < 1 := (j 0).isLt
  fin_cases a
  · show r.val + (j 0).val = r.val; omega
  · rfl
  · exact Nat.zero_add _

variable (WORD OFF : Vec F S1920x128 .i32) (WIN : Vec F S3x1920x128 .i32) (SX SR : Vec F S1920x128 .f32)

/-- The two halves of a block, stored one after the other over what the array holds: each index of the block reads its half. -/
theorem put_halves {e : EltTy} (X : Vec F S1920x256 e) (o14 o15 : Fin 2 → ℕ) (i14 i15) (k : ℕ) (h14 : o14 = ![32 * k, 0]) (h15 : o15 = ![32 * k, 128])
    (lo hi : Vec F S32x128 e) (t : Fin 1920) (l : Fin 256) :
    put (Rect.unit (s := S1920x256) o15 S32x128.size i15) (put (Rect.unit (s := S1920x256) o14 S32x128.size i14) X lo) hi (ix2 t l)
      = if t.val / 32 = k then
          if h : l.val < 128 then lo (ix2 (inBlk t) (⟨l.val, h⟩ : Fin 128)) else hi (ix2 (inBlk t) (⟨l.val - 128, by omega⟩ : Fin 128))
        else X (ix2 t l) := by
  by_cases ht : t.val / 32 = k
  · rw [if_pos ht]
    by_cases h : l.val < 128
    · rw [dif_pos h]
      refine (put_unit_out _ _ _ h15 _ hi (ix2 t l) (1 : Fin 2) (Or.inl h)).trans ?_
      exact put_unit_in _ _ _ h14 X lo (ix2 t l) (ix2 (inBlk t) (⟨l.val, h⟩ : Fin 128)) (by
        intro a; fin_cases a
        · show t.val = 32 * k + t.val % 32; omega
        · exact (Nat.zero_add _).symm)
    · rw [dif_neg h]
      exact put_unit_in _ _ _ h15 _ hi (ix2 t l) (ix2 (inBlk t) (⟨l.val - 128, by omega⟩ : Fin 128)) (by
        intro a; fin_cases a
        · show t.val = 32 * k + t.val % 32; omega
        · show l.val = 128 + (l.val - 128); omega)
  · rw [if_neg ht]
    refine (put_unit_out _ _ _ h15 _ hi (ix2 t l) (0 : Fin 2) (by show t.val < 32 * k ∨ 32 * k + 32 ≤ t.val; omega)).trans ?_
    exact put_unit_out _ _ _ h14 X lo (ix2 t l) (0 : Fin 2) (by show t.val < 32 * k ∨ 32 * k + 32 ≤ t.val; omega)

/-- The decoded tokens of the blocks before `k` are in place. -/
def DecX (a : BitVec 32) (k : ℕ) (f : Vec F S1920x256 .bf16) : Prop :=
  ∀ y, (y 0).val / 32 < k → f y = xrecOf SX WORD OFF WIN a y
/-- The rescaled tokens of the blocks before `k` are in place. -/
def DecT (a : BitVec 32) (k : ℕ) (f : Vec F S1920x256 .bf16) : Prop :=
  ∀ y, (y 0).val / 32 < k → f y = xtOf SX SR WORD OFF WIN a y

theorem decX_succ (a : BitVec 32) (k : ℕ) (hk : k < 60) (o14 o15 : Fin 2 → ℕ) (i14 i15) (h14 : o14 = ![32 * k, 0]) (h15 : o15 = ![32 * k, 128])
    (f : Vec F S1920x256 .bf16) (hf : DecX WORD OFF WIN SX a k f) :
    DecX WORD OFF WIN SX a (k + 1)
      (put (Rect.unit (s := S1920x256) o15 S32x128.size i15) (put (Rect.unit (s := S1920x256) o14 S32x128.size i14) f
        (decLo a (blk WORD k hk) (blk OFF k hk) (wblk WIN 0 k hk) (wblk WIN 1 k hk) (wblk WIN 2 k hk) (blk SX k hk)))
        (decHi a (blk WORD k hk) (blk OFF k hk) (wblk WIN 0 k hk) (wblk WIN 1 k hk) (wblk WIN 2 k hk) (blk SX k hk))) := by
  intro y
  obtain ⟨t, l, rfl⟩ : ∃ (t : Fin 1920) (l : Fin 256), y = ix2 t l := ⟨y 0, y 1, eq_ix2 y⟩
  intro ht
  change t.val / 32 < k + 1 at ht
  refine (put_halves f o14 o15 i14 i15 k h14 h15 _ _ t l).trans ?_
  by_cases h : t.val / 32 = k
  · rw [if_pos h]; subst h; rfl
  · rw [if_neg h]; exact hf (ix2 t l) (by show t.val / 32 < k; omega)

theorem decT_succ (a : BitVec 32) (k : ℕ) (hk : k < 60) (o14 o15 : Fin 2 → ℕ) (i14 i15) (h14 : o14 = ![32 * k, 0]) (h15 : o15 = ![32 * k, 128])
    (f : Vec F S1920x256 .bf16) (hf : DecT WORD OFF WIN SX SR a k f) :
    DecT WORD OFF WIN SX SR a (k + 1)
      (put (Rect.unit (s := S1920x256) o15 S32x128.size i15) (put (Rect.unit (s := S1920x256) o14 S32x128.size i14) f
        (mulLo a (blk WORD k hk) (blk OFF k hk) (wblk WIN 0 k hk) (wblk WIN 1 k hk) (wblk WIN 2 k hk) (blk SX k hk) (blk SR k hk)))
        (mulHi a (blk WORD k hk) (blk OFF k hk) (wblk WIN 0 k hk) (wblk WIN 1 k hk) (wblk WIN 2 k hk) (blk SX k hk) (blk SR k hk))) := by
  intro y
  obtain ⟨t, l, rfl⟩ : ∃ (t : Fin 1920) (l : Fin 256), y = ix2 t l := ⟨y 0, y 1, eq_ix2 y⟩
  intro ht
  change t.val / 32 < k + 1 at ht
  refine (put_halves f o14 o15 i14 i15 k h14 h15 _ _ t l).trans ?_
  by_cases h : t.val / 32 = k
  · rw [if_pos h]; subst h; rfl
  · rw [if_neg h]; exact hf (ix2 t l) (by show t.val / 32 < k; omega)

/-- Before block `k`: the blocks before it are decoded, in both outputs of the loop. -/
def inv4 (a : BitVec 32) (k : ℕ) : sProp (MT nD τ sig Ix (Elt F) Name U Lvl) :=
  iprop(owns (c : Thread nD τ) arg5 fullShare SX ∗ owns (c : Thread nD τ) arg6 fullShare SR
    ∗ owns (c : Thread nD τ) arg12 fullShare WIN ∗ owns (c : Thread nD τ) arg13 fullShare OFF ∗ owns (c : Thread nD τ) arg14 fullShare WORD
    ∗ (∃ f, ⌜DecX WORD OFF WIN SX a k f⌝ ∗ owns (c : Thread nD τ) arg9 fullShare f)
    ∗ (∃ f, ⌜DecT WORD OFF WIN SX SR a k f⌝ ∗ owns (c : Thread nD τ) arg15 fullShare f))

set_option maxHeartbeats 4000000 in
/-- One block decoded. -/
theorem trip4 (a : BitVec 32) (h2 : k0_cond2 i = 1#1) (k : Fin k0_t4_loop.trips) (acc : Unit) :
    inv4 (F := F) (Ix := Ix) (Name := Name) (U := U) (Lvl := Lvl) c arg5 arg6 arg9 arg12 arg13 arg14 arg15 WORD OFF WIN SX SR a k.val
      ⊢ wp frame (wpE (defs₀ (F := F)) 𝒱 (c : Thread nD τ) bd) E (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 a h2 k acc)
          (fun _ => inv4 c arg5 arg6 arg9 arg12 arg13 arg14 arg15 WORD OFF WIN SX SR a (k.val + 1)) := by
  have hk : k.val < 60 := lt_of_lt_of_eq k.isLt trips4
  unfold inv4 k0_t4_body
  rw [k0_part2_eq_skeleton, k0_part3_eq_skeleton, k0_part4_eq_skeleton, k0_part5_eq_skeleton]
  unfold k0_part2_skel k0_part3_skel k0_part4_skel k0_part5_skel
  iintro ⟨H5, H6, H12, H13, H14, ⟨%f9, %h9, H9⟩, ⟨%f15, %h15, H15⟩⟩
  iapply (loadAs 𝒱 (c : Thread nD τ) bd E (blk WORD k.val hk) (blk_emb WORD _ _ k.val hk (off10_eq k))) $$ H14
  iintro H14
  iapply (loadAs 𝒱 (c : Thread nD τ) bd E (blk OFF k.val hk) (blk_emb OFF _ _ k.val hk (off10_eq k))) $$ H13
  iintro H13
  iapply (loadAs 𝒱 (c : Thread nD τ) bd E (wblk WIN 0 k.val hk) (wblk_emb WIN 0 _ _ k.val hk (off11_eq k))) $$ H12
  iintro H12
  iapply (loadAs 𝒱 (c : Thread nD τ) bd E (wblk WIN 1 k.val hk) (wblk_emb WIN 1 _ _ k.val hk (off12_eq k))) $$ H12
  iintro H12
  iapply (loadAs 𝒱 (c : Thread nD τ) bd E (wblk WIN 2 k.val hk) (wblk_emb WIN 2 _ _ k.val hk (off13_eq k))) $$ H12
  iintro H12
  iapply (loadAs 𝒱 (c : Thread nD τ) bd E (blk SX k.val hk) (blk_emb SX _ _ k.val hk (off10_eq k))) $$ H5
  iintro H5
  iapply (loadAs 𝒱 (c : Thread nD τ) bd E (blk SR k.val hk) (blk_emb SR _ _ k.val hk (off10_eq k))) $$ H6
  iintro H6
  iapply (load 𝒱 (c : Thread nD τ) bd E) $$ H9
  iintro H9
  iapply (store 𝒱 (c : Thread nD τ) bd E) $$ H9
  iintro H9
  iapply (load 𝒱 (c : Thread nD τ) bd E) $$ H15
  iintro H15
  iapply (store 𝒱 (c : Thread nD τ) bd E) $$ H15
  iintro H15
  iapply (loadAs 𝒱 (c : Thread nD τ) bd E (blk WORD k.val hk) (blk_emb WORD _ _ k.val hk (off10_eq k))) $$ H14
  iintro H14
  iapply (loadAs 𝒱 (c : Thread nD τ) bd E (blk OFF k.val hk) (blk_emb OFF _ _ k.val hk (off10_eq k))) $$ H13
  iintro H13
  iapply (loadAs 𝒱 (c : Thread nD τ) bd E (wblk WIN 0 k.val hk) (wblk_emb WIN 0 _ _ k.val hk (off11_eq k))) $$ H12
  iintro H12
  iapply (loadAs 𝒱 (c : Thread nD τ) bd E (wblk WIN 1 k.val hk) (wblk_emb WIN 1 _ _ k.val hk (off12_eq k))) $$ H12
  iintro H12
  iapply (loadAs 𝒱 (c : Thread nD τ) bd E (wblk WIN 2 k.val hk) (wblk_emb WIN 2 _ _ k.val hk (off13_eq k))) $$ H12
  iintro H12
  iapply (loadAs 𝒱 (c : Thread nD τ) bd E (blk SX k.val hk) (blk_emb SX _ _ k.val hk (off10_eq k))) $$ H5
  iintro H5
  iapply (loadAs 𝒱 (c : Thread nD τ) bd E (blk SR k.val hk) (blk_emb SR _ _ k.val hk (off10_eq k))) $$ H6
  iintro H6
  iapply (load 𝒱 (c : Thread nD τ) bd E) $$ H9
  iintro H9
  iapply (store 𝒱 (c : Thread nD τ) bd E) $$ H9
  iintro H9
  iapply (load 𝒱 (c : Thread nD τ) bd E) $$ H15
  iintro H15
  iapply (store 𝒱 (c : Thread nD τ) bd E) $$ H15
  iintro H15
  iapply (done 𝒱 (c : Thread nD τ) bd E)
  isplitl [H5]; · iexact H5
  isplitl [H6]; · iexact H6
  isplitl [H12]; · iexact H12
  isplitl [H13]; · iexact H13
  isplitl [H14]; · iexact H14
  isplitl [H9]
  · iexists _
    isplitr; swap; · iexact H9
    ipureintro
    exact decX_succ WORD OFF WIN SX a k.val hk _ _ _ _ (off14_eq k) (off15_eq k) f9 h9
  · iexists _
    isplitr; swap; · iexact H15
    ipureintro
    exact decT_succ WORD OFF WIN SX SR a k.val hk _ _ _ _ (off14_eq k) (off15_eq k) f15 h15

/-- The loop over the blocks: both outputs of the loop hold the decoded column group. -/
theorem loop4 (a : BitVec 32) (h2 : k0_cond2 i = 1#1) {α : Type} {kk : Unit → Prog (TpuEff nD τ sig (Elt F) Λ₀ .tc) α}
    {Q : α → sProp (MT nD τ sig Ix (Elt F) Name U Lvl)} :
    iprop(owns (c : Thread nD τ) arg5 fullShare SX ∗ owns (c : Thread nD τ) arg6 fullShare SR
        ∗ owns (c : Thread nD τ) arg12 fullShare WIN ∗ owns (c : Thread nD τ) arg13 fullShare OFF ∗ owns (c : Thread nD τ) arg14 fullShare WORD
        ∗ (∃ f, owns (c : Thread nD τ) arg9 fullShare f) ∗ (∃ f, owns (c : Thread nD τ) arg15 fullShare f))
      ⊢ iprop((∀ acc, (owns (c : Thread nD τ) arg5 fullShare SX ∗ owns (c : Thread nD τ) arg6 fullShare SR
              ∗ owns (c : Thread nD τ) arg12 fullShare WIN ∗ owns (c : Thread nD τ) arg13 fullShare OFF ∗ owns (c : Thread nD τ) arg14 fullShare WORD
              ∗ owns (c : Thread nD τ) arg9 fullShare (xrecOf SX WORD OFF WIN a) ∗ owns (c : Thread nD τ) arg15 fullShare (xtOf SX SR WORD OFF WIN a))
            -∗ wp frame (wpE (defs₀ (F := F)) 𝒱 (c : Thread nD τ) bd) E (kk acc) Q)
        -∗ wp frame (wpE (defs₀ (F := F)) 𝒱 (c : Thread nD τ) bd) E
            (Scf.Loop.for k0_t4_loop (k0_t4_ok i h2) ⟨⟩ (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 a h2) >>= kk) Q) := by
  iintro ⟨H5, H6, H12, H13, H14, ⟨%f9, H9⟩, ⟨%f15, H15⟩⟩ Hk
  ihave HI : inv4 (F := F) (Ix := Ix) (Name := Name) (U := U) (Lvl := Lvl) c arg5 arg6 arg9 arg12 arg13 arg14 arg15 WORD OFF WIN SX SR a 0 $$ [H5 H6 H12 H13 H14 H9 H15]
  · unfold inv4
    isplitl [H5]; · iexact H5
    isplitl [H6]; · iexact H6
    isplitl [H12]; · iexact H12
    isplitl [H13]; · iexact H13
    isplitl [H14]; · iexact H14
    isplitl [H9]
    · iexists f9; isplitr
      · ipureintro; intro y h; exact absurd h (Nat.not_lt_zero _)
      · iexact H9
    · iexists f15; isplitr
      · ipureintro; intro y h; exact absurd h (Nat.not_lt_zero _)
      · iexact H15
  iapply (Scf.wp_for_bind Idealize.ShloMosaic.frame (wpE (defs₀ (F := F)) 𝒱 (c : Thread nD τ) bd) E _ _ _ (k0_t4_ok i h2) _ _
    (fun k _ => inv4 c arg5 arg6 arg9 arg12 arg13 arg14 arg15 WORD OFF WIN SX SR a k)
    (fun k acc => trip4 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 WORD OFF WIN SX SR a h2 k acc)) $$ HI
  iintro %acc HI
  unfold inv4
  icases HI with ⟨H5, H6, H12, H13, H14, ⟨%f9', %h9, H9⟩, ⟨%f15', %h15, H15⟩⟩
  have e9 : f9' = xrecOf SX WORD OFF WIN a := funext fun y => h9 y (lt_of_lt_of_eq (blk_lt (y 0)) trips4.symm)
  have e15 : f15' = xtOf SX SR WORD OFF WIN a := funext fun y => h15 y (lt_of_lt_of_eq (blk_lt (y 0)) trips4.symm)
  subst e9 e15
  iapply Hk
  isplitl [H5]; · iexact H5
  isplitl [H6]; · iexact H6
  isplitl [H12]; · iexact H12
  isplitl [H13]; · iexact H13
  isplitl [H14]; · iexact H14
  isplitl [H9] <;> iassumption

end Cert.KernelIdeal.Hand

end
-- ==== Proof.ChunksIdeal.lean ====
/-
  The gradient's 37 chunks of 512 columns, each copied into the kernel's own buffer by a transfer on its own semaphore: started
  at the first grid point, each waited for at the point that first reads it.
-/
module

public import proofs.«01_k».proof.Proof.ContentsIdeal
public import proofs.«01_k».proof.Proof.Rules
public import proofs.«01_k».proof.Proof.Gen.KernelIdeal.Loops
public import Idealize.ShloMosaic.Lib.Transfers
public import Idealize.ShloMosaic.Lib.Pipeline.FrameBody
public import Idealize.ShloMosaic.Lib.Ring

@[expose] public section

set_option maxRecDepth 16384

noncomputable section

namespace Cert.KernelIdeal.Hand

open Cert.KernelIdeal Cert.KernelIdeal.Gen Cert.ByContents
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The user algebra: the pipeline's own beside the transfers' counters. -/
local notation "𝕄" => MT nD τ sig Unit (Elt F) ℕ (Pipeline.UD sig nD τ) ℕ

section Mix

variable {M : Type} [URA M]

theorem bigSep_at {I : Type} [DecidableEq I] {s : Finset I} {i : I} (h : i ∈ s) (Φ : I → sProp M) :
    bigSep s Φ = iprop(Φ i ∗ bigSep (s.erase i) Φ) := bigSep_erase h
theorem bigSep_sep_split {I : Type} (s : Finset I) (Φ Ψ : I → sProp M) :
    bigSep s (fun i => iprop(Φ i ∗ Ψ i)) ⊢ iprop(bigSep s Φ ∗ bigSep s Ψ) := Entails.of_eq (bigSep_sep s Φ Ψ)
theorem bigSep_sep_join {I : Type} (s : Finset I) (Φ Ψ : I → sProp M) :
    iprop(bigSep s Φ ∗ bigSep s Ψ) ⊢ bigSep s (fun i => iprop(Φ i ∗ Ψ i)) := Entails.of_eq (bigSep_sep s Φ Ψ).symm

theorem bigSep_each {I : Type} (s : Finset I) (Φ Ψ : I → sProp M) (h : ∀ i ∈ s, Φ i ⊢ Ψ i) :
    bigSep s Φ ⊢ bigSep s Ψ := bigSep_mono h

/-- The state of 37 things of which the first `k` have passed from `B` to `A`. -/
def mix (k : ℕ) (A B : Fin 37 → sProp M) (n : Fin 37) : sProp M := if n.val < k then A n else B n

/-- The next of them is at `B`, and may pass to `A`. -/
theorem mix_step (A B : Fin 37 → sProp M) (k : Fin 37) :
    bigSep Finset.univ (mix k.val A B) ⊢ iprop(B k ∗ (A k -∗ bigSep Finset.univ (mix (k.val + 1) A B))) := by
  have h0 : mix k.val A B k = B k := if_neg (lt_irrefl _)
  have h1 : mix (k.val + 1) A B k = A k := if_pos (Nat.lt_succ_self _)
  have he : bigSep (Finset.univ.erase k) (mix k.val A B) = bigSep (Finset.univ.erase k) (mix (k.val + 1) A B) :=
    bigSep_congr fun n hn => by
      have hne : n.val ≠ k.val := fun h => (Finset.mem_erase.mp hn).1 (Fin.ext h)
      unfold mix
      by_cases h : n.val < k.val
      · rw [if_pos h, if_pos (by omega)]
      · rw [if_neg h, if_neg (by omega)]
  rw [bigSep_at (Finset.mem_univ k) (mix k.val A B), h0, he, bigSep_at (Finset.mem_univ k) (mix (k.val + 1) A B), h1]
  iintro ⟨HB, HR⟩
  isplitl [HB]; · iexact HB
  iintro HA
  isplitl [HA] <;> iassumption

theorem mix_zero (A B : Fin 37 → sProp M) : mix 0 A B = B := funext fun _ => if_neg (Nat.not_lt_zero _)
theorem mix_full (A B : Fin 37 → sProp M) (k : ℕ) (hk : 37 ≤ k) : mix k A B = A := funext fun n => if_pos (lt_of_lt_of_le n.isLt hk)

end Mix

theorem chunk_inb (n : Fin 37) : ∀ a, (![0, 512 * n.val] : Fin 2 → ℕ) a + S1920x512.size a ≤ S1920x18944.size a := by
  intro a; fin_cases a
  · exact Nat.le_refl _
  · show 512 * n.val + 512 ≤ 18944; omega
theorem cell_inb (n : Fin 37) : ∀ a, (![n.val] : Fin 1 → ℕ) a + S1.size a ≤ S37.size a := by
  intro a; fin_cases a
  show n.val + 1 ≤ 37; omega

/-- Columns 512n … 512n + 511. -/
abbrev chunkR (n : Fin 37) : Rect S1920x18944 := Rect.unit (s := S1920x18944) ![0, 512 * n.val] S1920x512.size (chunk_inb n)
/-- A chunk of a buffer as wide as the gradient. -/
abbrev chunkOf {sp : Space} (m : Memref sig .tc sp S1920x18944 .fp8e5m2) (n : Fin 37) : Memref sig .tc sp S1920x512 .fp8e5m2 :=
  m.slice (Rect.unit (s := S1920x18944) ![0, 512 * n.val] S1920x512.size (chunk_inb n)) (fun _ => rfl)
/-- A chunk's semaphore. -/
abbrev cell (arg16 : DmaSems sig S37) (n : Fin 37) : DmaSem sig :=
  ((arg16.slice (Rect.unit (s := S37) ![n.val] S1.size (cell_inb n))).squeeze S_ squeezes_S1_S_).sem

/-- What chunk `n`'s columns hold of the gradient. -/
theorem dyChunk_emb (DY : Vec F S1920x18944 .fp8e5m2) (n : Fin 37) :
    (fun j => DY ((chunkR n).emb j)) = dyChunk DY n.val n.isLt := by
  funext j
  refine congrArg DY (funext fun a => Fin.ext ?_)
  refine (unit_emb_val _ _ (chunk_inb n) rfl j a).trans ?_
  fin_cases a
  · exact Nat.zero_add _
  · rfl

/-- The chunks are disjoint. -/
theorem chunk_disj (n n' : Fin 37) (h : n ≠ n') : Disjoint (chunkR n).set (chunkR n').set := by
  rw [Finset.disjoint_left]
  intro y hy hy'
  obtain ⟨j, rfl⟩ := (chunkR n).exists_idx_of_mem hy
  obtain ⟨j', he⟩ := (chunkR n').exists_idx_of_mem hy'
  have e : ((chunkR n').emb j' 1).val = ((chunkR n).emb j 1).val := congrArg (fun y : S1920x18944.Idx => (y 1).val) he
  have e1 : ((chunkR n).emb j 1).val = 512 * n.val + (j 1).val := unit_emb_val _ _ (chunk_inb n) rfl j 1
  have e2 : ((chunkR n').emb j' 1).val = 512 * n'.val + (j' 1).val := unit_emb_val _ _ (chunk_inb n') rfl j' 1
  have b1 : (j 1).val < 512 := (j 1).isLt
  have b2 : (j' 1).val < 512 := (j' 1).isLt
  exact h (Fin.ext (by omega))

/-- The chunks cover. -/
theorem chunk_cover : (Finset.univ : Finset (Fin 37)).biUnion (fun n => (chunkR n).set) = Finset.univ := by
  refine Finset.eq_univ_iff_forall.mpr fun y => ?_
  have hy : (y 1).val < 18944 := (y 1).isLt
  have hn : (y 1).val / 512 < 37 := by omega
  refine Finset.mem_biUnion.mpr ⟨⟨(y 1).val / 512, hn⟩, Finset.mem_univ _, ?_⟩
  have hy1 : (y 1).val % 512 < 512 := Nat.mod_lt _ (by decide)
  have : (chunkR ⟨(y 1).val / 512, hn⟩).emb (ix2 (y 0) (⟨(y 1).val % 512, hy1⟩ : Fin 512)) = y := by
    refine funext fun a => Fin.ext ?_
    refine (unit_emb_val _ _ (chunk_inb ⟨(y 1).val / 512, hn⟩) rfl _ a).trans ?_
    fin_cases a
    · exact Nat.zero_add _
    · show 512 * ((y 1).val / 512) + (y 1).val % 512 = (y 1).val; omega
  have hm : (chunkR ⟨(y 1).val / 512, hn⟩).emb (ix2 (y 0) (⟨(y 1).val % 512, hy1⟩ : Fin 512)) ∈ (chunkR ⟨(y 1).val / 512, hn⟩).set := by
    rw [← Rect.map_emb_univ]; exact Finset.mem_map_of_mem _ (Finset.mem_univ _)
  rw [this] at hm; exact hm

section States

variable (c : Dev nD) (arg7 : Memref sig .tc .hbm S1920x18944 .fp8e5m2) (arg10 : Memref sig .tc .vmem S1920x18944 .fp8e5m2)
variable (arg16 : DmaSems sig S37) (DY : Vec F S1920x18944 .fp8e5m2)

/-- Chunk `n` not yet copied: its semaphore at zero, its columns of the buffer at anything. -/
def Free (n : Fin 37) : sProp (MT nD τ sig Unit (Elt F) ℕ (Pipeline.UD sig nD τ) ℕ) :=
  iprop(semVal ((c : Thread nD τ), SemLoc.dma (cell arg16 n)) 0
    ∗ (∃ f, owns (c : Thread nD τ) (chunkOf arg10 n) fullShare f)
    ∗ owns (c : Thread nD τ) (chunkOf arg7 n) fullShare (dyChunk DY n.val n.isLt))
/-- What chunk `n`'s transfer delivers: its columns of the buffer at the gradient's, and the gradient's own back. -/
def Delivered (n : Fin 37) : sProp (MT nD τ sig Unit (Elt F) ℕ (Pipeline.UD sig nD τ) ℕ) :=
  iprop(owns (c : Thread nD τ) (chunkOf arg10 n) fullShare (dyChunk DY n.val n.isLt)
    ∗ owns (c : Thread nD τ) (chunkOf arg7 n) fullShare (dyChunk DY n.val n.isLt))
/-- Chunk `n` in flight. -/
def Flying (n : Fin 37) : sProp (MT nD τ sig Unit (Elt F) ℕ (Pipeline.UD sig nD τ) ℕ) :=
  Transfers.Flight (countersEmb (U := Pipeline.UD sig nD τ)) (c : Thread nD τ) (SemLoc.dma (cell arg16 n)) ()
    ((chunkOf arg10 n).view.dmaCredit) (Delivered (F := F) c arg7 arg10 DY n)
/-- Chunk `n` arrived: its semaphore at zero again. -/
def Landed (n : Fin 37) : sProp (MT nD τ sig Unit (Elt F) ℕ (Pipeline.UD sig nD τ) ℕ) :=
  iprop(semVal ((c : Thread nD τ), SemLoc.dma (cell arg16 n)) 0 ∗ Delivered (F := F) c arg7 arg10 DY n)

end States

section Rules

variable (𝒱 : Variants) (c : Dev nD) (bd : Option 𝒱.V)
variable {arg7 : Memref sig .tc .hbm S1920x18944 .fp8e5m2} {arg10 : Memref sig .tc .vmem S1920x18944 .fp8e5m2}
variable {arg16 : DmaSems sig S37} {DY : Vec F S1920x18944 .fp8e5m2}
variable {α : Type} {Q : α → sProp (MT nD τ sig Unit (Elt F) ℕ (Pipeline.UD sig nD τ) ℕ)}

/-- Starting a chunk's transfer. -/
theorem startChunk (n : Fin 37) (off2 : Fin 2 → ℕ) (inb2) (ho2 : off2 = ![0, 512 * n.val]) (off1 : Fin 1 → ℕ) (inb1) (ho1 : off1 = ![n.val])
    {hs : ∀ a, (Rect.unit (s := S1920x18944) off2 S1920x512.size inb2).stride a = 1}
    {hsrc} {hdst} {hsem} {k : PUnit → Prog (TpuEff nD τ sig (Elt F) Λ₀ .tc) α} :
    Free (F := F) c arg7 arg10 arg16 DY n
      ⊢ iprop((Flying (F := F) c arg7 arg10 arg16 DY n -∗ wp frame (wpE (defs₀ (F := F)) 𝒱 (c : Thread nD τ) bd) Set.univ (k ⟨⟩) Q)
        -∗ wp frame (wpE (defs₀ (F := F)) 𝒱 (c : Thread nD τ) bd) Set.univ
            (.op (.enqueueDma (arg7.slice (Rect.unit (s := S1920x18944) off2 S1920x512.size inb2) hs)
              (.here (arg10.slice (Rect.unit (s := S1920x18944) off2 S1920x512.size inb2) hs))
              (.dma ((arg16.slice (Rect.unit (s := S37) off1 S1.size inb1)).squeeze S_ squeezes_S1_S_).sem) hsrc hdst hsem) k) Q) := by
  subst ho2 ho1
  unfold Free
  iintro ⟨Hv, ⟨%g, Hd⟩, Hs⟩ Hk
  ihave Hd' := (show owns (c : Thread nD τ) (chunkOf arg10 n) fullShare g ⊢ iprop(∃ f, ⌜(chunkOf arg10 n).view.read (Elt F) f = g⌝
    ∗ ((chunkOf arg10 n).view.loc (c : Thread nD τ) ↦[(chunkOf arg10 n).view.set]{fullShare} f)) from .rfl) $$ Hd
  icases Hd' with ⟨%fd, -, Hd⟩
  ihave Hs' := (show owns (c : Thread nD τ) (chunkOf arg7 n) fullShare (dyChunk DY n.val n.isLt) ⊢ iprop(∃ f, ⌜(chunkOf arg7 n).view.read (Elt F) f = dyChunk DY n.val n.isLt⌝
    ∗ ((chunkOf arg7 n).view.loc (c : Thread nD τ) ↦[(chunkOf arg7 n).view.set]{fullShare} f)) from .rfl) $$ Hs
  icases Hs' with ⟨%fs, %hfs, Hs⟩
  iapply (Transfers.wp_dmaLocal (countersEmb (U := Pipeline.UD sig nD τ)) 𝒱 (c : Thread nD τ) bd (via := ReadAs.same) ()
    ((chunkOf arg10 n).view.dmaCredit) rfl (View.dmaCredit_pos _ (by decide)) (Finset.Subset.refl _)) $$ [Hs Hd Hv]
  · isplitl [Hs]; · iexact Hs
    isplitl [Hd]; · iexact Hd
    iexact Hv
  iintro HF
  iapply Hk
  unfold Flying
  iapply (Transfers.Flight_mono (countersEmb (U := Pipeline.UD sig nD τ)) (c : Thread nD τ) ?_) $$ HF
  unfold Delivered
  iintro ⟨Hd, Hs⟩
  isplitl [Hd]
  · unfold owns
    iexists _; isplitr; swap; · iexact Hd
    ipureintro
    rw [View.read_write_univ]; exact hfs
  · unfold owns
    iexists _; isplitr; swap; · iexact Hs
    ipureintro; exact hfs

/-- Waiting for a chunk's transfer. -/
theorem waitChunk (n : Fin 37) (off2 : Fin 2 → ℕ) (inb2) (ho2 : off2 = ![0, 512 * n.val]) (off1 : Fin 1 → ℕ) (inb1) (ho1 : off1 = ![n.val])
    {hs : ∀ a, (Rect.unit (s := S1920x18944) off2 S1920x512.size inb2).stride a = 1} {W : Waits sig Unit}
    {hsrc} {hdst} {k : PUnit → Prog (TpuEff nD τ sig (Elt F) Λ₀ .tc) α} :
    iprop(Flying (F := F) c arg7 arg10 arg16 DY n ∗ owes (c : Thread nD τ) 0 W)
      ⊢ iprop(((Landed (F := F) c arg7 arg10 arg16 DY n ∗ (∃ W', owes (c : Thread nD τ) 0 W')) -∗ wp frame (wpE (defs₀ (F := F)) 𝒱 (c : Thread nD τ) bd) Set.univ (k ⟨⟩) Q)
        -∗ wp frame (wpE (defs₀ (F := F)) 𝒱 (c : Thread nD τ) bd) Set.univ
            (.op (.waitDma2 ((arg16.slice (Rect.unit (s := S37) off1 S1.size inb1)).squeeze S_ squeezes_S1_S_).sem
              (arg7.slice (Rect.unit (s := S1920x18944) off2 S1920x512.size inb2) hs)
              (arg10.slice (Rect.unit (s := S1920x18944) off2 S1920x512.size inb2) hs) hsrc hdst) k) Q) := by
  subst ho2 ho1
  unfold Flying
  iintro ⟨HF, HW⟩ Hk
  iapply (Transfers.wp_waitLocal (countersEmb (U := Pipeline.UD sig nD τ)) 𝒱 (c : Thread nD τ) bd () rfl) $$ [HF HW]
  · isplitl [HF]; · iexact HF
    iexact HW
  iintro ⟨HD, Hv, HW⟩
  iapply Hk
  isplitl [HD Hv]
  · unfold Landed; isplitl [Hv]; · iexact Hv
    iexact HD
  · iexists _; iexact HW

/-- Loading a chunk's columns of the buffer. -/
theorem loadChunk (n : Fin 37) (off2 : Fin 2 → ℕ) (inb2) (ho2 : off2 = ![0, 512 * n.val])
    {hl} {k : Vec F S1920x512 .fp8e5m2 → Prog (TpuEff nD τ sig (Elt F) Λ₀ .tc) α} :
    Landed (F := F) c arg7 arg10 arg16 DY n
      ⊢ iprop((Landed (F := F) c arg7 arg10 arg16 DY n -∗ wp frame (wpE (defs₀ (F := F)) 𝒱 (c : Thread nD τ) bd) Set.univ (k (dyChunk DY n.val n.isLt)) Q)
        -∗ wp frame (wpE (defs₀ (F := F)) 𝒱 (c : Thread nD τ) bd) Set.univ
            (.op (.load arg10 (Rect.unit (s := S1920x18944) off2 S1920x512.size inb2).toLoadRect hl) k) Q) := by
  subst ho2
  unfold Landed Delivered
  iintro ⟨Hv, Hd, Hs⟩ Hk
  ihave Hd' := (show owns (c : Thread nD τ) (chunkOf arg10 n) fullShare (dyChunk DY n.val n.isLt) ⊢ iprop(∃ f, ⌜(chunkOf arg10 n).view.read (Elt F) f = dyChunk DY n.val n.isLt⌝
    ∗ ((chunkOf arg10 n).view.loc (c : Thread nD τ) ↦[(chunkOf arg10 n).view.set]{fullShare} f)) from .rfl) $$ Hd
  icases Hd' with ⟨%fd, %hfd, Hd⟩
  iapply (wp_load 𝒱 (c : Thread nD τ) bd Set.univ (m := arg10) (r := (Rect.unit (s := S1920x18944) ![0, 512 * n.val] S1920x512.size inb2).toLoadRect) (hl := hl) (k := k) (f := fd)
    (S := (chunkOf arg10 n).view.set) (le_of_eq (View.set_slice _ _).symm)) $$ Hd
  iintro Hd
  have : (arg10.view.readAt (Elt F) (Rect.unit (s := S1920x18944) ![0, 512 * n.val] S1920x512.size inb2).toLoadRect fd) = dyChunk DY n.val n.isLt := by
    rw [← hfd]; rfl
  rw [this]
  iapply Hk
  isplitl [Hv]; · iexact Hv
  isplitl [Hd]
  · unfold owns; iexists fd; isplitr
    · ipureintro; exact hfd
    · iexact Hd
  · iexact Hs

end Rules

section Loop

variable (𝒱 : Variants) (c : Dev nD) (bd : Option 𝒱.V) (i : grid0.Coords)
variable (arg2 : Memref sig .tc .smem S1920 .i32)
  (harg2 : arg2.IsWhole)
  (arg3 : Memref sig .tc .vmem S1920x112 .i32)
  (harg3 : arg3.IsWhole)
  (arg4 : Memref sig .tc .vmem S13440x128 .i8)
  (harg4 : arg4.IsWhole)
  (arg5 : Memref sig .tc .vmem S1920x128 .f32)
  (harg5 : arg5.IsWhole)
  (arg6 : Memref sig .tc .vmem S1920x128 .f32)
  (harg6 : arg6.IsWhole)
  (arg7 : Memref sig .tc .hbm S1920x18944 .fp8e5m2)
  (harg7 : arg7.IsWhole)
  (arg8 : Memref sig .tc .vmem S256x512 .f32)
  (harg8 : arg8.IsWhole)
  (arg9 : Memref sig .tc .vmem S1920x256 .bf16)
  (harg9 : arg9.IsWhole)
  (arg10 : Memref sig .tc .vmem S1920x18944 .fp8e5m2)
  (harg10 : arg10.IsWhole)
  (arg11 : Memref sig .tc .vmem S3360x128 .i32)
  (harg11 : arg11.IsWhole)
  (arg12 : Memref sig .tc .vmem S3x1920x128 .i32)
  (harg12 : arg12.IsWhole)
  (arg13 : Memref sig .tc .vmem S1920x128 .i32)
  (harg13 : arg13.IsWhole)
  (arg14 : Memref sig .tc .vmem S1920x128 .i32)
  (harg14 : arg14.IsWhole)
  (arg15 : Memref sig .tc .vmem S1920x256 .bf16)
  (harg15 : arg15.IsWhole)
  (arg16 : DmaSems sig S37)
variable (DY : Vec F S1920x18944 .fp8e5m2)

theorem trips1 : k0_t1_loop.trips = 37 := by decide +kernel
theorem off1_eq (k : Fin k0_t1_loop.trips) : k0_off1 k = ![(k.cast trips1).val] := by
  revert k; decide +kernel
theorem off2_eq (k : Fin k0_t1_loop.trips) : k0_off2 k = ![0, 512 * (k.cast trips1).val] := by
  revert k; decide +kernel

/-- The loop over the chunks starts every transfer. -/
theorem loop1 (h1 : k0_cond1 i = 1#1) {α : Type} {kk : Unit → Prog (TpuEff nD τ sig (Elt F) Λ₀ .tc) α}
    {Q : α → sProp (MT nD τ sig Unit (Elt F) ℕ (Pipeline.UD sig nD τ) ℕ)} :
    bigSep Finset.univ (Free (F := F) c arg7 arg10 arg16 DY)
      ⊢ iprop((∀ acc, bigSep Finset.univ (Flying (F := F) c arg7 arg10 arg16 DY)
            -∗ wp frame (wpE (defs₀ (F := F)) 𝒱 (c : Thread nD τ) bd) Set.univ (kk acc) Q)
        -∗ wp frame (wpE (defs₀ (F := F)) 𝒱 (c : Thread nD τ) bd) Set.univ
            (Scf.Loop.for k0_t1_loop (k0_t1_ok i h1) ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 h1) >>= kk) Q) := by
  have trip : ∀ (k : Fin k0_t1_loop.trips) (acc : Unit),
      bigSep Finset.univ (mix k.val (Flying (F := F) c arg7 arg10 arg16 DY) (Free (F := F) c arg7 arg10 arg16 DY))
        ⊢ wp frame (wpE (defs₀ (F := F)) 𝒱 (c : Thread nD τ) bd) Set.univ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 h1 k acc)
            (fun _ => bigSep Finset.univ (mix (k.val + 1) (Flying (F := F) c arg7 arg10 arg16 DY) (Free (F := F) c arg7 arg10 arg16 DY))) := by
    intro k acc
    refine (mix_step (Flying (F := F) c arg7 arg10 arg16 DY) (Free (F := F) c arg7 arg10 arg16 DY) (k.cast trips1)).trans ?_
    unfold k0_t1_body
    iintro ⟨HB, HR⟩
    iapply (startChunk 𝒱 c bd (k.cast trips1) (k0_off2 k) _ (off2_eq k) (k0_off1 k) _ (off1_eq k)) $$ HB
    iintro HA
    iapply (done 𝒱 (c : Thread nD τ) bd Set.univ)
    iapply HR; iexact HA
  iintro H Hk
  rw [← mix_zero (Flying (F := F) c arg7 arg10 arg16 DY) (Free (F := F) c arg7 arg10 arg16 DY)]
  iapply (Scf.wp_for_bind Idealize.ShloMosaic.frame (wpE (defs₀ (F := F)) 𝒱 (c : Thread nD τ) bd) Set.univ _ _ _ (k0_t1_ok i h1) _ _
    (fun k _ => bigSep Finset.univ (mix k (Flying (F := F) c arg7 arg10 arg16 DY) (Free (F := F) c arg7 arg10 arg16 DY))) trip) $$ H
  iintro %acc H
  rw [mix_full _ _ _ (le_of_eq trips1.symm)]
  iapply Hk; iexact H

end Loop

section Whole

variable (c : Dev nD) (arg7 : Memref sig .tc .hbm S1920x18944 .fp8e5m2) (arg10 : Memref sig .tc .vmem S1920x18944 .fp8e5m2)
variable (arg16 : DmaSems sig S37) (DY : Vec F S1920x18944 .fp8e5m2)

/-- A whole buffer is its chunks, each at its columns, -/
theorem chunks_split {sp : Space} (m : Memref sig .tc sp S1920x18944 .fp8e5m2) (X : Vec F S1920x18944 .fp8e5m2) :
    (owns (c : Thread nD τ) m fullShare X : sProp (MT nD τ sig Unit (Elt F) ℕ (Pipeline.UD sig nD τ) ℕ))
      ⊢ bigSep Finset.univ fun n : Fin 37 => owns (c : Thread nD τ) (chunkOf m n) fullShare (dyChunk X n.val n.isLt) :=
  (owns_rects (c : Thread nD τ) m fullShare chunkR (fun _ _ => rfl) chunk_disj chunk_cover X).trans
    (Entails.of_eq (bigSep_congr fun n _ => congrArg (owns (c : Thread nD τ) (chunkOf m n) fullShare) (dyChunk_emb X n)))
/-- and the chunks are the buffer. -/
theorem chunks_join {sp : Space} (m : Memref sig .tc sp S1920x18944 .fp8e5m2) (X : Vec F S1920x18944 .fp8e5m2) :
    (bigSep Finset.univ fun n : Fin 37 => owns (c : Thread nD τ) (chunkOf m n) fullShare (dyChunk X n.val n.isLt))
      ⊢ (owns (c : Thread nD τ) m fullShare X : sProp (MT nD τ sig Unit (Elt F) ℕ (Pipeline.UD sig nD τ) ℕ)) :=
  (Entails.of_eq (bigSep_congr fun n _ => congrArg (owns (c : Thread nD τ) (chunkOf m n) fullShare) (dyChunk_emb X n).symm)).trans
    (owns_of_rects (c : Thread nD τ) m fullShare chunkR (fun _ _ => rfl) chunk_disj chunk_cover X)

theorem free_intro (f : Vec F S1920x18944 .fp8e5m2) (n : Fin 37) :
    iprop(semVal ((c : Thread nD τ), SemLoc.dma (cell arg16 n)) 0
        ∗ (owns (c : Thread nD τ) (chunkOf arg10 n) fullShare (dyChunk f n.val n.isLt)
          ∗ owns (c : Thread nD τ) (chunkOf arg7 n) fullShare (dyChunk DY n.val n.isLt)))
      ⊢ Free (F := F) c arg7 arg10 arg16 DY n := by
  unfold Free
  iintro ⟨Hv, H10, H7⟩
  isplitl [Hv]; · iexact Hv
  isplitl [H10]
  · iexists _; iexact H10
  · iexact H7

/-- The two whole buffers and the semaphores at zero are the chunks not yet copied. -/
theorem free_of_whole :
    iprop(bigSep Finset.univ (fun n : Fin 37 => (semVal ((c : Thread nD τ), SemLoc.dma (cell arg16 n)) 0 : sProp (MT nD τ sig Unit (Elt F) ℕ (Pipeline.UD sig nD τ) ℕ)))
        ∗ (∃ f, owns (c : Thread nD τ) arg10 fullShare f) ∗ owns (c : Thread nD τ) arg7 fullShare DY)
      ⊢ bigSep Finset.univ (Free (F := F) c arg7 arg10 arg16 DY) := by
  iintro ⟨Hv, ⟨%f, H10⟩, H7⟩
  ihave H10 := (chunks_split c arg10 f) $$ H10
  ihave H7 := (chunks_split c arg7 DY) $$ H7
  ihave H := (bigSep_sep_join Finset.univ _ _) $$ [H10 H7]
  · isplitl [H10]; · iexact H10
    iexact H7
  ihave H := (bigSep_sep_join Finset.univ _ _) $$ [Hv H]
  · isplitl [Hv]; · iexact Hv
    iexact H
  iapply (bigSep_each Finset.univ _ _ fun n _ => free_intro c arg7 arg10 arg16 DY f n) $$ H

/-- The chunks all arrived are the two whole buffers, both at the gradient, and the semaphores at zero. -/
theorem whole_of_landed :
    bigSep Finset.univ (Landed (F := F) c arg7 arg10 arg16 DY)
      ⊢ iprop(bigSep Finset.univ (fun n : Fin 37 => (semVal ((c : Thread nD τ), SemLoc.dma (cell arg16 n)) 0 : sProp (MT nD τ sig Unit (Elt F) ℕ (Pipeline.UD sig nD τ) ℕ)))
        ∗ owns (c : Thread nD τ) arg10 fullShare DY ∗ owns (c : Thread nD τ) arg7 fullShare DY) := by
  unfold Landed Delivered
  iintro H
  ihave H' := (bigSep_sep_split Finset.univ _ _) $$ H
  icases H' with ⟨Hv, H⟩
  ihave H' := (bigSep_sep_split Finset.univ _ _) $$ H
  icases H' with ⟨H10, H7⟩
  isplitl [Hv]; · iexact Hv
  isplitl [H10]
  · iapply (chunks_join c arg10 DY) $$ H10
  · iapply (chunks_join c arg7 DY) $$ H7

end Whole

end Cert.KernelIdeal.Hand

end
-- ==== Proof.BodyIdeal.lean ====
/-
  The kernel's body at one grid point, in its four cases: the first point; the later points of the first column group, which
  still wait for chunks; the first point of a later column group, which decodes; the points between.
-/
module

public import proofs.«01_k».proof.Proof.WindowsIdeal
public import proofs.«01_k».proof.Proof.PrefixIdeal
public import proofs.«01_k».proof.Proof.DecodeIdeal
public import proofs.«01_k».proof.Proof.ChunksIdeal

@[expose] public section

set_option maxRecDepth 16384

noncomputable section

namespace Cert.KernelIdeal.Hand

open Cert.KernelIdeal Cert.KernelIdeal.Gen Cert.ByContents
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The user algebra: the pipeline's own beside the transfers' counters. -/
local notation "𝕄" => MT nD τ sig Unit (Elt F) ℕ (Pipeline.UD sig nD τ) ℕ

section WholeRect

variable {s : Shape} {β : Type} (off : Fin s.rank → ℕ) (inb : ∀ a, off a + s.size a ≤ s.size a)

/-- The rectangle of a whole shape places every index at itself. -/
theorem emb_whole (ho : off = fun _ => 0) (X : s.Idx → β) (j : (Rect.unit (s := s) off s.size inb).shape.Idx) :
    X ((Rect.unit (s := s) off s.size inb).emb j) = X j :=
  congrArg X (funext fun a => Fin.ext ((unit_emb_val off s.size inb ho j a).trans (Nat.zero_add _)))

/-- A store over the whole shape leaves the payload. -/
theorem put_whole (ho : off = fun _ => 0) (X w : s.Idx → β) : put (Rect.unit (s := s) off s.size inb) X w = w := by
  funext y
  exact put_unit_in off s.size inb ho X w y y fun a => (Nat.zero_add _).symm

end WholeRect

theorem zero2 : (![0, 0] : Fin 2 → ℕ) = fun _ => 0 := by funext a; fin_cases a <;> rfl

/-- The mask words stored over zeros: the first 112 lanes are the operand's. -/
theorem put_word (MASK : Vec F S1920x112 .i32) :
    put (Rect.unit (s := S1920x128) ![0, 0] S1920x112.size inb_S1920x128_S1920x112_0_0) (k0_pay6 : Vec F S1920x128 .i32) (k0_pay7 MASK)
      = word (F := F) MASK := by
  funext y
  obtain ⟨t, l, rfl⟩ : ∃ (t : Fin 1920) (l : Fin 128), y = ix2 t l := ⟨y 0, y 1, eq_ix2 y⟩
  by_cases h : l.val < 112
  · have hin := put_unit_in (s := S1920x128) ![0, 0] S1920x112.size inb_S1920x128_S1920x112_0_0 zero2 (k0_pay6 : Vec F S1920x128 .i32) (k0_pay7 MASK)
      (ix2 t l) (ix2 t (⟨l.val, h⟩ : Fin 112)) (by intro a; fin_cases a <;> exact (Nat.zero_add _).symm)
    refine hin.trans ?_
    show _ = dite (l.val < 112) (fun h => k0_pay7 MASK (ix2 t (⟨l.val, h⟩ : Fin 112))) (fun _ => (k0_pay6 : Vec F S1920x128 .i32) (ix2 t l))
    rw [dif_pos h]
  · have hout := put_unit_out (s := S1920x128) ![0, 0] S1920x112.size inb_S1920x128_S1920x112_0_0 zero2 (k0_pay6 : Vec F S1920x128 .i32) (k0_pay7 MASK)
      (ix2 t l) (1 : Fin 2) (Or.inr (by show 0 + 112 ≤ l.val; omega))
    refine hout.trans ?_
    show _ = dite (l.val < 112) (fun h => k0_pay7 MASK (ix2 t (⟨l.val, h⟩ : Fin 112))) (fun _ => (k0_pay6 : Vec F S1920x128 .i32) (ix2 t l))
    rw [dif_neg h]

variable (𝒱 : Variants) (c : Dev nD) (bd : Option 𝒱.V) (i : grid0.Coords)
variable (arg2 : Memref sig .tc .smem S1920 .i32)
  (harg2 : arg2.IsWhole)
  (arg3 : Memref sig .tc .vmem S1920x112 .i32)
  (harg3 : arg3.IsWhole)
  (arg4 : Memref sig .tc .vmem S13440x128 .i8)
  (harg4 : arg4.IsWhole)
  (arg5 : Memref sig .tc .vmem S1920x128 .f32)
  (harg5 : arg5.IsWhole)
  (arg6 : Memref sig .tc .vmem S1920x128 .f32)
  (harg6 : arg6.IsWhole)
  (arg7 : Memref sig .tc .hbm S1920x18944 .fp8e5m2)
  (harg7 : arg7.IsWhole)
  (arg8 : Memref sig .tc .vmem S256x512 .f32)
  (harg8 : arg8.IsWhole)
  (arg9 : Memref sig .tc .vmem S1920x256 .bf16)
  (harg9 : arg9.IsWhole)
  (arg10 : Memref sig .tc .vmem S1920x18944 .fp8e5m2)
  (harg10 : arg10.IsWhole)
  (arg11 : Memref sig .tc .vmem S3360x128 .i32)
  (harg11 : arg11.IsWhole)
  (arg12 : Memref sig .tc .vmem S3x1920x128 .i32)
  (harg12 : arg12.IsWhole)
  (arg13 : Memref sig .tc .vmem S1920x128 .i32)
  (harg13 : arg13.IsWhole)
  (arg14 : Memref sig .tc .vmem S1920x128 .i32)
  (harg14 : arg14.IsWhole)
  (arg15 : Memref sig .tc .vmem S1920x256 .bf16)
  (harg15 : arg15.IsWhole)
  (arg16 : DmaSems sig S37)
variable (CNT : Vec F S1920 .i32) (MASK : Vec F S1920x112 .i32) (VAL : Vec F S13440x128 .i8) (SX SR : Vec F S1920x128 .f32)
variable (DY : Vec F S1920x18944 .fp8e5m2)

/-- The operands, whole and unchanged. -/
def Ops : sProp (MT nD τ sig Unit (Elt F) ℕ (Pipeline.UD sig nD τ) ℕ) :=
  iprop(owns (c : Thread nD τ) arg2 fullShare CNT ∗ owns (c : Thread nD τ) arg3 fullShare MASK ∗ owns (c : Thread nD τ) arg4 fullShare VAL
    ∗ owns (c : Thread nD τ) arg5 fullShare SX ∗ owns (c : Thread nD τ) arg6 fullShare SR)
/-- The scratch before the first point: anything. -/
def Fresh : sProp (MT nD τ sig Unit (Elt F) ℕ (Pipeline.UD sig nD τ) ℕ) :=
  iprop((∃ f, owns (c : Thread nD τ) arg11 fullShare f) ∗ (∃ f, owns (c : Thread nD τ) arg12 fullShare f)
    ∗ (∃ f, owns (c : Thread nD τ) arg13 fullShare f) ∗ (∃ f, owns (c : Thread nD τ) arg14 fullShare f)
    ∗ (∃ f, owns (c : Thread nD τ) arg15 fullShare f))
/-- The scratch after a point of column group `a`: the windows, the offsets, the mask words, the rescaled tokens of the group. -/
def Held (a : BitVec 32) : sProp (MT nD τ sig Unit (Elt F) ℕ (Pipeline.UD sig nD τ) ℕ) :=
  iprop((∃ f, owns (c : Thread nD τ) arg11 fullShare f) ∗ owns (c : Thread nD τ) arg12 fullShare (win CNT VAL)
    ∗ owns (c : Thread nD τ) arg13 fullShare (off1 (F := F) CNT MASK) ∗ owns (c : Thread nD τ) arg14 fullShare (word (F := F) MASK)
    ∗ owns (c : Thread nD τ) arg15 fullShare (xt CNT MASK VAL SX SR a))

/-- What every point ends with: the operands, its two results, the scratch held, the chunks up to its own arrived. -/
def After (a : BitVec 32) (n : Fin 37) (k : ℕ) : sProp (MT nD τ sig Unit (Elt F) ℕ (Pipeline.UD sig nD τ) ℕ) :=
  iprop(Ops c arg2 arg3 arg4 arg5 arg6 CNT MASK VAL SX SR
    ∗ owns (c : Thread nD τ) arg8 fullShare (k0_pay10 (xt CNT MASK VAL SX SR a) (dyChunk DY n.val n.isLt))
    ∗ owns (c : Thread nD τ) arg9 fullShare (xrec CNT MASK VAL SX a)
    ∗ Held c arg11 arg12 arg13 arg14 arg15 CNT MASK VAL SX SR a
    ∗ bigSep Finset.univ (mix k (Landed (F := F) c arg7 arg10 arg16 DY) (Flying (F := F) c arg7 arg10 arg16 DY))
    ∗ (∃ W', owes (c : Thread nD τ) 0 W'))

section

variable {M : Type} [URA M]

theorem mix_start (A B : Fin 37 → sProp M) (k : ℕ) (hk : k = 0) : bigSep Finset.univ B ⊢ bigSep Finset.univ (mix k A B) := by
  subst hk; rw [mix_zero A B]

/-- Once all have passed, any one may be taken and put back. -/
theorem landed_at (A B : Fin 37 → sProp M) (n : Fin 37) (k : ℕ) (hk : 37 ≤ k) :
    bigSep Finset.univ (mix k A B) ⊢ iprop(A n ∗ (A n -∗ bigSep Finset.univ (mix (k + 1) A B))) := by
  rw [mix_full A B k hk, mix_full A B (k + 1) (by omega), bigSep_at (Finset.mem_univ n) A]
  iintro ⟨HA, HR⟩
  isplitl [HA]; · iexact HA
  iintro HA
  isplitl [HA]; · iexact HA
  iexact HR

end

set_option maxHeartbeats 4000000 in
/-- The first point: the transfers started, the windows and offsets made, the first column group decoded, the first chunk waited for. -/
theorem body_first (n : Fin 37) (h1 : k0_cond1 i = 1#1) (h2 : k0_cond2 i = 1#1) (h3 : k0_cond3 i = 1#1)
    (ho16 : k0_off16 i = ![n.val]) (ho17 : k0_off17 i = ![0, 512 * n.val]) (ho18 : k0_off18 i = ![0, 512 * n.val]) (hn : n.val = 0)
    (W : Waits sig Unit) :
    iprop(Ops c arg2 arg3 arg4 arg5 arg6 CNT MASK VAL SX SR ∗ (∃ f, owns (c : Thread nD τ) arg8 fullShare f)
        ∗ (∃ f, owns (c : Thread nD τ) arg9 fullShare f) ∗ Fresh c arg11 arg12 arg13 arg14 arg15 ∗ bigSep Finset.univ (Free (F := F) c arg7 arg10 arg16 DY) ∗ owes (c : Thread nD τ) 0 W)
      ⊢ wp frame (wpE (defs₀ (F := F)) 𝒱 (c : Thread nD τ) bd) Set.univ (cc0_dropit_dw (F := F) i arg2 harg2 arg3 harg3 arg4 harg4 arg5 harg5 arg6 harg6 arg7 harg7 arg8 harg8 arg9 harg9 arg10 harg10 arg11 harg11 arg12 harg12 arg13 harg13 arg14 harg14 arg15 harg15 arg16)
          (fun _ => After c arg2 arg3 arg4 arg5 arg6 arg7 arg8 arg9 arg10 arg11 arg12 arg13 arg14 arg15 arg16 CNT MASK VAL SX SR DY
            (BitVec.ofNat 32 (i 0).val) n (n.val + 1)) := by
  rw [cc0_dropit_dw_eq_skeleton]
  unfold cc0_dropit_dw_skel
  dsimp -proj only
  rw [dif_pos h1, dif_pos h2, dif_pos h3]
  unfold After Ops Held
  iintro ⟨⟨H2, H3, H4, H5, H6⟩, ⟨%f8, H8⟩, H9, HS, HC, HW⟩
  unfold Fresh
  icases HS with ⟨⟨%f11, H11⟩, H12, H13, ⟨%f14, H14⟩, H15⟩
  iapply (loop1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 DY h1) $$ HC
  iintro %_ HC
  iapply (loadAs 𝒱 (c : Thread nD τ) bd Set.univ (VAL) (emb_whole _ _ zero2 (VAL))) $$ H4
  iintro H4
  iapply (loadAs 𝒱 (c : Thread nD τ) bd Set.univ (f11) (emb_whole _ _ zero2 (f11))) $$ H11
  iintro H11
  iapply (store 𝒱 (c : Thread nD τ) bd Set.univ) $$ H11
  iintro H11
  rw [put_whole _ _ zero2]
  iapply (loop2 𝒱 c bd Set.univ i arg2 harg2 arg3 harg3 arg4 harg4 arg5 harg5 arg6 harg6 arg7 harg7 arg8 harg8 arg9 harg9 arg10 harg10 arg11 harg11 arg12 harg12 arg13 harg13 arg14 harg14 arg15 harg15 arg16 CNT VAL h1) $$ [H2 H11 H12 H13]
  · isplitl [H2]; · iexact H2
    isplitl [H11]; · iexact H11
    isplitl [H12]; · iexact H12
    iexact H13
  iintro %_ ⟨H2, H11, H12, H13⟩
  iapply (loadAs 𝒱 (c : Thread nD τ) bd Set.univ (f14) (emb_whole _ _ zero2 (f14))) $$ H14
  iintro H14
  iapply (store 𝒱 (c : Thread nD τ) bd Set.univ) $$ H14
  iintro H14
  rw [put_whole _ _ zero2]
  iapply (loadAs 𝒱 (c : Thread nD τ) bd Set.univ (MASK) (emb_whole _ _ zero2 (MASK))) $$ H3
  iintro H3
  iapply (load 𝒱 (c : Thread nD τ) bd Set.univ) $$ H14
  iintro H14
  iapply (store 𝒱 (c : Thread nD τ) bd Set.univ) $$ H14
  iintro H14
  rw [put_word]
  iapply (loop3 𝒱 c bd Set.univ i arg2 harg2 arg3 harg3 arg4 harg4 arg5 harg5 arg6 harg6 arg7 harg7 arg8 harg8 arg9 harg9 arg10 harg10 arg11 harg11 arg12 harg12 arg13 harg13 arg14 harg14 arg15 harg15 arg16 (word MASK) (off0 CNT) h1) $$ [H13 H14]
  · isplitl [H14]; · iexact H14
    iexact H13
  iintro %_ ⟨H14, H13⟩
  iapply (loop4 𝒱 c bd Set.univ i arg2 harg2 arg3 harg3 arg4 harg4 arg5 harg5 arg6 harg6 arg7 harg7 arg8 harg8 arg9 harg9 arg10 harg10 arg11 harg11 arg12 harg12 arg13 harg13 arg14 harg14 arg15 harg15 arg16 (word MASK) (off1 CNT MASK) (win CNT VAL) SX SR (BitVec.ofNat 32 (i 0).val) h2) $$ [H5 H6 H9 H12 H13 H14 H15]
  · isplitl [H5]; · iexact H5
    isplitl [H6]; · iexact H6
    isplitl [H12]; · iexact H12
    isplitl [H13]; · iexact H13
    isplitl [H14]; · iexact H14
    isplitl [H9]; · iexact H9
    iexact H15
  iintro %_ ⟨H5, H6, H12, H13, H14, H9, H15⟩
  ihave HC := (mix_start (Landed (F := F) c arg7 arg10 arg16 DY) (Flying (F := F) c arg7 arg10 arg16 DY) n.val hn) $$ HC
  ihave HC := (mix_step (Landed (F := F) c arg7 arg10 arg16 DY) (Flying (F := F) c arg7 arg10 arg16 DY) n) $$ HC
  icases HC with ⟨HF, HR⟩
  iapply (waitChunk 𝒱 c bd n (k0_off17 i) _ ho17 (k0_off16 i) _ ho16) $$ [HF HW]
  · isplitl [HF]; · iexact HF
    iexact HW
  iintro ⟨HL, HW⟩
  iapply (loadAs 𝒱 (c : Thread nD τ) bd Set.univ (xt CNT MASK VAL SX SR (BitVec.ofNat 32 (i 0).val)) (emb_whole _ _ zero2 (xt CNT MASK VAL SX SR (BitVec.ofNat 32 (i 0).val)))) $$ H15
  iintro H15
  iapply (loadChunk 𝒱 c bd n (k0_off18 i) _ ho18) $$ HL
  iintro HL
  iapply (loadAs 𝒱 (c : Thread nD τ) bd Set.univ (f8) (emb_whole _ _ zero2 (f8))) $$ H8
  iintro H8
  iapply (store 𝒱 (c : Thread nD τ) bd Set.univ) $$ H8
  iintro H8
  rw [put_whole _ _ zero2]
  iapply (done 𝒱 (c : Thread nD τ) bd Set.univ)
  isplitl [H2 H3 H4 H5 H6]
  · isplitl [H2]; · iexact H2
    isplitl [H3]; · iexact H3
    isplitl [H4]; · iexact H4
    isplitl [H5]; · iexact H5
    iexact H6
  isplitl [H8]; · iexact H8
  isplitl [H9]; · iexact H9
  isplitl [H11 H12 H13 H14 H15]
  · isplitl [H11]
    · iexists _; iexact H11
    isplitl [H12]; · iexact H12
    isplitl [H13]; · iexact H13
    isplitl [H14]; · iexact H14
    iexact H15
  isplitl [HL HR]
  · iapply HR; iexact HL
  iexact HW

set_option maxHeartbeats 4000000 in
/-- A later point of the first column group: its chunk waited for. -/
theorem body_early (n : Fin 37) (h1 : ¬ k0_cond1 i = 1#1) (h2 : ¬ k0_cond2 i = 1#1) (h3 : k0_cond3 i = 1#1)
    (ho16 : k0_off16 i = ![n.val]) (ho17 : k0_off17 i = ![0, 512 * n.val]) (ho18 : k0_off18 i = ![0, 512 * n.val])
    (W : Waits sig Unit) :
    iprop(Ops c arg2 arg3 arg4 arg5 arg6 CNT MASK VAL SX SR ∗ (∃ f, owns (c : Thread nD τ) arg8 fullShare f)
        ∗ owns (c : Thread nD τ) arg9 fullShare (xrec CNT MASK VAL SX (BitVec.ofNat 32 (i 0).val)) ∗ Held c arg11 arg12 arg13 arg14 arg15 CNT MASK VAL SX SR (BitVec.ofNat 32 (i 0).val) ∗ bigSep Finset.univ (mix n.val (Landed (F := F) c arg7 arg10 arg16 DY) (Flying (F := F) c arg7 arg10 arg16 DY)) ∗ owes (c : Thread nD τ) 0 W)
      ⊢ wp frame (wpE (defs₀ (F := F)) 𝒱 (c : Thread nD τ) bd) Set.univ (cc0_dropit_dw (F := F) i arg2 harg2 arg3 harg3 arg4 harg4 arg5 harg5 arg6 harg6 arg7 harg7 arg8 harg8 arg9 harg9 arg10 harg10 arg11 harg11 arg12 harg12 arg13 harg13 arg14 harg14 arg15 harg15 arg16)
          (fun _ => After c arg2 arg3 arg4 arg5 arg6 arg7 arg8 arg9 arg10 arg11 arg12 arg13 arg14 arg15 arg16 CNT MASK VAL SX SR DY
            (BitVec.ofNat 32 (i 0).val) n (n.val + 1)) := by
  rw [cc0_dropit_dw_eq_skeleton]
  unfold cc0_dropit_dw_skel
  dsimp -proj only
  rw [dif_neg h1, dif_neg h2, dif_pos h3]
  unfold After Ops Held
  iintro ⟨⟨H2, H3, H4, H5, H6⟩, ⟨%f8, H8⟩, H9, HS, HC, HW⟩
  icases HS with ⟨⟨%f11, H11⟩, H12, H13, H14, H15⟩
  ihave HC := (mix_step (Landed (F := F) c arg7 arg10 arg16 DY) (Flying (F := F) c arg7 arg10 arg16 DY) n) $$ HC
  icases HC with ⟨HF, HR⟩
  iapply (waitChunk 𝒱 c bd n (k0_off17 i) _ ho17 (k0_off16 i) _ ho16) $$ [HF HW]
  · isplitl [HF]; · iexact HF
    iexact HW
  iintro ⟨HL, HW⟩
  iapply (loadAs 𝒱 (c : Thread nD τ) bd Set.univ (xt CNT MASK VAL SX SR (BitVec.ofNat 32 (i 0).val)) (emb_whole _ _ zero2 (xt CNT MASK VAL SX SR (BitVec.ofNat 32 (i 0).val)))) $$ H15
  iintro H15
  iapply (loadChunk 𝒱 c bd n (k0_off18 i) _ ho18) $$ HL
  iintro HL
  iapply (loadAs 𝒱 (c : Thread nD τ) bd Set.univ (f8) (emb_whole _ _ zero2 (f8))) $$ H8
  iintro H8
  iapply (store 𝒱 (c : Thread nD τ) bd Set.univ) $$ H8
  iintro H8
  rw [put_whole _ _ zero2]
  iapply (done 𝒱 (c : Thread nD τ) bd Set.univ)
  isplitl [H2 H3 H4 H5 H6]
  · isplitl [H2]; · iexact H2
    isplitl [H3]; · iexact H3
    isplitl [H4]; · iexact H4
    isplitl [H5]; · iexact H5
    iexact H6
  isplitl [H8]; · iexact H8
  isplitl [H9]; · iexact H9
  isplitl [H11 H12 H13 H14 H15]
  · isplitl [H11]
    · iexists _; iexact H11
    isplitl [H12]; · iexact H12
    isplitl [H13]; · iexact H13
    isplitl [H14]; · iexact H14
    iexact H15
  isplitl [HL HR]
  · iapply HR; iexact HL
  iexact HW

set_option maxHeartbeats 4000000 in
/-- The first point of a later column group: the group decoded. -/
theorem body_group (n : Fin 37) (h1 : ¬ k0_cond1 i = 1#1) (h2 : k0_cond2 i = 1#1) (h3 : ¬ k0_cond3 i = 1#1)
    (ho16 : k0_off16 i = ![n.val]) (ho17 : k0_off17 i = ![0, 512 * n.val]) (ho18 : k0_off18 i = ![0, 512 * n.val]) (k : ℕ) (hk : 37 ≤ k) (a : BitVec 32)
    (W : Waits sig Unit) :
    iprop(Ops c arg2 arg3 arg4 arg5 arg6 CNT MASK VAL SX SR ∗ (∃ f, owns (c : Thread nD τ) arg8 fullShare f)
        ∗ (∃ f, owns (c : Thread nD τ) arg9 fullShare f) ∗ Held c arg11 arg12 arg13 arg14 arg15 CNT MASK VAL SX SR a ∗ bigSep Finset.univ (mix k (Landed (F := F) c arg7 arg10 arg16 DY) (Flying (F := F) c arg7 arg10 arg16 DY)) ∗ owes (c : Thread nD τ) 0 W)
      ⊢ wp frame (wpE (defs₀ (F := F)) 𝒱 (c : Thread nD τ) bd) Set.univ (cc0_dropit_dw (F := F) i arg2 harg2 arg3 harg3 arg4 harg4 arg5 harg5 arg6 harg6 arg7 harg7 arg8 harg8 arg9 harg9 arg10 harg10 arg11 harg11 arg12 harg12 arg13 harg13 arg14 harg14 arg15 harg15 arg16)
          (fun _ => After c arg2 arg3 arg4 arg5 arg6 arg7 arg8 arg9 arg10 arg11 arg12 arg13 arg14 arg15 arg16 CNT MASK VAL SX SR DY
            (BitVec.ofNat 32 (i 0).val) n (k + 1)) := by
  rw [cc0_dropit_dw_eq_skeleton]
  unfold cc0_dropit_dw_skel
  dsimp -proj only
  rw [dif_neg h1, dif_pos h2, dif_neg h3]
  unfold After Ops Held
  iintro ⟨⟨H2, H3, H4, H5, H6⟩, ⟨%f8, H8⟩, H9, HS, HC, HW⟩
  icases HS with ⟨⟨%f11, H11⟩, H12, H13, H14, H15⟩
  ihave H15 : (∃ f, owns (c : Thread nD τ) arg15 fullShare f) $$ [H15]
  · iexists _; iexact H15
  iapply (loop4 𝒱 c bd Set.univ i arg2 harg2 arg3 harg3 arg4 harg4 arg5 harg5 arg6 harg6 arg7 harg7 arg8 harg8 arg9 harg9 arg10 harg10 arg11 harg11 arg12 harg12 arg13 harg13 arg14 harg14 arg15 harg15 arg16 (word MASK) (off1 CNT MASK) (win CNT VAL) SX SR (BitVec.ofNat 32 (i 0).val) h2) $$ [H5 H6 H9 H12 H13 H14 H15]
  · isplitl [H5]; · iexact H5
    isplitl [H6]; · iexact H6
    isplitl [H12]; · iexact H12
    isplitl [H13]; · iexact H13
    isplitl [H14]; · iexact H14
    isplitl [H9]; · iexact H9
    iexact H15
  iintro %_ ⟨H5, H6, H12, H13, H14, H9, H15⟩
  ihave HC := (landed_at (Landed (F := F) c arg7 arg10 arg16 DY) (Flying (F := F) c arg7 arg10 arg16 DY) n k hk) $$ HC
  icases HC with ⟨HL, HR⟩
  iapply (loadAs 𝒱 (c : Thread nD τ) bd Set.univ (xt CNT MASK VAL SX SR (BitVec.ofNat 32 (i 0).val)) (emb_whole _ _ zero2 (xt CNT MASK VAL SX SR (BitVec.ofNat 32 (i 0).val)))) $$ H15
  iintro H15
  iapply (loadChunk 𝒱 c bd n (k0_off18 i) _ ho18) $$ HL
  iintro HL
  iapply (loadAs 𝒱 (c : Thread nD τ) bd Set.univ (f8) (emb_whole _ _ zero2 (f8))) $$ H8
  iintro H8
  iapply (store 𝒱 (c : Thread nD τ) bd Set.univ) $$ H8
  iintro H8
  rw [put_whole _ _ zero2]
  iapply (done 𝒱 (c : Thread nD τ) bd Set.univ)
  isplitl [H2 H3 H4 H5 H6]
  · isplitl [H2]; · iexact H2
    isplitl [H3]; · iexact H3
    isplitl [H4]; · iexact H4
    isplitl [H5]; · iexact H5
    iexact H6
  isplitl [H8]; · iexact H8
  isplitl [H9]; · iexact H9
  isplitl [H11 H12 H13 H14 H15]
  · isplitl [H11]
    · iexists _; iexact H11
    isplitl [H12]; · iexact H12
    isplitl [H13]; · iexact H13
    isplitl [H14]; · iexact H14
    iexact H15
  isplitl [HL HR]
  · iapply HR; iexact HL
  iexists _; iexact HW

set_option maxHeartbeats 4000000 in
/-- A point between: the product alone. -/
theorem body_rest (n : Fin 37) (h1 : ¬ k0_cond1 i = 1#1) (h2 : ¬ k0_cond2 i = 1#1) (h3 : ¬ k0_cond3 i = 1#1)
    (ho16 : k0_off16 i = ![n.val]) (ho17 : k0_off17 i = ![0, 512 * n.val]) (ho18 : k0_off18 i = ![0, 512 * n.val]) (k : ℕ) (hk : 37 ≤ k)
    (W : Waits sig Unit) :
    iprop(Ops c arg2 arg3 arg4 arg5 arg6 CNT MASK VAL SX SR ∗ (∃ f, owns (c : Thread nD τ) arg8 fullShare f)
        ∗ owns (c : Thread nD τ) arg9 fullShare (xrec CNT MASK VAL SX (BitVec.ofNat 32 (i 0).val)) ∗ Held c arg11 arg12 arg13 arg14 arg15 CNT MASK VAL SX SR (BitVec.ofNat 32 (i 0).val) ∗ bigSep Finset.univ (mix k (Landed (F := F) c arg7 arg10 arg16 DY) (Flying (F := F) c arg7 arg10 arg16 DY)) ∗ owes (c : Thread nD τ) 0 W)
      ⊢ wp frame (wpE (defs₀ (F := F)) 𝒱 (c : Thread nD τ) bd) Set.univ (cc0_dropit_dw (F := F) i arg2 harg2 arg3 harg3 arg4 harg4 arg5 harg5 arg6 harg6 arg7 harg7 arg8 harg8 arg9 harg9 arg10 harg10 arg11 harg11 arg12 harg12 arg13 harg13 arg14 harg14 arg15 harg15 arg16)
          (fun _ => After c arg2 arg3 arg4 arg5 arg6 arg7 arg8 arg9 arg10 arg11 arg12 arg13 arg14 arg15 arg16 CNT MASK VAL SX SR DY
            (BitVec.ofNat 32 (i 0).val) n (k + 1)) := by
  rw [cc0_dropit_dw_eq_skeleton]
  unfold cc0_dropit_dw_skel
  dsimp -proj only
  rw [dif_neg h1, dif_neg h2, dif_neg h3]
  unfold After Ops Held
  iintro ⟨⟨H2, H3, H4, H5, H6⟩, ⟨%f8, H8⟩, H9, HS, HC, HW⟩
  icases HS with ⟨⟨%f11, H11⟩, H12, H13, H14, H15⟩
  ihave HC := (landed_at (Landed (F := F) c arg7 arg10 arg16 DY) (Flying (F := F) c arg7 arg10 arg16 DY) n k hk) $$ HC
  icases HC with ⟨HL, HR⟩
  iapply (loadAs 𝒱 (c : Thread nD τ) bd Set.univ (xt CNT MASK VAL SX SR (BitVec.ofNat 32 (i 0).val)) (emb_whole _ _ zero2 (xt CNT MASK VAL SX SR (BitVec.ofNat 32 (i 0).val)))) $$ H15
  iintro H15
  iapply (loadChunk 𝒱 c bd n (k0_off18 i) _ ho18) $$ HL
  iintro HL
  iapply (loadAs 𝒱 (c : Thread nD τ) bd Set.univ (f8) (emb_whole _ _ zero2 (f8))) $$ H8
  iintro H8
  iapply (store 𝒱 (c : Thread nD τ) bd Set.univ) $$ H8
  iintro H8
  rw [put_whole _ _ zero2]
  iapply (done 𝒱 (c : Thread nD τ) bd Set.univ)
  isplitl [H2 H3 H4 H5 H6]
  · isplitl [H2]; · iexact H2
    isplitl [H3]; · iexact H3
    isplitl [H4]; · iexact H4
    isplitl [H5]; · iexact H5
    iexact H6
  isplitl [H8]; · iexact H8
  isplitl [H9]; · iexact H9
  isplitl [H11 H12 H13 H14 H15]
  · isplitl [H11]
    · iexists _; iexact H11
    isplitl [H12]; · iexact H12
    isplitl [H13]; · iexact H13
    isplitl [H14]; · iexact H14
    iexact H15
  isplitl [HL HR]
  · iapply HR; iexact HL
  iexists _; iexact HW

end Cert.KernelIdeal.Hand

end
-- ==== Proof.LaunchIdeal.lean ====
/-
  The launch: the host operations before the region, the windows' blocks, what every point finds and leaves, and the run.
  Every point leaves in window 5 one block of the weight gradient and in window 6 its column group of the reconstruction;
  between points the kernel's scratch holds the decoded state of `Held` and the chunks of the gradient that have arrived.
-/
module

public import proofs.«01_k».proof.Proof.BodyIdeal
public import proofs.«01_k».proof.Proof.Gen.KernelIdeal.Frame
public import Idealize.ShloMosaic.Lib.Pipeline.TableIdle
public import Idealize.ShloMosaic.Lib.Pipeline.ValueKit

@[expose] public section

set_option maxRecDepth 16384

noncomputable section

namespace Cert.KernelIdeal.Hand

open Cert.KernelIdeal Cert.KernelIdeal.Gen Cert.ByContents
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The user algebra: the pipeline's own beside the transfers' counters. -/
local notation "𝕄" => MT nD τ sig Unit (Elt F) ℕ (Pipeline.UD sig nD τ) ℕ

variable (m : (ℓ : Loc nD τ sig) → Buf (Elt F) ℓ) (ρ : Dev nD → PrngReg)

/-! ## Entering the region, and the frame read off a run -/

set_option maxHeartbeats 800000 in
/-- The program up to the region, at this algebra. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The operands the kernel body finds -/

/-- Codes per token. -/
abbrev CNT (c : Dev nD) : Vec F S1920 .i32 := V m c main_v8
/-- Mask words per token. -/
abbrev MASK (c : Dev nD) : Vec F S1920x112 .i32 := V m c main_v1
/-- The packed codes. -/
abbrev VAL (c : Dev nD) : Vec F S13440x128 .i8 := V m c main_v2
/-- The codes' scales. -/
abbrev SX (c : Dev nD) : Vec F S1920x128 .f32 := V m c main_v4
/-- The gradient's scales. -/
abbrev SR (c : Dev nD) : Vec F S1920x128 .f32 := V m c main_v6
/-- The quantized gradient. -/
abbrev DY (c : Dev nD) : Vec F S1920x18944 .fp8e5m2 := V m c main_v7

theorem idx_0_0 : ∀ t : Fin cfg0.N, win0_0.index t 0 = 0 := fun _ => rfl
theorem iblk_0 (c : Dev nD) (t : Fin cfg0.N) : iblk m c 0 t = CNT m c := by
  funext y; blk_ext [iblk, idx_0_0]
theorem idx_1_0 : ∀ t : Fin cfg0.N, win0_1.index t 0 = 0 := fun _ => rfl
theorem idx_1_1 : ∀ t : Fin cfg0.N, win0_1.index t 1 = 0 := fun _ => rfl
theorem iblk_1 (c : Dev nD) (t : Fin cfg0.N) : iblk m c 1 t = MASK m c := by
  funext y; blk_ext [iblk, idx_1_0, idx_1_1]
theorem idx_2_0 : ∀ t : Fin cfg0.N, win0_2.index t 0 = 0 := fun _ => rfl
theorem idx_2_1 : ∀ t : Fin cfg0.N, win0_2.index t 1 = 0 := fun _ => rfl
theorem iblk_2 (c : Dev nD) (t : Fin cfg0.N) : iblk m c 2 t = VAL m c := by
  funext y; blk_ext [iblk, idx_2_0, idx_2_1]
theorem idx_3_0 : ∀ t : Fin cfg0.N, win0_3.index t 0 = 0 := fun _ => rfl
theorem idx_3_1 : ∀ t : Fin cfg0.N, win0_3.index t 1 = 0 := fun _ => rfl
theorem iblk_3 (c : Dev nD) (t : Fin cfg0.N) : iblk m c 3 t = SX m c := by
  funext y; blk_ext [iblk, idx_3_0, idx_3_1]
theorem idx_4_0 : ∀ t : Fin cfg0.N, win0_4.index t 0 = 0 := fun _ => rfl
theorem idx_4_1 : ∀ t : Fin cfg0.N, win0_4.index t 1 = 0 := fun _ => rfl
theorem iblk_4 (c : Dev nD) (t : Fin cfg0.N) : iblk m c 4 t = SR m c := by
  funext y; blk_ext [iblk, idx_4_0, idx_4_1]

/-! ## The points -/

/-- A point's column group, as the body reads it. -/
theorem coord_group : ∀ t : Fin grid0.N, (grid0.coords t 0).val = t.val / 37 := by decide +kernel
theorem coord_chunk : ∀ t : Fin grid0.N, (grid0.coords t 1).val = t.val % 37 := by decide +kernel
theorem cond1_iff : ∀ t : Fin grid0.N, k0_cond1 (grid0.coords t) = 1#1 ↔ t.val = 0 := by decide +kernel
theorem cond2_iff : ∀ t : Fin grid0.N, k0_cond2 (grid0.coords t) = 1#1 ↔ t.val % 37 = 0 := by decide +kernel
theorem cond3_iff : ∀ t : Fin grid0.N, k0_cond3 (grid0.coords t) = 1#1 ↔ t.val < 37 := by decide +kernel

/-- A point's chunk. -/
def chunkAt (t : Fin cfg0.N) : Fin 37 := ⟨t.val % 37, Nat.mod_lt _ (by omega)⟩
/-- A point's column group. -/
def groupAt (t : ℕ) : BitVec 32 := BitVec.ofNat 32 (t / 37)

theorem off16_at : ∀ t : Fin grid0.N, k0_off16 (grid0.coords t) 0 = t.val % 37 := by decide +kernel
theorem off17_at : ∀ t : Fin grid0.N, k0_off17 (grid0.coords t) 0 = 0 ∧ k0_off17 (grid0.coords t) 1 = 512 * (t.val % 37) := by decide +kernel
theorem off18_at : ∀ t : Fin grid0.N, k0_off18 (grid0.coords t) 0 = 0 ∧ k0_off18 (grid0.coords t) 1 = 512 * (t.val % 37) := by decide +kernel

theorem ho16 (t : Fin cfg0.N) : k0_off16 (grid0.coords t) = ![(chunkAt t).val] := by
  funext a; fin_cases a; exact off16_at t
theorem ho17 (t : Fin cfg0.N) : k0_off17 (grid0.coords t) = ![0, 512 * (chunkAt t).val] := by
  funext a; fin_cases a
  · exact (off17_at t).1
  · exact (off17_at t).2
theorem ho18 (t : Fin cfg0.N) : k0_off18 (grid0.coords t) = ![0, 512 * (chunkAt t).val] := by
  funext a; fin_cases a
  · exact (off18_at t).1
  · exact (off18_at t).2

/-! ## The proof data -/

abbrev sc0 : Memref sig .tc .vmem S1920x18944 .fp8e5m2 := Memref.whole cc0_scratch0
abbrev sc1 : Memref sig .tc .vmem S3360x128 .i32 := Memref.whole cc0_scratch1
abbrev sc2 : Memref sig .tc .vmem S3x1920x128 .i32 := Memref.whole cc0_scratch2
abbrev sc3 : Memref sig .tc .vmem S1920x128 .i32 := Memref.whole cc0_scratch3
abbrev sc4 : Memref sig .tc .vmem S1920x128 .i32 := Memref.whole cc0_scratch4
abbrev sc5 : Memref sig .tc .vmem S1920x256 .bf16 := Memref.whole cc0_scratch5
abbrev hb7 : Memref sig .tc .hbm S1920x18944 .fp8e5m2 := Memref.whole main_v7

/-- The transfers' semaphores, one to a chunk. -/
abbrev osem0 : Fin 37 → SemLoc sig := fun n => SemLoc.dma (cell cc0_scratch6 n)
theorem ownSemFacts0 : Pipeline.OwnSemFacts spec0 osem0 := by decide
/-- The operand left in HBM. -/
def H0 : Finset (Ref sig .tc) := {main_v7}
theorem H0_sub : H0 ⊆ Pipeline.restRefs sig spec0 := by decide

/-- What the kernel holds of its own after `k` points. -/
def held (c : Dev nD) (k : ℕ) : sProp (MT nD τ sig Unit (Elt F) ℕ (Pipeline.UD sig nD τ) ℕ) :=
  if k = 0 then
    iprop(Fresh c sc1 sc2 sc3 sc4 sc5 ∗ bigSep Finset.univ (Free (F := F) c hb7 sc0 cc0_scratch6 (DY m c)))
  else
    iprop(Held c sc1 sc2 sc3 sc4 sc5 (CNT m c) (MASK m c) (VAL m c) (SX m c) (SR m c) (groupAt (k - 1))
      ∗ bigSep Finset.univ (mix k (Landed (F := F) c hb7 sc0 cc0_scratch6 (DY m c)) (Flying (F := F) c hb7 sc0 cc0_scratch6 (DY m c))))

/-- The block of the weight gradient a point computes. -/
def dwAt (c : Dev nD) (t : Fin cfg0.N) : Vec F S256x512 .f32 :=
  k0_pay10 (xt (CNT m c) (MASK m c) (VAL m c) (SX m c) (SR m c) (groupAt t.val)) (dyChunk (DY m c) (chunkAt t).val (chunkAt t).isLt)
/-- The column group of the reconstruction a point has computed. -/
def xrAt (c : Dev nD) (t : Fin cfg0.N) : Vec F S1920x256 .bf16 :=
  xrec (CNT m c) (MASK m c) (VAL m c) (SX m c) (groupAt t.val)

/-- The proof data: each input window's block is the whole operand; each output window's is the point's result. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dwAt m c t
    | ⟨6, _⟩ => xrAt m c t
  Φ t := iprop(held m c t.val ∗ (∃ r, prngReg c r))
  q _ := fullShare
  owed _ := 0

theorem A_eq (c : Dev nD) (w : Fin cfg0.W) : (dats m 0 c).A w = V m c (Pipeline.arrRef spec0 w) := by
  dsimp only [dats]
theorem after_5 (c : Dev nD) (t : Fin cfg0.N) : (dats m 0 c).after 5 t = dwAt m c t := by dsimp only [dats]
theorem after_6 (c : Dev nD) (t : Fin cfg0.N) : (dats m 0 c).after 6 t = xrAt m c t := by dsimp only [dats]
theorem before_0 (c : Dev nD) (t : Fin cfg0.N) (d) : (dats m 0 c).before 0 t d = CNT m c :=
  ((dats m 0 c).before_in_eq_fetched 0 rfl (fun _ => rfl) (fun _ _ _ => rfl) (fun t => by rw [show (dats m 0 c).after 0 t = iblk m c 0 t from by dsimp only [dats]]; unfold Dat.blockOf iblk; rw [A_eq]; try rfl) t d).trans
    ((by unfold Dat.fetched Dat.blockOf iblk; rw [A_eq]; try rfl : _ = iblk m c 0 t).trans (iblk_0 m c t))
theorem after_0 (c : Dev nD) (t : Fin cfg0.N) : (dats m 0 c).after 0 t = CNT m c := by
  rw [← iblk_0 m c t]; dsimp only [dats]
theorem before_1 (c : Dev nD) (t : Fin cfg0.N) (d) : (dats m 0 c).before 1 t d = MASK m c :=
  ((dats m 0 c).before_in_eq_fetched 1 rfl (fun _ => rfl) (fun _ _ _ => rfl) (fun t => by rw [show (dats m 0 c).after 1 t = iblk m c 1 t from by dsimp only [dats]]; unfold Dat.blockOf iblk; rw [A_eq]; try rfl) t d).trans
    ((by unfold Dat.fetched Dat.blockOf iblk; rw [A_eq]; try rfl : _ = iblk m c 1 t).trans (iblk_1 m c t))
theorem after_1 (c : Dev nD) (t : Fin cfg0.N) : (dats m 0 c).after 1 t = MASK m c := by
  rw [← iblk_1 m c t]; dsimp only [dats]
theorem before_2 (c : Dev nD) (t : Fin cfg0.N) (d) : (dats m 0 c).before 2 t d = VAL m c :=
  ((dats m 0 c).before_in_eq_fetched 2 rfl (fun _ => rfl) (fun _ _ _ => rfl) (fun t => by rw [show (dats m 0 c).after 2 t = iblk m c 2 t from by dsimp only [dats]]; unfold Dat.blockOf iblk; rw [A_eq]; try rfl) t d).trans
    ((by unfold Dat.fetched Dat.blockOf iblk; rw [A_eq]; try rfl : _ = iblk m c 2 t).trans (iblk_2 m c t))
theorem after_2 (c : Dev nD) (t : Fin cfg0.N) : (dats m 0 c).after 2 t = VAL m c := by
  rw [← iblk_2 m c t]; dsimp only [dats]
theorem before_3 (c : Dev nD) (t : Fin cfg0.N) (d) : (dats m 0 c).before 3 t d = SX m c :=
  ((dats m 0 c).before_in_eq_fetched 3 rfl (fun _ => rfl) (fun _ _ _ => rfl) (fun t => by rw [show (dats m 0 c).after 3 t = iblk m c 3 t from by dsimp only [dats]]; unfold Dat.blockOf iblk; rw [A_eq]; try rfl) t d).trans
    ((by unfold Dat.fetched Dat.blockOf iblk; rw [A_eq]; try rfl : _ = iblk m c 3 t).trans (iblk_3 m c t))
theorem after_3 (c : Dev nD) (t : Fin cfg0.N) : (dats m 0 c).after 3 t = SX m c := by
  rw [← iblk_3 m c t]; dsimp only [dats]
theorem before_4 (c : Dev nD) (t : Fin cfg0.N) (d) : (dats m 0 c).before 4 t d = SR m c :=
  ((dats m 0 c).before_in_eq_fetched 4 rfl (fun _ => rfl) (fun _ _ _ => rfl) (fun t => by rw [show (dats m 0 c).after 4 t = iblk m c 4 t from by dsimp only [dats]]; unfold Dat.blockOf iblk; rw [A_eq]; try rfl) t d).trans
    ((by unfold Dat.fetched Dat.blockOf iblk; rw [A_eq]; try rfl : _ = iblk m c 4 t).trans (iblk_4 m c t))
theorem after_4 (c : Dev nD) (t : Fin cfg0.N) : (dats m 0 c).after 4 t = SR m c := by
  rw [← iblk_4 m c t]; dsimp only [dats]

/-- The second result's buffer starts anew with each column group. -/
theorem fresh_6 (n : ℕ) (h : n ≤ cfg0.N) : cfg0.fresh 6 n = decide (n % 37 = 0) :=
  cfg0.fresh_tab 6 (fun n => decide (n % 37 = 0)) rfl (by decide +kernel) n h

theorem xrAt_pred (c : Dev nD) (t : Fin cfg0.N) (ht : t.val % 37 ≠ 0) (h : t.val - 1 < cfg0.N) : xrAt m c ⟨t.val - 1, h⟩ = xrAt m c t := by
  unfold xrAt groupAt
  rw [show (t.val - 1) / 37 = t.val / 37 by omega]

/-- Within a column group the second result's buffer still holds the group. -/
theorem before_6 (c : Dev nD) (t : Fin cfg0.N) (ht : t.val % 37 ≠ 0) (d) : (dats m 0 c).before 6 t d = xrAt m c t := by
  rw [(dats m 0 c).before_out_traj 6 rfl (fun _ _ => rfl) (fun t _ _ hf => by
      rw [fresh_6 _ (Nat.le_of_lt t.isLt)] at hf
      rw [after_6, after_6, xrAt_pred m c t (of_decide_eq_false hf)]) t.val t rfl d,
    fresh_6 _ (Nat.le_of_lt t.isLt), decide_eq_false ht, if_neg Bool.false_ne_true, after_6, xrAt_pred m c t ht]

/-! ## The body obligation -/

abbrev ops (c : Dev nD) (t : Fin cfg0.N) : sProp (MT nD τ sig Unit (Elt F) ℕ (Pipeline.UD sig nD τ) ℕ) :=
  Ops c (st0_0 t) (st0_1 t) (st0_2 t) (st0_3 t) (st0_4 t) (CNT m c) (MASK m c) (VAL m c) (SX m c) (SR m c)

def bodyPre (c : Dev nD) (t : Fin cfg0.N) : sProp (MT nD τ sig Unit (Elt F) ℕ (Pipeline.UD sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
/-- What is owed of the second result's buffer: at a point that neither stores nor writes it back, what was found. -/
def left6 (c : Dev nD) (t : Fin cfg0.N) : sProp (MT nD τ sig Unit (Elt F) ℕ (Pipeline.UD sig nD τ) ℕ) :=
  match cfg0.idle 6 (cfg0.grid.coords t) with
  | true =>
    match (cfg0.win 6).flush t with
    | false => iprop(∃ d, owns (c : Thread nD τ) (st0_6 t) fullShare ((dats m 0 c).before 6 t d))
    | true => owns (c : Thread nD τ) (st0_6 t) fullShare ((dats m 0 c).after 6 t)
  | false => owns (c : Thread nD τ) (st0_6 t) fullShare ((dats m 0 c).after 6 t)

theorem idle_6 : ∀ t : Fin cfg0.N, cfg0.idle 6 (cfg0.grid.coords t) = decide (t.val % 37 ≠ 0) := by decide +kernel

theorem left6_of (c : Dev nD) (t : Fin cfg0.N) : owns (c : Thread nD τ) (st0_6 t) fullShare (xrAt m c t) ⊢ left6 m c t := by
  unfold left6
  rw [idle_6]
  by_cases h : t.val % 37 = 0
  · rw [show decide (t.val % 37 ≠ 0) = false from decide_eq_false (not_not.mpr h)]
    show _ ⊢ owns (c : Thread nD τ) (st0_6 t) fullShare ((dats m 0 c).after 6 t)
    rw [after_6]
  · rw [show decide (t.val % 37 ≠ 0) = true from decide_eq_true h]
    cases (cfg0.win 6).flush t
    · show _ ⊢ iprop(∃ d, owns (c : Thread nD τ) (st0_6 t) fullShare ((dats m 0 c).before 6 t d))
      simp only [before_6 m c t h]
      iintro H
      iexists xrAt m c t
      iexact H
    · show _ ⊢ owns (c : Thread nD τ) (st0_6 t) fullShare ((dats m 0 c).after 6 t)
      rw [after_6]

def bodyPost (c : Dev nD) (t : Fin cfg0.N) : sProp (MT nD τ sig Unit (Elt F) ℕ (Pipeline.UD sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ left6 m c t)

/-- The obligation's precondition in the words of `Body`. -/
theorem pre_open (c : Dev nD) (t : Fin cfg0.N) :
    bodyPre m c t ⊢ iprop(held m c t.val ∗ (∃ r, prngReg c r) ∗ (∃ W, owes (c : Thread nD τ) 0 W) ∗ ops m c t
      ∗ (∃ f, owns (c : Thread nD τ) (st0_5 t) fullShare f) ∗ (∃ d, owns (c : Thread nD τ) (st0_6 t) fullShare ((dats m 0 c).before 6 t d))) := by
  unfold bodyPre ops Ops
  rw [show (dats m 0 c).Φ t.castSucc = iprop(held m c t.val ∗ (∃ r, prngReg c r)) from rfl]
  unfold Dat.owesAt Pipeline.owesWithin
  rw [show (dats m 0 c).owed t.castSucc = 0 from rfl]
  simp only [before_0, before_1, before_2, before_3, before_4]
  iintro ⟨⟨HK, Hg⟩, ⟨%W, -, HW⟩, ⟨%d0, H0⟩, ⟨%d1, H1⟩, ⟨%d2, H2⟩, ⟨%d3, H3⟩, ⟨%d4, H4⟩, ⟨%d5, H5⟩, ⟨%d6, H6⟩⟩
  isplitl [HK]; · iexact HK
  isplitl [Hg]; · iexact Hg
  isplitl [HW]; · iexists W; iexact HW
  isplitl [H0 H1 H2 H3 H4]
  · isplitl [H0]; · iexact H0
    isplitl [H1]; · iexact H1
    isplitl [H2]; · iexact H2
    isplitl [H3]; · iexact H3
    iexact H4
  isplitl [H5]; · iexists _; iexact H5
  iexists d6; iexact H6

/-- What a point leaves closes the obligation. -/
theorem post_close (c : Dev nD) (t : Fin cfg0.N) (n : Fin 37) (hn : n = chunkAt t) (a : BitVec 32) (ha : a = groupAt t.val) (k : ℕ) (hk : k = t.val) :
    iprop(After c (st0_0 t) (st0_1 t) (st0_2 t) (st0_3 t) (st0_4 t) hb7 (st0_5 t) (st0_6 t) sc0 sc1 sc2 sc3 sc4 sc5 cc0_scratch6
        (CNT m c) (MASK m c) (VAL m c) (SX m c) (SR m c) (DY m c) a n (k + 1) ∗ (∃ r, prngReg c r)) ⊢ bodyPost m c t := by
  subst hn ha hk
  unfold bodyPost After Ops
  rw [show (dats m 0 c).Φ t.succ = iprop(held m c (t.val + 1) ∗ (∃ r, prngReg c r)) from rfl]
  unfold Dat.owesAt Pipeline.owesWithin
  rw [show (dats m 0 c).owed t.succ = 0 from rfl, after_0, after_1, after_2, after_3, after_4, after_5]
  unfold held
  rw [if_neg (Nat.succ_ne_zero _), Nat.add_sub_cancel]
  unfold dwAt
  iintro ⟨⟨⟨H0, H1, H2, H3, H4⟩, H5, H6, HS, HC, ⟨%W', HW⟩⟩, Hg⟩
  isplitl [HS HC Hg]
  · isplitl [HS HC]
    · isplitl [HS]; · iexact HS
      iexact HC
    iexact Hg
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  iapply (left6_of m c t); unfold xrAt; iexact H6

theorem group_eq (t : Fin cfg0.N) : BitVec.ofNat 32 (grid0.coords t 0).val = groupAt t.val := by
  unfold groupAt; rw [coord_group]

set_option maxHeartbeats 1000000 in
/-- The first point. -/
theorem at_first (c : Dev nD) (t : Fin cfg0.N) (h : t.val = 0) (W : Waits sig Unit) :
    iprop(held m c t.val ∗ owes (c : Thread nD τ) 0 W ∗ ops m c t
      ∗ (∃ f, owns (c : Thread nD τ) (st0_5 t) fullShare f) ∗ (∃ d, owns (c : Thread nD τ) (st0_6 t) fullShare ((dats m 0 c).before 6 t d)))
    ⊢ wp frame (wpE (defs₀ (F := F)) Variants.none (c : Thread nD τ) none) Set.univ (bodyAt0 t) (fun _ => After c (st0_0 t) (st0_1 t) (st0_2 t) (st0_3 t) (st0_4 t) hb7 (st0_5 t) (st0_6 t) sc0 sc1 sc2 sc3 sc4 sc5 cc0_scratch6
        (CNT m c) (MASK m c) (VAL m c) (SX m c) (SR m c) (DY m c) (groupAt t.val) (chunkAt t) (t.val + 1)) := by
  have hn : (chunkAt t).val = 0 := by show t.val % 37 = 0; omega
  refine triple_restated (body_first Variants.none c none (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) hb7 (Memref.isWhole_whole _) (st0_5 t) (hstage0_5 ((cfg0.slots t 5).cast nbuf0_5)) (st0_6 t) (hstage0_6 ((cfg0.slots t 6).cast nbuf0_6)) sc0 (Memref.isWhole_whole _) sc1 (Memref.isWhole_whole _) sc2 (Memref.isWhole_whole _) sc3 (Memref.isWhole_whole _) sc4 (Memref.isWhole_whole _) sc5 (Memref.isWhole_whole _) cc0_scratch6 (CNT m c) (MASK m c) (VAL m c) (SX m c) (SR m c) (DY m c) (chunkAt t)
    ((cond1_iff t).mpr h) ((cond2_iff t).mpr (by rw [h])) ((cond3_iff t).mpr (by omega)) (ho16 t) (ho17 t) (ho18 t) hn W) rfl ?_ (fun _ => ?_)
  · unfold held; rw [if_pos h]
    iintro ⟨⟨HS, HC⟩, HW, HO, H5, ⟨%d6, H6⟩⟩
    isplitl [HO]; · iexact HO
    isplitl [H5]; · iexact H5
    isplitl [H6]; · iexists _; iexact H6
    isplitl [HS]; · iexact HS
    isplitl [HC]; · iexact HC
    iexact HW
  · rw [group_eq, hn, h]

set_option maxHeartbeats 1000000 in
/-- A later point of the first column group. -/
theorem at_early (c : Dev nD) (t : Fin cfg0.N) (h0 : t.val ≠ 0) (h : t.val < 37) (W : Waits sig Unit) :
    iprop(held m c t.val ∗ owes (c : Thread nD τ) 0 W ∗ ops m c t
      ∗ (∃ f, owns (c : Thread nD τ) (st0_5 t) fullShare f) ∗ (∃ d, owns (c : Thread nD τ) (st0_6 t) fullShare ((dats m 0 c).before 6 t d)))
    ⊢ wp frame (wpE (defs₀ (F := F)) Variants.none (c : Thread nD τ) none) Set.univ (bodyAt0 t) (fun _ => After c (st0_0 t) (st0_1 t) (st0_2 t) (st0_3 t) (st0_4 t) hb7 (st0_5 t) (st0_6 t) sc0 sc1 sc2 sc3 sc4 sc5 cc0_scratch6
        (CNT m c) (MASK m c) (VAL m c) (SX m c) (SR m c) (DY m c) (groupAt t.val) (chunkAt t) (t.val + 1)) := by
  have hm : t.val % 37 = t.val := Nat.mod_eq_of_lt h
  have hn : (chunkAt t).val = t.val := hm
  have hg : groupAt (t.val - 1) = groupAt t.val := by unfold groupAt; rw [show (t.val - 1) / 37 = t.val / 37 by omega]
  refine triple_restated (body_early Variants.none c none (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) hb7 (Memref.isWhole_whole _) (st0_5 t) (hstage0_5 ((cfg0.slots t 5).cast nbuf0_5)) (st0_6 t) (hstage0_6 ((cfg0.slots t 6).cast nbuf0_6)) sc0 (Memref.isWhole_whole _) sc1 (Memref.isWhole_whole _) sc2 (Memref.isWhole_whole _) sc3 (Memref.isWhole_whole _) sc4 (Memref.isWhole_whole _) sc5 (Memref.isWhole_whole _) cc0_scratch6 (CNT m c) (MASK m c) (VAL m c) (SX m c) (SR m c) (DY m c) (chunkAt t)
    (fun e => h0 ((cond1_iff t).mp e)) (fun e => h0 (hm.symm.trans ((cond2_iff t).mp e))) ((cond3_iff t).mpr h) (ho16 t) (ho17 t) (ho18 t) W) rfl ?_ (fun _ => ?_)
  · unfold held; rw [if_neg h0, hg, group_eq, hn]
    simp only [before_6 m c t (by omega)]
    unfold xrAt
    iintro ⟨⟨HS, HC⟩, HW, HO, H5, ⟨%d6, H6⟩⟩
    isplitl [HO]; · iexact HO
    isplitl [H5]; · iexact H5
    isplitl [H6]; · iexact H6
    isplitl [HS]; · iexact HS
    isplitl [HC]; · iexact HC
    iexact HW
  · rw [group_eq, hn]

set_option maxHeartbeats 1000000 in
/-- The first point of a later column group. -/
theorem at_group (c : Dev nD) (t : Fin cfg0.N) (h : 37 ≤ t.val) (hm : t.val % 37 = 0) (W : Waits sig Unit) :
    iprop(held m c t.val ∗ owes (c : Thread nD τ) 0 W ∗ ops m c t
      ∗ (∃ f, owns (c : Thread nD τ) (st0_5 t) fullShare f) ∗ (∃ d, owns (c : Thread nD τ) (st0_6 t) fullShare ((dats m 0 c).before 6 t d)))
    ⊢ wp frame (wpE (defs₀ (F := F)) Variants.none (c : Thread nD τ) none) Set.univ (bodyAt0 t) (fun _ => After c (st0_0 t) (st0_1 t) (st0_2 t) (st0_3 t) (st0_4 t) hb7 (st0_5 t) (st0_6 t) sc0 sc1 sc2 sc3 sc4 sc5 cc0_scratch6
        (CNT m c) (MASK m c) (VAL m c) (SX m c) (SR m c) (DY m c) (groupAt t.val) (chunkAt t) (t.val + 1)) := by
  have h0 : t.val ≠ 0 := by omega
  refine triple_restated (body_group Variants.none c none (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) hb7 (Memref.isWhole_whole _) (st0_5 t) (hstage0_5 ((cfg0.slots t 5).cast nbuf0_5)) (st0_6 t) (hstage0_6 ((cfg0.slots t 6).cast nbuf0_6)) sc0 (Memref.isWhole_whole _) sc1 (Memref.isWhole_whole _) sc2 (Memref.isWhole_whole _) sc3 (Memref.isWhole_whole _) sc4 (Memref.isWhole_whole _) sc5 (Memref.isWhole_whole _) cc0_scratch6 (CNT m c) (MASK m c) (VAL m c) (SX m c) (SR m c) (DY m c) (chunkAt t)
    (fun e => h0 ((cond1_iff t).mp e)) ((cond2_iff t).mpr hm) (fun e => absurd ((cond3_iff t).mp e) (by omega)) (ho16 t) (ho17 t) (ho18 t)
    t.val h (groupAt (t.val - 1)) W) rfl ?_ (fun _ => ?_)
  · unfold held; rw [if_neg h0]
    iintro ⟨⟨HS, HC⟩, HW, HO, H5, ⟨%d6, H6⟩⟩
    isplitl [HO]; · iexact HO
    isplitl [H5]; · iexact H5
    isplitl [H6]; · iexists _; iexact H6
    isplitl [HS]; · iexact HS
    isplitl [HC]; · iexact HC
    iexact HW
  · rw [group_eq]

set_option maxHeartbeats 1000000 in
/-- Any other point. -/
theorem at_rest (c : Dev nD) (t : Fin cfg0.N) (h : 37 ≤ t.val) (hm : t.val % 37 ≠ 0) (W : Waits sig Unit) :
    iprop(held m c t.val ∗ owes (c : Thread nD τ) 0 W ∗ ops m c t
      ∗ (∃ f, owns (c : Thread nD τ) (st0_5 t) fullShare f) ∗ (∃ d, owns (c : Thread nD τ) (st0_6 t) fullShare ((dats m 0 c).before 6 t d)))
    ⊢ wp frame (wpE (defs₀ (F := F)) Variants.none (c : Thread nD τ) none) Set.univ (bodyAt0 t) (fun _ => After c (st0_0 t) (st0_1 t) (st0_2 t) (st0_3 t) (st0_4 t) hb7 (st0_5 t) (st0_6 t) sc0 sc1 sc2 sc3 sc4 sc5 cc0_scratch6
        (CNT m c) (MASK m c) (VAL m c) (SX m c) (SR m c) (DY m c) (groupAt t.val) (chunkAt t) (t.val + 1)) := by
  have h0 : t.val ≠ 0 := by omega
  have hg : groupAt (t.val - 1) = groupAt t.val := by unfold groupAt; rw [show (t.val - 1) / 37 = t.val / 37 by omega]
  refine triple_restated (body_rest Variants.none c none (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) hb7 (Memref.isWhole_whole _) (st0_5 t) (hstage0_5 ((cfg0.slots t 5).cast nbuf0_5)) (st0_6 t) (hstage0_6 ((cfg0.slots t 6).cast nbuf0_6)) sc0 (Memref.isWhole_whole _) sc1 (Memref.isWhole_whole _) sc2 (Memref.isWhole_whole _) sc3 (Memref.isWhole_whole _) sc4 (Memref.isWhole_whole _) sc5 (Memref.isWhole_whole _) cc0_scratch6 (CNT m c) (MASK m c) (VAL m c) (SX m c) (SR m c) (DY m c) (chunkAt t)
    (fun e => h0 ((cond1_iff t).mp e)) (fun e => hm ((cond2_iff t).mp e)) (fun e => absurd ((cond3_iff t).mp e) (by omega)) (ho16 t) (ho17 t) (ho18 t)
    t.val h W) rfl ?_ (fun _ => ?_)
  · unfold held; rw [if_neg h0, hg, group_eq]
    simp only [before_6 m c t hm]
    unfold xrAt
    iintro ⟨⟨HS, HC⟩, HW, HO, H5, ⟨%d6, H6⟩⟩
    isplitl [HO]; · iexact HO
    isplitl [H5]; · iexact H5
    isplitl [H6]; · iexact H6
    isplitl [HS]; · iexact HS
    isplitl [HC]; · iexact HC
    iexact HW
  · rw [group_eq]

/-- Every point, whatever its place. -/
theorem at_point (c : Dev nD) (t : Fin cfg0.N) (W : Waits sig Unit) :
    iprop(held m c t.val ∗ owes (c : Thread nD τ) 0 W ∗ ops m c t
      ∗ (∃ f, owns (c : Thread nD τ) (st0_5 t) fullShare f) ∗ (∃ d, owns (c : Thread nD τ) (st0_6 t) fullShare ((dats m 0 c).before 6 t d)))
    ⊢ wp frame (wpE (defs₀ (F := F)) Variants.none (c : Thread nD τ) none) Set.univ (bodyAt0 t) (fun _ => After c (st0_0 t) (st0_1 t) (st0_2 t) (st0_3 t) (st0_4 t) hb7 (st0_5 t) (st0_6 t) sc0 sc1 sc2 sc3 sc4 sc5 cc0_scratch6
        (CNT m c) (MASK m c) (VAL m c) (SX m c) (SR m c) (DY m c) (groupAt t.val) (chunkAt t) (t.val + 1)) := by
  by_cases h0 : t.val = 0
  · exact at_first m c t h0 W
  by_cases h1 : t.val < 37
  · exact at_early m c t h0 h1 W
  by_cases h2 : t.val % 37 = 0
  · exact at_group m c t (by omega) h2 W
  · exact at_rest m c t (by omega) h2 W

theorem sound_body (c : Dev nD) (t : Fin cfg0.N) :
    bodyPre m c t ⊢ wp frame (wpE (defs₀ (F := F)) Variants.none (c : Thread nD τ) none) Set.univ (bodyAt0 t) (fun _ => bodyPost m c t) := by
  refine (pre_open m c t).trans ?_
  iintro ⟨HK, Hg, ⟨%W, HW⟩, HO, H5, H6⟩
  ihave H := (at_point m c t W) $$ [HK HW HO H5 H6]
  · isplitl [HK]; · iexact HK
    isplitl [HW]; · iexact HW
    isplitl [HO]; · iexact HO
    isplitl [H5]; · iexact H5
    iexact H6
  iapply (wp_wand frame (wpE (defs₀ (F := F)) Variants.none (c : Thread nD τ) none) Set.univ) $$ H
  iintro %_ HA
  iapply (post_close m c t (chunkAt t) rfl (groupAt t.val) rfl t.val rfl)
  isplitl [HA]; · iexact HA
  iexact Hg

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

/-! ## The run -/

theorem bigSep_one {M : Type} [URA M] {ι : Type} [DecidableEq ι] (i : ι) (Φ : ι → sProp M) : bigSep {i} Φ = Φ i :=
  BI.bigSep_singleton

theorem phi_in (c : Dev nD) : Pipeline.ΦD osem0 spec0 H0 (V m) c ⊢ (dats m 0 c).Φ 0 := by
  rw [Pipeline.ΦD_eq, scopedRest0_eq, show (dats m 0 c).Φ 0 = iprop(held m c 0 ∗ (∃ r, prngReg c r)) from rfl]
  unfold held Pipeline.ownSems0 H0
  rw [if_pos rfl, bigSep_one]
  unfold Fresh
  simp only [owns_whole]
  iintro ⟨⟨S0, S1, S2, S3, S4, S5⟩, Hg, HS, H7⟩
  isplitr [Hg]
  · isplitl [S1 S2 S3 S4 S5]
    · isplitl [S1]; · iexact S1
      isplitl [S2]; · iexact S2
      isplitl [S3]; · iexact S3
      isplitl [S4]; · iexact S4
      iexact S5
    iapply (free_of_whole (F := F) c hb7 sc0 cc0_scratch6 (DY m c))
    isplitl [HS]; · iexact HS
    simp only [owns_whole]
    isplitl [S0]; · iexact S0
    iexact H7
  iexact Hg

theorem phi_out (c : Dev nD) : (dats m 0 c).Φ (Fin.last cfg0.N) ⊢ Pipeline.ΦD osem0 spec0 H0 (V m) c := by
  rw [Pipeline.ΦD_eq, scopedRest0_eq, show (dats m 0 c).Φ (Fin.last cfg0.N) = iprop(held m c 518 ∗ (∃ r, prngReg c r)) from rfl]
  unfold held Pipeline.ownSems0 H0
  rw [if_neg (by omega), bigSep_one, mix_full _ _ 518 (by omega)]
  unfold Held
  simp only [owns_whole]
  iintro ⟨⟨⟨S1, S2, S3, S4, S5⟩, HC⟩, Hg⟩
  ihave HC := (whole_of_landed (F := F) c hb7 sc0 cc0_scratch6 (DY m c)) $$ HC
  icases HC with ⟨HS, S0, H7⟩
  simp only [owns_whole]
  isplitl [S0 S1 S2 S3 S4 S5]
  · isplitl [S0]; · iexists _; iexact S0
    isplitl [S1]; · iexact S1
    isplitl [S2]; · iexists _; iexact S2
    isplitl [S3]; · iexists _; iexact S3
    isplitl [S4]; · iexists _; iexact S4
    iexists _; iexact S5
  isplitl [Hg]; · iexact Hg
  isplitl [HS]; · iexact HS
  iexact H7

set_option backward.isDefEq.respectTransparency.types false in
/-- The run: the outputs hold what the points wrote back, the other buffers are as entered, the semaphores are at zero. -/
theorem run_main : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose)
    (hshare := fun c => (dats m 0 c).share_full fun _ => rfl)
    (howed := fun _ _ => rfl)
    (V := V m) (hmain := hmain m Variants.none) (hA := A_eq m)
    (hin := phi_in m) (hout := phi_out m)

/-- The frame: the run ends with the six arguments as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main m ρ)

end Cert.KernelIdeal.Hand

end
-- ==== Proof.KernelArrays.lean ====
/-
  What the kernel's two result arrays hold after the run, over its arguments, under the packing precondition: the weight
  gradient and the recovered activations.
-/
module

public import proofs.«01_k».proof.Proof.KernelElem
public import proofs.«01_k».proof.Proof.LaunchIdeal
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)
open Cert.Ranks Cert.Spec

variable (m : (ℓ : Loc nD τ sig) → Buf (Elt Ideal) ℓ) (c : Dev nD)

/-- The arguments as the run finds them. -/
abbrev A0 : Masks := m ((c : Thread nD τ).loc main_arg0)
abbrev A1 : Codes := m ((c : Thread nD τ).loc main_arg1)
abbrev A2 : Counts := m ((c : Thread nD τ).loc main_arg2)
abbrev A3 : Scales := m ((c : Thread nD τ).loc main_arg3)
abbrev A4 : Grads := m ((c : Thread nD τ).loc main_arg4)
abbrev A5 : Scales := m ((c : Thread nD τ).loc main_arg5)

/-! ## The operands, as the host code lays the arguments out -/

theorem CNT_at (t : Fin 1920) : CNT m c (ix1 t) = Spec.count (A2 m c) t := by
  show V m c main_v8 (ix1 t) = _
  unfold Spec.count
  entry_read
  pointwise

theorem MASK_at (t : Fin 1920) (k : Fin 112) : MASK m c (ix2 t k) = Spec.words (A0 m c) t k.val := by
  unfold Spec.words
  rw [dif_pos k.isLt]
  show V m c main_v1 (ix2 t k) = _
  entry_read
  pointwise

theorem VAL_at (a : Fin 13440) (b : Fin 128) : VAL m c (ix2 a b) = A1 m c (ix1 (byteIx a b)) := by
  show V m c main_v2 (ix2 a b) = _
  entry_read
  pointwise
  exact congrArg (A1 m c) (congrArg ix1 (Fin.ext (by show a.val * 128 + b.val = 128 * a.val + b.val; omega)))

theorem SX_at (t : Fin 1920) (l : Fin 128) : SX m c (ix2 t l) = scale (A3 m c) t := by
  show V m c main_v4 (ix2 t l) = _
  unfold scale
  entry_read
  pointwise

theorem SR_at (t : Fin 1920) (l : Fin 128) : SR m c (ix2 t l) = scale (A5 m c) t := by
  show V m c main_v6 (ix2 t l) = _
  unfold scale
  entry_read
  pointwise

theorem DY_at (t : Fin 1920) (o : Fin 18944) : DY m c (ix2 t o) = A4 m c (ix3 (plane t) (row t) o) := by
  show V m c main_v7 (ix2 t o) = _
  entry_read
  pointwise

/-! ## One element of a column group -/

variable (hP : Packed (A0 m c) (A2 m c))

include hP

/-- Column `j` of group `g` of the decoded tokens. -/
theorem xrec_at (g : ℕ) (hg : g < 14) (t : Fin 1920) (j : Fin 256) :
    xrec (F := Ideal) (CNT m c) (MASK m c) (VAL m c) (SX m c) (BitVec.ofNat 32 g) (ix2 t j)
      = value (A0 m c) (A1 m c) (A2 m c) t (256 * g + j.val) * scale (A3 m c) t := by
  have hj := j.isLt
  have hv := byte_value (A0 m c) (A1 m c) (A2 m c) (CNT m c) (MASK m c) (VAL m c) (CNT_at m c) (MASK_at m c) (VAL_at m c) hP g hg
  show (if h : j.val < 128 then _ else _) = _
  by_cases h : j.val < 128
  · rw [dif_pos h]
    refine (decLo_at g hg _ _ _ _ _ _ (inBlk t) (⟨j.val, h⟩ : Fin 128)).trans ?_
    refine congrArg₂ (· * ·) ((hv ⟨j.val, h⟩ t 0 (by decide)).trans ?_) ((blk_at _ t _).trans (SX_at m c t _))
    rfl
  · rw [dif_neg h]
    refine (decHi_at g hg _ _ _ _ _ _ (inBlk t) (⟨j.val - 128, by omega⟩ : Fin 128)).trans ?_
    refine congrArg₂ (· * ·) ((hv ⟨j.val - 128, by omega⟩ t 1 (by decide)).trans ?_) ((blk_at _ t _).trans (SX_at m c t _))
    exact congrArg (value (A0 m c) (A1 m c) (A2 m c) t) (by show 256 * g + 128 * 1 + (j.val - 128) = _; omega)

/-- Column `j` of group `g` of the product's first operand. -/
theorem xt_at (g : ℕ) (hg : g < 14) (t : Fin 1920) (j : Fin 256) :
    xt (F := Ideal) (CNT m c) (MASK m c) (VAL m c) (SX m c) (SR m c) (BitVec.ofNat 32 g) (ix2 t j)
      = value (A0 m c) (A1 m c) (A2 m c) t (256 * g + j.val) * scale (A3 m c) t * scale (A5 m c) t := by
  have hj := j.isLt
  have hv := byte_value (A0 m c) (A1 m c) (A2 m c) (CNT m c) (MASK m c) (VAL m c) (CNT_at m c) (MASK_at m c) (VAL_at m c) hP g hg
  show (if h : j.val < 128 then _ else _) = _
  by_cases h : j.val < 128
  · rw [dif_pos h]
    refine (mulLo_at g hg _ _ _ _ _ _ _ (inBlk t) (⟨j.val, h⟩ : Fin 128)).trans ?_
    refine congrArg₂ (· * ·) (congrArg₂ (· * ·) ((hv ⟨j.val, h⟩ t 0 (by decide)).trans ?_) ((blk_at _ t _).trans (SX_at m c t _))) ((blk_at _ t _).trans (SR_at m c t _))
    rfl
  · rw [dif_neg h]
    refine (mulHi_at g hg _ _ _ _ _ _ _ (inBlk t) (⟨j.val - 128, by omega⟩ : Fin 128)).trans ?_
    refine congrArg₂ (· * ·) (congrArg₂ (· * ·) ((hv ⟨j.val - 128, by omega⟩ t 1 (by decide)).trans ?_) ((blk_at _ t _).trans (SX_at m c t _))) ((blk_at _ t _).trans (SR_at m c t _))
    exact congrArg (value (A0 m c) (A1 m c) (A2 m c) t) (by show 256 * g + 128 * 1 + (j.val - 128) = _; omega)

omit hP in
/-- One element of the product of a block: the sum over all tokens. -/
theorem product_at (x : Vec Ideal S1920x256 .bf16) (d : Vec Ideal S1920x512 .fp8e5m2) (i : Fin 256) (o : Fin 512) :
    k0_pay10 (F := Ideal) x d (ix2 i o) = ∑ t : Fin 1920, (x (ix2 t i) : EReal) * (d (ix2 t o) : EReal) := by
  pointwise [k0_pay10]

/-! ## The arrays -/

omit hP in
theorem group_lt (t : Fin cfg0.N) : t.val / 37 < 14 := by
  have : t.val < 518 := t.isLt
  omega

omit hP in
theorem idx_6 : ∀ t : Fin cfg0.N, win0_6.index t 0 = 0 ∧ win0_6.index t 1 = t.val / 37 :=
  (by decide +kernel : ∀ t : Fin grid0.N, win0_6.index t 0 = 0 ∧ win0_6.index t 1 = t.val / 37)
omit hP in
theorem idx_5 : ∀ t : Fin cfg0.N, win0_5.index t 0 = t.val / 37 ∧ win0_5.index t 1 = t.val % 37 :=
  (by decide +kernel : ∀ t : Fin grid0.N, win0_5.index t 0 = t.val / 37 ∧ win0_5.index t 1 = t.val % 37)

/-- One element of the activations a point leaves. -/
theorem xrAt_at (t : Fin cfg0.N) (y : S1920x256.Idx) :
    xrAt m c t y = value (A0 m c) (A1 m c) (A2 m c) (y 0) (256 * (t.val / 37) + (y 1).val) * scale (A3 m c) (y 0) :=
  (congrArg (xrAt m c t) (eq_ix2 y)).trans (xrec_at m c hP (t.val / 37) (group_lt t) (y 0) (y 1))

/-- One element of the gradient block a point leaves. -/
theorem dwAt_at (t : Fin cfg0.N) (y : S256x512.Idx) (o : Fin 18944) (ho : o.val = 512 * (t.val % 37) + (y 1).val) :
    dwAt m c t y = ∑ u : Fin 1920, value (A0 m c) (A1 m c) (A2 m c) u (256 * (t.val / 37) + (y 0).val) * scale (A3 m c) u
      * (A4 m c (ix3 (plane u) (row u) o) * scale (A5 m c) u) := by
  refine (congrArg (dwAt m c t) (eq_ix2 y)).trans ((product_at _ _ (y 0) (y 1)).trans ?_)
  refine Finset.sum_congr rfl fun u _ => ?_
  have hd : dyChunk (F := Ideal) (DY m c) (chunkAt t).val (chunkAt t).isLt (ix2 u (y 1)) = A4 m c (ix3 (plane u) (row u) o) := by
    refine Eq.trans ?_ (DY_at m c u o)
    exact congrArg (fun z => DY m c (ix2 u z)) (Fin.ext ho.symm)
  refine (congrArg₂ (· * ·) (xt_at m c hP (t.val / 37) (group_lt t) u (y 0)) hd).trans ?_
  show _ * _ * _ * _ = _
  rw [mul_assoc, mul_comm (scale (A5 m c) u)]

/-- The recovered activations after the run. -/
theorem tokens_final : (dats m 0 c).arrAt 6 cfg0.N = tokens (A0 m c) (A1 m c) (A2 m c) (A3 m c) := by
  refine (dats m 0 c).arrAt_eq_of_covers 6 _ (by decide +kernel) fun t hf y => ?_
  blk_simp
  rw [after_6]
  refine (xrAt_at m c hP t y).trans ?_
  have e0 : ((win0_6.blk t).view.emb y) 0 = y 0 := Fin.ext (by
    have h : (((win0_6.blk t).view.emb y) 0).val = win0_6.index t 0 * 1920 + (y 0).val := by blk_simp
    rw [h, (idx_6 t).1]; omega)
  have e1 : (((win0_6.blk t).view.emb y) 1).val = 256 * (t.val / 37) + (y 1).val := by
    have h : (((win0_6.blk t).view.emb y) 1).val = win0_6.index t 1 * 256 + (y 1).val := by blk_simp
    rw [h, (idx_6 t).2]; omega
  show _ = value (A0 m c) (A1 m c) (A2 m c) (((win0_6.blk t).view.emb y) 0) (((win0_6.blk t).view.emb y) 1).val * scale (A3 m c) (((win0_6.blk t).view.emb y) 0)
  rw [e0, e1]

/-- The weight gradient after the run. -/
theorem weights_final : (dats m 0 c).arrAt 5 cfg0.N = weights (A0 m c) (A1 m c) (A2 m c) (A3 m c) (A4 m c) (A5 m c) := by
  refine (dats m 0 c).arrAt_eq_of_covers 5 _ (by decide +kernel) fun t hf y => ?_
  blk_simp
  rw [after_5]
  have e0 : (((win0_5.blk t).view.emb y) 0).val = 256 * (t.val / 37) + (y 0).val := by
    have h : (((win0_5.blk t).view.emb y) 0).val = win0_5.index t 0 * 256 + (y 0).val := by blk_simp
    rw [h, (idx_5 t).1]; omega
  have e1 : (((win0_5.blk t).view.emb y) 1).val = 512 * (t.val % 37) + (y 1).val := by
    have h : (((win0_5.blk t).view.emb y) 1).val = win0_5.index t 1 * 512 + (y 1).val := by blk_simp
    rw [h, (idx_5 t).2]; omega
  refine (dwAt_at m c hP t y (((win0_5.blk t).view.emb y) 1) e1).trans ?_
  show _ = ∑ u : Fin 1920, value (A0 m c) (A1 m c) (A2 m c) u (((win0_5.blk t).view.emb y) 0).val * scale (A3 m c) u
      * (A4 m c (ix3 (plane u) (row u) (((win0_5.blk t).view.emb y) 1)) * scale (A5 m c) u)
  rw [e0]

end Cert.KernelIdeal.Hand

end
-- ==== Proof.RunningSum.lean ====
/-
  The host's running sums and its take: a running sum along the last of three axes, the exclusive running sum of the
  1920 counts, and a gather of single codes from a table, each read at one index.
-/
module

public import proofs.«01_k».proof.Proof.Spec
public import Idealize.ShloMosaic.Lib.Routing.Ops
public import Idealize.ShloMosaic.Lib.Pointwise.Index
public import Idealize.ShloMosaic.Lib.StableHlo.Predicate

@[expose] public section

set_option maxRecDepth 16384

noncomputable section

namespace Cert.RunningSum

open Idealize.ShloMosaic
open Idealize.ShloMosaic.Routing (foldl_addi_ofNat sum_window map_finRange_val)

theorem numel3 (N : ℕ) : (⟨3, ![1, 1, N]⟩ : Shape).numel = N := by
  simp [Shape.numel, Fin.prod_univ_succ]

theorem symm3 {N : ℕ} (n : Fin (⟨3, ![1, 1, N]⟩ : Shape).numel) :
    (⟨3, ![1, 1, N]⟩ : Shape).rowMajor.symm n = ix3 (0 : Fin 1) (0 : Fin 1) (n.cast (numel3 N)) :=
  ((⟨3, ![1, 1, N]⟩ : Shape).rowMajor.symm_apply_eq).2 (Fin.ext (by
    rw [rowMajor_val3 _ _ _ rfl rfl]
    show n.val = 0 * (1 * N) + 0 * N + n.val
    omega))

/-- A running sum along the last axis (a window of that whole axis, padded low by one less): where the row's entry
    `i` holds `f i`, entry `j` of the result holds `f 0 + … + f j`. -/
theorem running3 {A B N Nm1 : ℕ} (hN : Nm1 + 1 = N) (x : IVec ⟨3, ![A, B, N]⟩ 32) (a : Fin A) (b : Fin B) (f : ℕ → ℕ)
    (hx : ∀ i : Fin N, x (ix3 a b i) = BitVec.ofNat 32 (f i.val)) (init : IVec ⟨0, ![]⟩ 32) (hinit : ∀ i, init i = 0#32)
    (h : (⟨3, ![A, B, N]⟩ : Shape).ReduceWindows (![1, 1, N] : Fin 3 → ℕ) ![1, 1, 1] ![0, 0, Nm1] ![0, 0, 0] ⟨3, ![A, B, N]⟩)
    (hu : 0 < (⟨0, ![]⟩ : Shape).numel) (j : Fin N) :
    Host.reduceWindow IntOp.addi ![1, 1, N] ![1, 1, 1] ![0, 0, Nm1] ![0, 0, 0] x init h hu (ix3 a b j)
      = BitVec.ofNat 32 ((List.range (j.val + 1)).map f).sum := by
  subst hN
  have hv : init (Shape.Idx.first hu) = BitVec.ofNat 32 0 := hinit _
  have hj := j.isLt
  have ha := a.isLt
  have hb := b.isLt
  unfold Host.reduceWindow
  refine (foldl_addi_ofNat _ _ (fun n => if Nm1 ≤ j.val + n.val then f (j.val + n.val - Nm1) else 0) (fun n _ => ?_) _ 0 hv).trans ?_
  · have hw0 : ((⟨3, ![1, 1, Nm1 + 1]⟩ : Shape).rowMajor.symm n 0).val = 0 := by rw [symm3]; rfl
    have hw1 : ((⟨3, ![1, 1, Nm1 + 1]⟩ : Shape).rowMajor.symm n 1).val = 0 := by rw [symm3]; rfl
    have hw : ((⟨3, ![1, 1, Nm1 + 1]⟩ : Shape).rowMajor.symm n 2).val = n.val := by rw [symm3]; rfl
    have hn : n.val < Nm1 + 1 := (n.cast (numel3 _)).isLt
    dsimp only
    split
    · next hin =>
      have h1 := hin 2
      change Nm1 ≤ j.val * 1 + ((⟨3, ![1, 1, Nm1 + 1]⟩ : Shape).rowMajor.symm n 2).val
        ∧ j.val * 1 + ((⟨3, ![1, 1, Nm1 + 1]⟩ : Shape).rowMajor.symm n 2).val - Nm1 < Nm1 + 1 at h1
      rw [hw] at h1
      rw [if_pos (by omega)]
      refine (congrArg x (funext fun q => Fin.ext ?_)).trans (hx ⟨j.val + n.val - Nm1, by omega⟩)
      match q with
      | ⟨0, _⟩ =>
        show a.val * 1 + ((⟨3, ![1, 1, Nm1 + 1]⟩ : Shape).rowMajor.symm n 0).val - 0 = a.val
        rw [hw0]; omega
      | ⟨1, _⟩ =>
        show b.val * 1 + ((⟨3, ![1, 1, Nm1 + 1]⟩ : Shape).rowMajor.symm n 1).val - 0 = b.val
        rw [hw1]; omega
      | ⟨2, _⟩ =>
        show j.val * 1 + ((⟨3, ![1, 1, Nm1 + 1]⟩ : Shape).rowMajor.symm n 2).val - Nm1 = j.val + n.val - Nm1
        rw [hw, Nat.mul_one]
    · next hin =>
      rw [if_neg fun hle => hin fun q => by
        match q with
        | ⟨0, _⟩ =>
          show 0 ≤ a.val * 1 + ((⟨3, ![1, 1, Nm1 + 1]⟩ : Shape).rowMajor.symm n 0).val
            ∧ a.val * 1 + ((⟨3, ![1, 1, Nm1 + 1]⟩ : Shape).rowMajor.symm n 0).val - 0 < A
          rw [hw0]; omega
        | ⟨1, _⟩ =>
          show 0 ≤ b.val * 1 + ((⟨3, ![1, 1, Nm1 + 1]⟩ : Shape).rowMajor.symm n 1).val
            ∧ b.val * 1 + ((⟨3, ![1, 1, Nm1 + 1]⟩ : Shape).rowMajor.symm n 1).val - 0 < B
          rw [hw1]; omega
        | ⟨2, _⟩ =>
          show Nm1 ≤ j.val * 1 + ((⟨3, ![1, 1, Nm1 + 1]⟩ : Shape).rowMajor.symm n 2).val
            ∧ j.val * 1 + ((⟨3, ![1, 1, Nm1 + 1]⟩ : Shape).rowMajor.symm n 2).val - Nm1 < Nm1 + 1
          rw [hw]; omega]
      exact hv
  · rw [Nat.zero_add, map_finRange_val _ (fun w => if Nm1 ≤ j.val + w then f (j.val + w - Nm1) else 0)]
    exact congrArg (BitVec.ofNat 32) ((congrArg (fun M => ((List.range M).map fun w => if Nm1 ≤ j.val + w then f (j.val + w - Nm1) else 0).sum)
      (numel3 (Nm1 + 1))).trans (sum_window f Nm1 j.val (by omega)))

/-- A take of single entries of a table by a three-axis array of positions: each reads the table at its position, read
    signed and clamped into the table. -/
theorem take3 {α : Type} {N A B C w : ℕ} (d : GatherDims ⟨1, ![N]⟩ ⟨4, ![A, B, C, 1]⟩ ⟨3, ![A, B, C]⟩)
    (hoff : d.offsetDims = []) (hcoll : d.collapsedSliceDims = [0]) (hob : d.operandBatchingDims = [])
    (hsim : d.startIndexMap = [0]) (hivd : d.indexVectorDim = 3)
    (x : (⟨1, ![N]⟩ : Shape).Idx → α) (idx : IVec ⟨4, ![A, B, C, 1]⟩ w) (a : Fin A) (b : Fin B) (c : Fin C) (hN : 0 < N) :
    Host.gather d x idx (ix3 a b c)
      = x (ix1 (⟨min (idx (ix4 a b c (0 : Fin 1))).toInt.toNat (N - 1), by omega⟩ : Fin N)) := by
  obtain ⟨o, cs, ob, sb, sim, ivd, ss, wf⟩ := d
  dsimp only at hoff hcoll hob hsim hivd
  subst hoff hcoll hob hsim hivd
  generalize hd : (GatherDims.mk [] [0] [] sb [0] 3 ss wf : GatherDims ⟨1, ![N]⟩ ⟨4, ![A, B, C, 1]⟩ ⟨3, ![A, B, C]⟩) = d
  unfold Host.gather
  congr 1
  funext q
  have hq0 : q = 0 := Subsingleton.elim _ _
  subst hq0
  apply Fin.ext
  have hb : (0 : Fin 1) ∉ d.operandBatchingDims := by rw [← hd]; exact List.not_mem_nil
  have hk : (0 : Fin 1) ∉ d.sKept := by rw [GatherDims.mem_sKept, ← hd]; simp
  have hm : (0 : Fin 1) ∈ d.startIndexMap := by rw [← hd]; exact List.mem_singleton.mpr rfl
  have hsl : d.sliceSizes 0 = 1 := d.slice_collapsed 0 (by rw [← hd]; exact List.mem_singleton.mpr rfl)
  simp only [GatherDims.operandIdx, GatherDims.batchCoord_eq_zero _ _ _ hb, GatherDims.offCoord_eq_zero _ _ _ hk,
    Nat.add_zero, GatherDims.start, dif_pos hm]
  show min (idx _).toInt.toNat (N - d.sliceSizes 0) = min (idx (ix4 a b c (0 : Fin 1))).toInt.toNat (N - 1)
  rw [hsl]
  congr 3
  congr 1
  funext p
  subst hd
  match p with
  | ⟨0, _⟩ => rfl
  | ⟨1, _⟩ => rfl
  | ⟨2, _⟩ => rfl
  | ⟨3, _⟩ => rfl

end Cert.RunningSum

end
-- ==== Proof.RefBits.lean ====
/-
  The reference's host arrays before the region: the mask bits, their ranks, the starts of the tokens' codes, the
  positions, and the codes taken there; and the bits and ranks read at an index as numbers.
-/
module

public import proofs.«01_k».proof.Proof.RunningSum
public import proofs.«01_k».proof.Proof.Gen.ReferenceIdeal.Frame
public import Idealize.ShloMosaic.Lib.Pointwise

@[expose] public section

set_option maxRecDepth 16384

noncomputable section

namespace Cert.ReferenceIdeal.Hand

open Idealize.ShloMosaic Idealize.ShloMosaic.TcCoe
open Cert.ReferenceIdeal.Gen
open Cert.Ranks Cert.Spec

/-- The token of row `b` of plane `a`. -/
abbrev tok (a : Fin 3) (b : Fin 640) : Fin 1920 := ⟨640 * a.val + b.val, by omega⟩

theorem plane_tok (a : Fin 3) (b : Fin 640) : plane (tok a b) = a := Fin.ext (by show (640 * a.val + b.val) / 640 = a.val; omega)
theorem row_tok (a : Fin 3) (b : Fin 640) : row (tok a b) = b := Fin.ext (by show (640 * a.val + b.val) % 640 = b.val; omega)

variable (A0 : IVec S3x640x112 32) (A2 : IVec S3x640 32)

/-- The mask bits, one word per column. -/
def bits : IVec S3x640x3584 32 :=
  shapeCast S3x640x3584
    (andi
      (Host.shrui
        (broadcastInDim S3x640x112x32 ![0, 1, 2, 3] bcast_S3x640x112x1_S3x640x112x32_0_1_2_3
          (broadcastInDim S3x640x112x1 ![0, 1, 2] bcast_S3x640x112_S3x640x112x1_0_1_2 A0))
        (broadcastInDim S3x640x112x32 ![0, 1, 2, 3] bcast_S1x1x1x32_S3x640x112x32_0_1_2_3
          (broadcastInDim S1x1x1x32 ![3] bcast_S32_S1x1x1x32_3 (iotaInDim S32 32 0))))
      (broadcastInDim S3x640x112x32 ![] bcast_S_S3x640x112x32 (constantI S_ 32 1#32)))
    shapeCasts_S3x640x112x32_S3x640x3584

/-- Each column's rank among the set bits of its token. -/
def ranks : IVec S3x640x3584 32 :=
  subi (Host.reduceWindow IntOp.addi ![1, 1, 3584] ![1, 1, 1] ![0, 0, 3583] ![0, 0, 0] (bits A0)
    (broadcastInDim S_ ![] bcast_S_S_ (constantI S_ 32 0#32))
    reduceWindows_S3x640x3584_S3x640x3584_w1s1p0_0_w1s1p0_0_w3584s1p3583_0 h_S_) (bits A0)

/-- The start of each token's codes. -/
def starts : IVec S3x640 32 :=
  shapeCast S3x640
    (subi (Host.reduceWindow IntOp.addi ![1920] ![1] ![1919] ![0] (shapeCast S1920 A2 shapeCasts_S3x640_S1920)
      (broadcastInDim S_ ![] bcast_S_S_ (constantI S_ 32 0#32)) reduceWindows_S1920_S1920_w1920s1p1919_0 h_S_)
      (shapeCast S1920 A2 shapeCasts_S3x640_S1920))
    shapeCasts_S1920_S3x640

/-- A word shifted right by `q` and masked to its low bit is its bit `q`. -/
theorem bit_word (x : BitVec 32) (q : ℕ) (hq : q < 32) :
    IntOp.andi (IntOp.shrui .host x (BitVec.ofNat 32 q)) 1#32 = BitVec.ofNat 32 (x.getLsbD q).toNat := by
  have h : IntOp.shrui .host x (BitVec.ofNat 32 q) = x >>> q := by
    have hn : (BitVec.ofNat 32 q).toNat = q := by rw [BitVec.toNat_ofNat]; omega
    unfold IntOp.shrui
    rw [hn, if_pos hq, BitVec.ushiftRight_eq', hn]
  rw [h]
  show (x >>> q) &&& 1#32 = _
  apply BitVec.eq_of_toNat_eq
  rw [BitVec.toNat_and, BitVec.toNat_ushiftRight, BitVec.toNat_ofNat, BitVec.toNat_ofNat]
  show (x.toNat >>> q) &&& 1 = _
  rw [Nat.and_one_is_mod, ← BitVec.testBit_toNat, Nat.testBit_eq_decide_div_mod_eq, Nat.shiftRight_eq_div_pow]
  rcases Nat.mod_two_eq_zero_or_one (x.toNat / 2 ^ q) with h | h <;> simp [h]

theorem bits_at (a : Fin 3) (b : Fin 640) (i : Fin 3584) :
    bits A0 (ix3 a b i) = BitVec.ofNat 32 (bit (words A0 (tok a b)) i.val) := by
  pointwise [bits]
  have hw : words A0 (tok a b) (i.val / 32) = A0 (ix3 a b (⟨i.val / 32, by have := i.isLt; omega⟩ : Fin 112)) := by
    unfold words
    rw [dif_pos (by have := i.isLt; omega), plane_tok, row_tok]
  unfold bit
  rw [hw]
  exact bit_word _ _ (Nat.mod_lt _ (by decide))

theorem ranks_at (a : Fin 3) (b : Fin 640) (i : Fin 3584) :
    ranks A0 (ix3 a b i) = BitVec.ofNat 32 (rank (words A0 (tok a b)) i.val) := by
  have h := RunningSum.running3 (Nm1 := 3583) rfl (bits A0) a b (fun i => bit (words A0 (tok a b)) i) (fun i => bits_at A0 a b i)
    (broadcastInDim S_ ![] bcast_S_S_ (constantI S_ 32 0#32)) (fun _ => rfl)
    reduceWindows_S3x640x3584_S3x640x3584_w1s1p0_0_w1s1p0_0_w3584s1p3583_0 h_S_ i
  show _ - bits A0 (ix3 a b i) = _
  rw [bits_at]
  refine (congrArg (· - _) h).trans ?_
  rw [← List.sum_toFinset _ (List.nodup_range)]
  have e : (List.range (i.val + 1)).toFinset = Finset.range (i.val + 1) := by ext; simp
  rw [e, show (∑ j ∈ Finset.range (i.val + 1), bit (words A0 (tok a b)) j) = rank (words A0 (tok a b)) (i.val + 1) from rfl, rank_succ,
    BitVec.ofNat_add]
  show BitVec.sub _ _ = _
  simp

/-- The counts of the tokens before `k`, as a natural sum. -/
theorem start_eq (k : ℕ) : start A2 k
    = BitVec.ofNat 32 ((List.range k).map fun q => if h : q < 1920 then (Spec.count A2 ⟨q, h⟩).toNat else 0).sum := by
  induction k with
  | zero => rfl
  | succ k ih =>
    rw [List.range_succ, List.map_append, List.sum_append, BitVec.ofNat_add, ← ih]
    show start A2 k + _ = _
    congr 1
    by_cases h : k < 1920 <;> simp [h]

theorem starts_at (a : Fin 3) (b : Fin 640) : starts A2 (ix2 a b) = start A2 (tok a b).val := by
  have hc : ∀ t : Fin 1920, (shapeCast S1920 A2 shapeCasts_S3x640_S1920) (ix1 t)
      = BitVec.ofNat 32 (if h : t.val < 1920 then (Spec.count A2 ⟨t.val, h⟩).toNat else 0) := fun t => by
    rw [dif_pos t.isLt, BitVec.ofNat_toNat, BitVec.setWidth_eq]
    pointwise
    rfl
  have h := Routing.cumsum1 (N := 1920) (Nm1 := 1919) rfl (shapeCast S1920 A2 shapeCasts_S3x640_S1920)
    (fun q => if h : q < 1920 then (Spec.count A2 ⟨q, h⟩).toNat else 0)
    (fun t => (congrArg _ (show ValueIdx.ix1 t = ix1 t from funext fun q => by match q with | ⟨0, _⟩ => rfl)).trans (hc t))
    (broadcastInDim S_ ![] bcast_S_S_ (constantI S_ 32 0#32)) rfl
    reduceWindows_S1920_S1920_w1920s1p1919_0 h_S_ (tok a b)
  have e : starts A2 (ix2 a b) = (subi (Host.reduceWindow IntOp.addi ![1920] ![1] ![1919] ![0] (shapeCast S1920 A2 shapeCasts_S3x640_S1920)
      (broadcastInDim S_ ![] bcast_S_S_ (constantI S_ 32 0#32)) reduceWindows_S1920_S1920_w1920s1p1919_0 h_S_)
      (shapeCast S1920 A2 shapeCasts_S3x640_S1920)) (ix1 (tok a b)) := by
    unfold starts
    generalize (subi (Host.reduceWindow IntOp.addi ![1920] ![1] ![1919] ![0] (shapeCast S1920 A2 shapeCasts_S3x640_S1920)
      (broadcastInDim S_ ![] bcast_S_S_ (constantI S_ 32 0#32)) reduceWindows_S1920_S1920_w1920s1p1919_0 h_S_)
      (shapeCast S1920 A2 shapeCasts_S3x640_S1920)) = X
    pointwise
    exact congrArg X (congrArg ix1 (Fin.ext (by show a.val * 640 + b.val = 640 * a.val + b.val; omega)))
  rw [e]
  show _ - _ = _
  rw [hc]
  refine (congrArg (· - _) ((congrArg _ (show ix1 (tok a b) = ValueIdx.ix1 (tok a b) from funext fun q => by match q with | ⟨0, _⟩ => rfl)).trans h)).trans ?_
  rw [start_eq, List.range_succ, List.map_append, List.sum_append, BitVec.ofNat_add]
  show BitVec.sub (_ + _) _ = _
  simp

/-- The position read for each column. -/
def places : IVec S3x640x3584 32 :=
  minsi (addi (broadcastInDim S3x640x3584 ![0, 1, 2] bcast_S3x640x1_S3x640x3584_0_1_2
      (broadcastInDim S3x640x1 ![0, 1] bcast_S3x640_S3x640x1_0_1 (starts A2))) (ranks A0))
    (broadcastInDim S3x640x3584 ![] bcast_S_S3x640x3584 (constantI S_ 32 1720319#32))

/-- The codes read there. -/
def picked (A1 : IVec S1720320 8) : IVec S3x640x3584 8 :=
  Host.gather gather_S1720320_S3x640x3584x1_S3x640x3584_n_0_n_n_0_3_1 A1
    (broadcastInDim S3x640x3584x1 ![0, 1, 2] bcast_S3x640x3584_S3x640x3584x1_0_1_2
      (select (cmpi .slt (places A0 A2) (broadcastInDim S3x640x3584 ![] bcast_S_S3x640x3584 (constantI S_ 32 0#32)))
        (addi (places A0 A2) (broadcastInDim S3x640x3584 ![] bcast_S_S3x640x3584 (constantI S_ 32 1720320#32)))
        (places A0 A2)))

/-- A position within the packed bytes is read there. -/
theorem place_word (w : BitVec 32) (hw : w.toNat < 1720320) :
    min (Scalar.select (IntOp.cmpi .slt (IntOp.minsi w 1720319#32) 0#32) (IntOp.addi (IntOp.minsi w 1720319#32) 1720320#32)
      (IntOp.minsi w 1720319#32)).toInt.toNat (1720320 - 1) = min w.toNat 1720319 := by
  have hm : IntOp.minsi w 1720319#32 = w := by
    unfold IntOp.minsi
    split
    · rfl
    · next h =>
      rw [BitVec.slt, decide_eq_true_eq, BitVec.toInt_eq_toNat_of_lt (by omega), BitVec.toInt_eq_toNat_of_lt (by decide)] at h
      apply BitVec.eq_of_toNat_eq
      have h2 : (1720319#32).toNat = 1720319 := rfl
      omega
  have hs : IntOp.cmpi .slt w 0#32 = 0#1 := by
    have : w.slt 0#32 = false := by
      rw [BitVec.slt, decide_eq_false_iff_not, BitVec.toInt_eq_toNat_of_lt (by omega), BitVec.toInt_eq_toNat_of_lt (by decide)]
      simp
    unfold IntOp.cmpi; simp [this]
  rw [hm, hs]
  show min w.toInt.toNat _ = _
  rw [BitVec.toInt_eq_toNat_of_lt (by omega), Int.toNat_natCast]

/-- Where the mask bit is set, the code read is the one at the column's place. -/
theorem picked_at (A1 : IVec S1720320 8) (hP : Packed A0 A2) (a : Fin 3) (b : Fin 640) (i : Fin 3584)
    (hb : bit (words A0 (tok a b)) i.val = 1) : picked A0 A2 A1 (ix3 a b i) = code A1 (place A0 A2 (tok a b) i.val) := by
  have hp := hP.place_lt (tok a b) i.val i.isLt hb
  have hw : (IntOp.addi (start A2 (tok a b).val) (BitVec.ofNat 32 (rank (words A0 (tok a b)) i.val))).toNat = place A0 A2 (tok a b) i.val := by
    have hr := rank_le (words A0 (tok a b)) i.val
    have := i.isLt
    unfold place at hp ⊢
    show (_ + _ : BitVec 32).toNat = _
    rw [BitVec.toNat_add, BitVec.toNat_ofNat]
    omega
  have hix : places A0 A2 (ix3 a b i) = IntOp.minsi (IntOp.addi (start A2 (tok a b).val) (BitVec.ofNat 32 (rank (words A0 (tok a b)) i.val))) 1720319#32 := by
    rw [← ranks_at, ← starts_at]
    pointwise [places]
  unfold picked
  refine (RunningSum.take3 _ rfl rfl rfl rfl rfl A1 _ a b i (by decide)).trans ?_
  unfold code
  refine congrArg A1 (congrArg ix1 (Fin.ext ?_))
  show min _ _ = min _ _
  rw [← hw]
  refine Eq.trans ?_ (place_word _ (by rw [hw]; exact hp))
  rw [← hix]
  generalize places A0 A2 = X
  pointwise

end Cert.ReferenceIdeal.Hand

end
-- ==== Proof.RefValue.lean ====
/-
  What the reference's two results hold: its host operations after the region read at an index, with the arrays the
  region leaves, and its contraction as the sum over the 1920 tokens.
-/
module

public import proofs.«01_k».proof.Proof.RefBits
public import Idealize.ShloMosaic.Lib.Pipeline.ValueKit

@[expose] public section

set_option maxRecDepth 16384

noncomputable section

namespace Cert.ReferenceIdeal.Hand

open Idealize.ShloMosaic Idealize.ShloMosaic.TcCoe
open Cert.ReferenceIdeal.Gen
open Cert.Ranks Cert.Spec

variable (m : (ℓ : Loc nD τ sig) → Buf (Elt Ideal) ℓ) (c : Dev nD)

/-- The six arguments, as the launch finds them. -/
abbrev A0 : IVec S3x640x112 32 := m ((c : Thread nD τ).loc main_arg0)
abbrev A1 : IVec S1720320 8 := m ((c : Thread nD τ).loc main_arg1)
abbrev A2 : IVec S3x640 32 := m ((c : Thread nD τ).loc main_arg2)
abbrev A3 : FVec Ideal S3x640 .f32 := m ((c : Thread nD τ).loc main_arg3)
abbrev A4 : FVec Ideal S3x640x18944 .fp8e5m2 := m ((c : Thread nD τ).loc main_arg4)
abbrev A5 : FVec Ideal S3x640 .f32 := m ((c : Thread nD τ).loc main_arg5)

theorem V_main_v27 : V m c main_v27 = picked (A0 m c) (A2 m c) (A1 m c) := by
  show StableHlo.after _ _ _ = _
  simp only [hostOps0, hostOps0_1, hostOps0_2, hostOps0_3, hostOps0_4, List.flatten_cons, List.flatten_nil, List.append_nil, List.cons_append,
      List.nil_append]
  entry_read
  simp -implicitDefEqProofs only [StableHlo.TRef.toBuf, StableHlo.TRef.ofBuf, cast_cast, cast_eq]
  unfold picked places starts ranks bits
  rfl

theorem V_main_v9 : V m c main_v9 = bits (A0 m c) := by
  show StableHlo.after _ _ _ = _
  simp only [hostOps0, hostOps0_1, hostOps0_2, hostOps0_3, hostOps0_4, List.flatten_cons, List.flatten_nil, List.append_nil, List.cons_append,
      List.nil_append]
  entry_read
  rfl

theorem pay1_at (Z : Vec Ideal S3x640x3584 .i8) (y : S3x640x3584.Idx) : k0_pay1 Z y = Ideal.ofBits .fp8e4m3 (Z y) := by
  rw [eq_ix3 y]
  pointwise [k0_pay1]

/-- The region leaves the numbers the picked codes denote, -/
theorem codes_final : (dats m 0 c).arrAt 2 cfg0.N = fun y => Ideal.ofBits .fp8e4m3 (picked (A0 m c) (A2 m c) (A1 m c) y) := by
  refine (dats m 0 c).arrAt_eq_of_covers 2 _ (by decide +kernel) fun t hf y => ?_
  rw [after0_2]
  unfold out0_2
  rw [View.canon_cons_unit_zero (by funext a; fin_cases a <;> rfl), View.ld_unit_zero (by funext a; fin_cases a <;> rfl)]
  unfold iblk
  rw [show V m c (Pipeline.arrRef spec0 0) = picked (A0 m c) (A2 m c) (A1 m c) from V_main_v27 m c]
  generalize picked (A0 m c) (A2 m c) (A1 m c) = X
  blk_simp
  refine (pay1_at _ y).trans ?_
  rfl

/-- and the output gradient as it was. -/
theorem grads_final : (dats m 0 c).arrAt 3 cfg0.N = A4 m c := by
  refine (dats m 0 c).arrAt_eq_of_covers 3 _ (by decide +kernel) fun t hf y => ?_
  rw [after0_3]
  unfold out0_3
  rw [View.canon_cons_unit_zero (by funext a; fin_cases a <;> rfl), View.ld_unit_zero (by funext a; fin_cases a <;> rfl)]
  unfold iblk
  rw [show V m c (Pipeline.arrRef spec0 1) = A4 m c from V_main_arg4 m c]
  generalize A4 m c = X
  blk_simp
  rfl

/-- The recovered activations: decoded where the mask bit is set, zero elsewhere, times the token's scale. -/
def recovered (B : IVec S3x640x3584 32) (D : FVec Ideal S3x640x3584 .bf16) (X3 : FVec Ideal S3x640 .f32) : FVec Ideal S3x640x3584 .bf16 :=
  mulf
    (select (cmpi .eq B (broadcastInDim S3x640x3584 ![] bcast_S_S3x640x3584 (constantI S_ 32 1#32))) D
      (broadcastInDim S3x640x3584 ![] bcast_S_S3x640x3584 (constant S_ .bf16 0#16)))
    (broadcastInDim S3x640x3584 ![0, 1, 2] bcast_S3x640x1_S3x640x3584_0_1_2
      (truncf .bf16 (broadcastInDim S3x640x1 ![0, 1] bcast_S3x640_S3x640x1_0_1 X3) bitsLt_bf16_f32))

/-- The output gradient times the token's scale. -/
def scaled (G : FVec Ideal S3x640x18944 .bf16) (X5 : FVec Ideal S3x640 .f32) : FVec Ideal S3x640x18944 .bf16 :=
  mulf G
    (broadcastInDim S3x640x18944 ![0, 1, 2] bcast_S3x640x1_S3x640x18944_0_1_2
      (truncf .bf16 (broadcastInDim S3x640x1 ![0, 1] bcast_S3x640_S3x640x1_0_1 X5) bitsLt_bf16_f32))

/-- The contents of the buffers when the region has run. -/
abbrev W : Valuation τ sig (Elt Ideal) := Pipeline.withArrays (cfgs 0).spec c (V0 m c) (fun w => (dats m 0 c).arrAt w (cfgs 0).N)

theorem W_v28_0 : W m c (Proc.devRef .tc main_v28_0) = fun y => Ideal.ofBits .fp8e4m3 (picked (A0 m c) (A2 m c) (A1 m c) y) :=
  (Pipeline.withArrays_arr spec0 launch0.win.arr_inj c (V0 m c) _ 2).trans (codes_final m c)
theorem W_v28_1 : W m c (Proc.devRef .tc main_v28_1) = A4 m c :=
  (Pipeline.withArrays_arr spec0 launch0.win.arr_inj c (V0 m c) _ 3).trans (grads_final m c)
theorem W_v9 : W m c (Proc.devRef .tc main_v9) = bits (A0 m c) :=
  (Pipeline.withArrays_of_ne _ c (V0 m c) _ main_v9 (by exact (by decide : ∀ w, Pipeline.arrRef spec0 w ≠ main_v9))).trans (V_main_v9 m c)
theorem W_arg3 : W m c (Proc.devRef .tc main_arg3) = A3 m c :=
  (Pipeline.withArrays_of_ne _ c (V0 m c) _ main_arg3 (by exact (by decide : ∀ w, Pipeline.arrRef spec0 w ≠ main_arg3))).trans (V_main_arg3 m c)
theorem W_arg5 : W m c (Proc.devRef .tc main_arg5) = A5 m c :=
  (Pipeline.withArrays_of_ne _ c (V0 m c) _ main_arg5 (by exact (by decide : ∀ w, Pipeline.arrRef spec0 w ≠ main_arg5))).trans (V_main_arg5 m c)

/-- The recovered activations of the run, and its scaled gradient. -/
abbrev rec : FVec Ideal S3x640x3584 .bf16 :=
  recovered (bits (A0 m c)) (fun y => Ideal.ofBits .fp8e4m3 (picked (A0 m c) (A2 m c) (A1 m c) y)) (A3 m c)
abbrev grad : FVec Ideal S3x640x18944 .bf16 := scaled (A4 m c) (A5 m c)

theorem W_main_v41 : Pipeline.afterTail₀ cfgs (dats m) 0 (V0 m) [hostOps1, hostOps1_1, hostOps1_2] c main_v41
    = shapeCast S1920x3584 (rec m c) shapeCasts_S3x640x3584_S1920x3584 := by
  show StableHlo.after _ (W m c) _ = _
  rw [rec, ← W_v28_0, ← W_v9, ← W_arg3]
  generalize W m c = W
  simp only [hostOps1, hostOps1_1, hostOps1_2, List.flatten_cons, List.flatten_nil, List.append_nil, List.cons_append,
      List.nil_append]
  entry_read
  simp -implicitDefEqProofs only [StableHlo.TRef.toBuf, StableHlo.TRef.ofBuf, cast_cast, cast_eq]
  unfold recovered
  rfl

theorem W_main_v40 : Pipeline.afterTail₀ cfgs (dats m) 0 (V0 m) [hostOps1, hostOps1_1, hostOps1_2] c main_v40
    = Host.dotGeneral dot_S3x640x3584_S3x640x18944_S3584x18944_01_01_2_2_n_n none (rec m c) (grad m c) := by
  show StableHlo.after _ (W m c) _ = _
  rw [rec, grad, ← W_v28_0, ← W_v28_1, ← W_v9, ← W_arg3, ← W_arg5]
  generalize W m c = W
  simp only [hostOps1, hostOps1_1, hostOps1_2, List.flatten_cons, List.flatten_nil, List.append_nil, List.cons_append,
      List.nil_append]
  entry_read
  simp -implicitDefEqProofs only [StableHlo.TRef.toBuf, StableHlo.TRef.ofBuf, cast_cast, cast_eq]
  unfold recovered scaled
  rfl

end Cert.ReferenceIdeal.Hand

end
-- ==== Proof.RefResults.lean ====
/-
  The reference's results as numbers: the recovered activations and the weight gradient of `Spec`, where the packing is
  consistent.
-/
module

public import proofs.«01_k».proof.Proof.RefValue

@[expose] public section

set_option maxRecDepth 16384

noncomputable section

namespace Cert.ReferenceIdeal.Hand

open Idealize.ShloMosaic Idealize.ShloMosaic.TcCoe
open Cert.ReferenceIdeal.Gen
open Cert.Ranks Cert.Spec

variable (m : (ℓ : Loc nD τ sig) → Buf (Elt Ideal) ℓ) (c : Dev nD)

/-- One recovered activation. -/
theorem rec_at (hP : Packed (A0 m c) (A2 m c)) (a : Fin 3) (b : Fin 640) (i : Fin 3584) :
    rec m c (ix3 a b i) = value (A0 m c) (A1 m c) (A2 m c) (tok a b) i.val * scale (A3 m c) (tok a b) := by
  have hs : scale (A3 m c) (tok a b) = A3 m c (ix2 a b) := by unfold scale; rw [plane_tok, row_tok]
  have hv : (Scalar.select (IntOp.cmpi .eq (bits (A0 m c) (ix3 a b i)) 1#32)
      (Ideal.ofBits .fp8e4m3 (picked (A0 m c) (A2 m c) (A1 m c) (ix3 a b i))) (0 : EReal)) = value (A0 m c) (A1 m c) (A2 m c) (tok a b) i.val := by
    rw [bits_at]
    unfold value
    have hle := bit_le (words (A0 m c) (tok a b)) i.val
    by_cases hb : bit (words (A0 m c) (tok a b)) i.val = 1
    · rw [if_pos hb, picked_at _ _ _ hP a b i hb, hb]
      rfl
    · rw [if_neg hb, show bit (words (A0 m c) (tok a b)) i.val = 0 by omega]
      rfl
  rw [hs, ← hv]
  unfold rec recovered
  generalize bits (A0 m c) = B
  generalize picked (A0 m c) (A2 m c) (A1 m c) = C
  pointwise

/-- One scaled gradient entry. -/
theorem grad_at (a : Fin 3) (b : Fin 640) (o : Fin 18944) :
    grad m c (ix3 a b o) = A4 m c (ix3 a b o) * scale (A5 m c) (tok a b) := by
  have hs : scale (A5 m c) (tok a b) = A5 m c (ix2 a b) := by unfold scale; rw [plane_tok, row_tok]
  rw [hs]
  unfold grad scaled
  pointwise

/-- One term of the weight gradient. -/
theorem term_at (hP : Packed (A0 m c) (A2 m c)) (a : Fin 3) (b : Fin 640) (i : Fin 3584) (o : Fin 18944) :
    rec m c (ix3 a b i) * grad m c (ix3 a b o)
      = value (A0 m c) (A1 m c) (A2 m c) (tok a b) i.val * scale (A3 m c) (tok a b)
        * (A4 m c (ix3 (plane (tok a b)) (row (tok a b)) o) * scale (A5 m c) (tok a b)) := by
  rw [rec_at m c hP, grad_at, plane_tok, row_tok]

/-- A sum over planes and rows is the sum over tokens. -/
theorem sum_tokens (f : Fin 1920 → EReal) : ∑ a : Fin 3, ∑ b : Fin 640, f (tok a b) = ∑ t : Fin 1920, f t := by
  rw [← Fintype.sum_prod_type' (f := fun a b => f (tok a b))]
  refine Fintype.sum_equiv ⟨fun p : Fin 3 × Fin 640 => tok p.1 p.2, fun t => (plane t, row t), fun p => ?_, fun t => ?_⟩ _ _ (fun _ => rfl)
  · exact Prod.ext (plane_tok _ _) (row_tok _ _)
  · exact Fin.ext (by show 640 * (t.val / 640) + t.val % 640 = t.val; omega)

theorem tokens_eq (hP : Packed (A0 m c) (A2 m c)) :
    (shapeCast S1920x3584 (rec m c) shapeCasts_S3x640x3584_S1920x3584 : FVec Ideal S1920x3584 .bf16)
      = tokens (A0 m c) (A1 m c) (A2 m c) (A3 m c) := by
  funext y
  have ht : tok (plane (y 0)) (row (y 0)) = y 0 := Fin.ext (by show 640 * ((y 0).val / 640) + (y 0).val % 640 = (y 0).val; omega)
  have h := rec_at m c hP (plane (y 0)) (row (y 0)) (y 1)
  rw [ht] at h
  unfold tokens
  rw [← h]
  generalize rec m c = X
  pointwise

theorem weights_eq (hP : Packed (A0 m c) (A2 m c)) :
    (Host.dotGeneral dot_S3x640x3584_S3x640x18944_S3584x18944_01_01_2_2_n_n none (rec m c) (grad m c) : FVec Ideal S3584x18944 .f32)
      = weights (A0 m c) (A1 m c) (A2 m c) (A3 m c) (A4 m c) (A5 m c) := by
  funext y
  have h : ∀ (X : FVec Ideal S3x640x3584 .bf16) (Y : FVec Ideal S3x640x18944 .bf16), (Host.dotGeneral dot_S3x640x3584_S3x640x18944_S3584x18944_01_01_2_2_n_n none X Y : FVec Ideal S3584x18944 .f32) y
      = ∑ a : Fin 3, ∑ b : Fin 640, X (ix3 a b (y 0)) * Y (ix3 a b (y 1)) := fun X Y => by
    pointwise
  refine (h _ _).trans ?_
  unfold weights
  rw [← sum_tokens]
  refine Finset.sum_congr rfl fun a _ => Finset.sum_congr rfl fun b _ => ?_
  exact term_at m c hP a b (y 0) (y 1)

end Cert.ReferenceIdeal.Hand

end
-- ==== Proof.Precondition.lean ====
/-
  What the precondition says of the arguments: the packing is consistent.
-/
module

public import proofs.«01_k».proof.Defs
public import proofs.«01_k».proof.Proof.RefBits
public import proofs.«01_k».proof.Proof.Gen.Pre_well_packed
public import Idealize.ShloMosaic.Lib.StableHlo.Predicate

@[expose] public section

set_option maxRecDepth 16384

noncomputable section

namespace Cert.Precondition

open Idealize.ShloMosaic
open Cert.Ranks Cert.Spec
open Cert.ReferenceIdeal.Hand (bits ranks tok bits_at ranks_at)

open Cert.Pre_well_packed in
/-- The predicate's first result, over the bits and ranks as the reference computes them. -/
theorem fn_fst (A0 : IVec S3x640x112 32) (A1 : IVec S1720320 8) (A2 : IVec S3x640 32) (A3 : FVec Ideal S3x640 .f32)
    (A4 : FVec Ideal S3x640x18944 .fp8e5m2) (A5 : FVec Ideal S3x640 .f32) (y : S3x640x3584.Idx) :
    (fn (F := Ideal) A0 A1 A2 A3 A4 A5).1 y = IntOp.ori (IntOp.cmpi .eq (bits A0 y) 0#32)
      (IntOp.cmpi .slt (ranks A0 y) (A2 (ix2 (y 0) (y 1)))) := by
  have e : (broadcastInDim S3x640x3584 ![0, 1, 2] Facts.bcast_S3x640x1_S3x640x3584_0_1_2
      (broadcastInDim S3x640x1 ![0, 1] Facts.bcast_S3x640_S3x640x1_0_1 A2)) y = A2 (ix2 (y 0) (y 1)) := by pointwise
  rw [← e]
  unfold fn fn_part1 fn_cumsum fn_cumsum_0 ranks bits
  rfl

open Cert.Pre_well_packed in
/-- Its second result. -/
theorem fn_snd (A0 : IVec S3x640x112 32) (A1 : IVec S1720320 8) (A2 : IVec S3x640 32) (A3 : FVec Ideal S3x640 .f32)
    (A4 : FVec Ideal S3x640x18944 .fp8e5m2) (A5 : FVec Ideal S3x640 .f32) (y : S3x640.Idx) :
    (fn (F := Ideal) A0 A1 A2 A3 A4 A5).2 y = IntOp.andi (IntOp.cmpi .sge (A2 y) 0#32) (IntOp.cmpi .sle (A2 y) 896#32) := by
  unfold fn fn_part1
  rfl

/-- A word that is at least 0 and at most 896 as a signed number is at most 896. -/
theorem counted_word (w : BitVec 32) (h : IntOp.andi (IntOp.cmpi .sge w 0#32) (IntOp.cmpi .sle w 896#32) = 1#1) : w.toNat ≤ 896 := by
  have h1 : IntOp.cmpi .sge w 0#32 = 1#1 ∧ IntOp.cmpi .sle w 896#32 = 1#1 := by
    generalize IntOp.cmpi .sge w 0#32 = p at h ⊢
    generalize IntOp.cmpi .sle w 896#32 = q at h ⊢
    revert p q; decide
  have h2 : (0#32).sle w = true := by
    have := h1.1; unfold IntOp.cmpi at this
    cases hh : (0#32).sle w <;> simp [hh] at this ⊢
  have h3 : w.sle 896#32 = true := by
    have := h1.2; unfold IntOp.cmpi at this
    cases hh : w.sle 896#32 <;> simp [hh] at this ⊢
  rw [BitVec.sle, decide_eq_true_eq] at h2 h3
  have e0 : (0#32).toInt = 0 := by decide
  have e8 : (896#32).toInt = 896 := by decide
  rw [e0] at h2
  rw [e8] at h3
  have := w.isLt
  rw [BitVec.toInt_eq_toNat_cond] at h2 h3
  split at h3 <;> omega

/-- Where the predicate is all ones the packing is consistent. -/
theorem packed (A0 : IVec Cert.ReferenceIdeal.S3x640x112 32) (A1 : IVec Cert.ReferenceIdeal.S1720320 8) (A2 : IVec Cert.ReferenceIdeal.S3x640 32)
    (A3 : FVec Ideal Cert.ReferenceIdeal.S3x640 .f32) (A4 : FVec Ideal Cert.ReferenceIdeal.S3x640x18944 .fp8e5m2)
    (A5 : FVec Ideal Cert.ReferenceIdeal.S3x640 .f32)
    (h1 : (Cert.Pre_well_packed.fn (F := Ideal) A0 A1 A2 A3 A4 A5).1 = fun _ => 1#1)
    (h2 : (Cert.Pre_well_packed.fn (F := Ideal) A0 A1 A2 A3 A4 A5).2 = fun _ => 1#1) : Packed A0 A2 := by
  have hc : ∀ t, (Spec.count A2 t).toNat ≤ 896 := fun t =>
    counted_word _ ((fn_snd A0 A1 A2 A3 A4 A5 (ix2 (plane t) (row t))).symm.trans (congrFun h2 _))
  refine ⟨hc, fun t i hi hb => ?_⟩
  have ht : tok (plane t) (row t) = t := Fin.ext (by show 640 * (t.val / 640) + t.val % 640 = t.val; omega)
  have h := (fn_fst A0 A1 A2 A3 A4 A5 (ix3 (plane t) (row t) (⟨i, hi⟩ : Fin 3584))).symm.trans (congrFun h1 _)
  rw [bits_at, ranks_at, ht] at h
  change IntOp.ori (IntOp.cmpi .eq (BitVec.ofNat 32 (bit (words A0 t) i)) 0#32)
    (IntOp.cmpi .slt (BitVec.ofNat 32 (rank (words A0 t) i)) (Spec.count A2 t)) = 1#1 at h
  have hr := rank_le (words A0 t) i
  have hn := hc t
  rw [hb] at h
  have h0 : IntOp.cmpi .eq (BitVec.ofNat 32 1) 0#32 = 0#1 := by decide
  rw [h0] at h
  have h' : IntOp.cmpi .slt (BitVec.ofNat 32 (rank (words A0 t) i)) (Spec.count A2 t) = 1#1 := by
    generalize IntOp.cmpi .slt (BitVec.ofNat 32 (rank (words A0 t) i)) (Spec.count A2 t) = q at h ⊢
    revert q; decide
  have e : (BitVec.ofNat 32 (rank (words A0 t) i)).toNat = rank (words A0 t) i := by rw [BitVec.toNat_ofNat]; omega
  have := (StableHlo.Predicate.slt_iff_toNat (by rw [e]; omega) (by omega)).1 h'
  rwa [e] at this

end Cert.Precondition

end
-- ==== Proof.Values.lean ====
/-
  The two runs by value, and the value claim: over the extended reals, where the packing is consistent, the kernel and the
  reference end with the same weight gradient and the same recovered activations.
-/
module

public import proofs.«01_k».proof.Defs
public import proofs.«01_k».proof.Proof.KernelArrays
public import proofs.«01_k».proof.Proof.RefResults
public import proofs.«01_k».proof.Proof.Precondition
public import proofs.«01_k».proof.Proof.Gen.KernelIdeal
public import proofs.«01_k».proof.Proof.Gen.ReferenceIdeal
public import proofs.«01_k».proof.Proof.Gen.Pre_well_packed
public import Idealize.ShloMosaic.Adequacy
public import Idealize.ShloMosaic.Init

@[expose] public section

set_option maxRecDepth 16384

noncomputable section

namespace Cert.KernelIdeal.Hand

open Cert.KernelIdeal Cert.KernelIdeal.Gen
open Idealize.ShloMosaic Idealize.ShloMosaic.TcCoe Idealize.SL.Sem
open Cert.Spec

/-- The kernel's run from consistently packed arguments: its two results. -/
theorem run_value (m : (ℓ : Loc nD τ sig) → Buf (Elt Ideal) ℓ) (g : Dev nD → PrngReg) (hP : ∀ c, Packed (A0 m c) (A2 m c)) :
    θ_run (defs (F := Ideal)) (onTc (τ := τ) (main (F := Ideal))) ⟨m, fun _ => 0, g⟩ (fun r => ∀ c : Dev nD,
      r.2.mem ((c.tc : Thread nD τ).loc main_v9_0) = weights (A0 m c) (A1 m c) (A2 m c) (A3 m c) (A4 m c) (A5 m c)
      ∧ r.2.mem ((c.tc : Thread nD τ).loc main_v9_1) = tokens (A0 m c) (A1 m c) (A2 m c) (A3 m c)) :=
  (θ_run defs _ _).mono (fun _ h c => ⟨((h.1 c).1 5).trans (weights_final m c (hP c)), ((h.1 c).1 6).trans (tokens_final m c (hP c))⟩)
    (run_main m g)

end Cert.KernelIdeal.Hand

namespace Cert.ReferenceIdeal.Hand

open Cert.ReferenceIdeal Cert.ReferenceIdeal.Gen
open Idealize.ShloMosaic Idealize.ShloMosaic.TcCoe Idealize.SL.Sem
open Cert.Spec

/-- The reference's run from consistently packed arguments: its two results. -/
theorem run_value (m : (ℓ : Loc nD τ sig) → Buf (Elt Ideal) ℓ) (g : Dev nD → PrngReg) (hP : ∀ c, Packed (A0 m c) (A2 m c)) :
    θ_run (defs (F := Ideal)) (onTc (τ := τ) (main (F := Ideal))) ⟨m, fun _ => 0, g⟩ (fun r => ∀ c : Dev nD,
      r.2.mem ((c.tc : Thread nD τ).loc main_v40) = weights (A0 m c) (A1 m c) (A2 m c) (A3 m c) (A4 m c) (A5 m c)
      ∧ r.2.mem ((c.tc : Thread nD τ).loc main_v41) = tokens (A0 m c) (A1 m c) (A2 m c) (A3 m c)) :=
  (θ_run defs _ _).mono (fun _ h c => ⟨
      ((h c).2 main_v40 (Pipeline.mem_restRefs_of main_v40 (by decide) (by decide))).trans ((W_main_v40 m c).trans (weights_eq m c (hP c))),
      ((h c).2 main_v41 (Pipeline.mem_restRefs_of main_v41 (by decide) (by decide))).trans ((W_main_v41 m c).trans (tokens_eq m c (hP c)))⟩)
    (run_main m g)

end Cert.ReferenceIdeal.Hand

namespace Cert.Proof

open Idealize.ShloMosaic Idealize.SL.Sem
open Cert.Spec

/-- The value claim. -/
theorem algebraic : Cert.algebraic_KernelIdeal_ReferenceIdeal_pre_well_packed := by
  intro m g m' g' hpre hagree
  have hP : ∀ c, Packed (Cert.KernelIdeal.Hand.A0 m c) (Cert.KernelIdeal.Hand.A2 m c) := fun c =>
    Cert.Precondition.packed _ _ _ _ _ _ (hpre c).1 (hpre c).2
  have e0 : ∀ c, Cert.ReferenceIdeal.Hand.A0 m' c = Cert.KernelIdeal.Hand.A0 m c := fun c => (hagree c).1
  have e1 : ∀ c, Cert.ReferenceIdeal.Hand.A1 m' c = Cert.KernelIdeal.Hand.A1 m c := fun c => (hagree c).2.1
  have e2 : ∀ c, Cert.ReferenceIdeal.Hand.A2 m' c = Cert.KernelIdeal.Hand.A2 m c := fun c => (hagree c).2.2.1
  have e3 : ∀ c, Cert.ReferenceIdeal.Hand.A3 m' c = Cert.KernelIdeal.Hand.A3 m c := fun c => (hagree c).2.2.2.1
  have e4 : ∀ c, Cert.ReferenceIdeal.Hand.A4 m' c = Cert.KernelIdeal.Hand.A4 m c := fun c => (hagree c).2.2.2.2.1
  have e5 : ∀ c, Cert.ReferenceIdeal.Hand.A5 m' c = Cert.KernelIdeal.Hand.A5 m c := fun c => (hagree c).2.2.2.2.2
  have hP' : ∀ c, Packed (Cert.ReferenceIdeal.Hand.A0 m' c) (Cert.ReferenceIdeal.Hand.A2 m' c) := fun c => by
    rw [e0 c, e2 c]; exact hP c
  refine ⟨fun c => weights (Cert.KernelIdeal.Hand.A0 m c) (Cert.KernelIdeal.Hand.A1 m c) (Cert.KernelIdeal.Hand.A2 m c)
      (Cert.KernelIdeal.Hand.A3 m c) (Cert.KernelIdeal.Hand.A4 m c) (Cert.KernelIdeal.Hand.A5 m c),
    fun c => tokens (Cert.KernelIdeal.Hand.A0 m c) (Cert.KernelIdeal.Hand.A1 m c) (Cert.KernelIdeal.Hand.A2 m c)
      (Cert.KernelIdeal.Hand.A3 m c), ?_, ?_⟩
  · exact (θ_run Cert.KernelIdeal.defs _ _).mono (fun _ h c => ⟨(h.1 c).1, (h.1 c).2, h.2.1 c⟩)
      (θ_run_and (Cert.KernelIdeal.Hand.run_value m g hP) (Cert.KernelIdeal.Hand.frame m g))
  · refine (θ_run Cert.ReferenceIdeal.defs _ _).mono (fun _ h c => ⟨(h.1 c).1.trans ?_, (h.1 c).2.trans ?_, h.2 c⟩)
      (θ_run_and (Cert.ReferenceIdeal.Hand.run_value m' g' hP') (Cert.ReferenceIdeal.Gen.unchanged m' g'))
    · rw [e0 c, e1 c, e2 c, e3 c, e4 c, e5 c]
    · rw [e0 c, e1 c, e2 c, e3 c]

end Cert.Proof

end
-- ==== Proof.lean ====
/-
  The certificate: the three frames (both programs and the reference run without fault, leave their arguments as they
  were and every semaphore at zero), the ideal program as the kernel's own text, and the value claim: where the packing is
  consistent the kernel and the reference end with the same two results over the extended reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_well_packed
public import proofs.«01_k».proof.Proof.Gen.ReferenceIdeal.Frame
public import proofs.«01_k».proof.Proof.Launch
public import proofs.«01_k».proof.Proof.Values
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, Cert.Pre_well_packed.Gen.facts,
    fun m g _ => Cert.Kernel.Hand.frame m g,
    fun m g _ => Cert.KernelIdeal.Hand.frame m g,
    fun m g _ => Cert.KernelIdeal.Hand.frame m g,
    fun m g _ => Cert.ReferenceIdeal.Gen.frame m g,
    fun m g _ => Cert.ReferenceIdeal.Gen.frame m g,
    trivial, algebraic⟩

end Cert.Proof

end
